-- ==== Defs.lean ====
def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_mix_norm_finite [hPre_mix_norm_finite : Cert.Pre_mix_norm_finite.Facts] (m : (ℓ : Loc Cert.PoolIdeal.nD Cert.PoolIdeal.τ Cert.PoolIdeal.sig) → Buf (Elt Ideal) ℓ) : Prop :=
  ∀ c : Dev Cert.PoolIdeal.nD,
    (Cert.Pre_mix_norm_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_mix_norm_finite [hPre_mix_norm_finite : Cert.Pre_mix_norm_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_mix_norm_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9)
      ∧ r.2.mem ((c.tc : Thread Cert.Lru.nD Cert.Lru.τ).loc Cert.Lru.main_arg10) = m ((c.tc : Thread Cert.Lru.nD Cert.Lru.τ).loc Cert.Lru.main_arg10))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9)
      ∧ r.2.mem ((c.tc : Thread Cert.LruRefIdeal.nD Cert.LruRefIdeal.τ).loc Cert.LruRefIdeal.main_arg10) = m ((c.tc : Thread Cert.LruRefIdeal.nD Cert.LruRefIdeal.τ).loc Cert.LruRefIdeal.main_arg10))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolIdeal_pre_mix_norm_finite [hPoolIdeal : Cert.PoolIdeal.Facts] [hPre_mix_norm_finite : Cert.Pre_mix_norm_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_mix_norm_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_PoolRefIdeal_pre_mix_norm_finite [hPoolRefIdeal : Cert.PoolRefIdeal.Facts] [hPre_mix_norm_finite : Cert.Pre_mix_norm_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_mix_norm_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7)
      ∧ r.2.mem ((c.tc : Thread Cert.Ple.nD Cert.Ple.τ).loc Cert.Ple.main_arg8) = m ((c.tc : Thread Cert.Ple.nD Cert.Ple.τ).loc Cert.Ple.main_arg8)
      ∧ r.2.mem ((c.tc : Thread Cert.Ple.nD Cert.Ple.τ).loc Cert.Ple.main_arg9) = m ((c.tc : Thread Cert.Ple.nD Cert.Ple.τ).loc Cert.Ple.main_arg9))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7)
      ∧ r.2.mem ((c.tc : Thread Cert.PleIdeal.nD Cert.PleIdeal.τ).loc Cert.PleIdeal.main_arg8) = m ((c.tc : Thread Cert.PleIdeal.nD Cert.PleIdeal.τ).loc Cert.PleIdeal.main_arg8)
      ∧ r.2.mem ((c.tc : Thread Cert.PleIdeal.nD Cert.PleIdeal.τ).loc Cert.PleIdeal.main_arg9) = m ((c.tc : Thread Cert.PleIdeal.nD Cert.PleIdeal.τ).loc Cert.PleIdeal.main_arg9))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7)
      ∧ r.2.mem ((c.tc : Thread Cert.PleRefIdeal.nD Cert.PleRefIdeal.τ).loc Cert.PleRefIdeal.main_arg8) = m ((c.tc : Thread Cert.PleRefIdeal.nD Cert.PleRefIdeal.τ).loc Cert.PleRefIdeal.main_arg8)
      ∧ r.2.mem ((c.tc : Thread Cert.PleRefIdeal.nD Cert.PleRefIdeal.τ).loc Cert.PleRefIdeal.main_arg9) = m ((c.tc : Thread Cert.PleRefIdeal.nD Cert.PleRefIdeal.τ).loc Cert.PleRefIdeal.main_arg9))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9))
      ∧ r.2.sem = fun _ => 0)

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)
      ∧ m' ((c.tc : Thread Cert.LruRefIdeal.nD Cert.LruRefIdeal.τ).loc Cert.LruRefIdeal.main_arg10) = m ((c.tc : Thread Cert.LruIdeal.nD Cert.LruIdeal.τ).loc Cert.LruIdeal.main_arg10)) →
    ∃ (v0 : (c : Dev Cert.LruIdeal.nD) → Buf (Elt Ideal) ((c.tc : Thread Cert.LruIdeal.nD Cert.LruIdeal.τ).loc Cert.LruIdeal.main_v34)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v34) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
          ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v109) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9)
          ∧ r.2.mem ((c.tc : Thread Cert.LruRefIdeal.nD Cert.LruRefIdeal.τ).loc Cert.LruRefIdeal.main_arg10) = m' ((c.tc : Thread Cert.LruRefIdeal.nD Cert.LruRefIdeal.τ).loc Cert.LruRefIdeal.main_arg10))

def preserves_Pool_PoolIdeal : Prop :=
  True

def algebraic_PoolIdeal_PoolRefIdeal_pre_mix_norm_finite [hPoolIdeal : Cert.PoolIdeal.Facts] [hPoolRefIdeal : Cert.PoolRefIdeal.Facts] [hPre_mix_norm_finite : Cert.Pre_mix_norm_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_mix_norm_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)) →
    ∃ (v0 : (c : Dev Cert.PoolIdeal.nD) → Buf (Elt Ideal) ((c.tc : Thread Cert.PoolIdeal.nD Cert.PoolIdeal.τ).loc Cert.PoolIdeal.main_v5)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v5) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v86) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)
      ∧ m' ((c.tc : Thread Cert.PleRefIdeal.nD Cert.PleRefIdeal.τ).loc Cert.PleRefIdeal.main_arg8) = m ((c.tc : Thread Cert.PleIdeal.nD Cert.PleIdeal.τ).loc Cert.PleIdeal.main_arg8)
      ∧ m' ((c.tc : Thread Cert.PleRefIdeal.nD Cert.PleRefIdeal.τ).loc Cert.PleRefIdeal.main_arg9) = m ((c.tc : Thread Cert.PleIdeal.nD Cert.PleIdeal.τ).loc Cert.PleIdeal.main_arg9)) →
    ∃ (v0 : (c : Dev Cert.PleIdeal.nD) → Buf (Elt Ideal) ((c.tc : Thread Cert.PleIdeal.nD Cert.PleIdeal.τ).loc Cert.PleIdeal.main_v10)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v10) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7)
          ∧ r.2.mem ((c.tc : Thread Cert.PleIdeal.nD Cert.PleIdeal.τ).loc Cert.PleIdeal.main_arg8) = m ((c.tc : Thread Cert.PleIdeal.nD Cert.PleIdeal.τ).loc Cert.PleIdeal.main_arg8)
          ∧ r.2.mem ((c.tc : Thread Cert.PleIdeal.nD Cert.PleIdeal.τ).loc Cert.PleIdeal.main_arg9) = m ((c.tc : Thread Cert.PleIdeal.nD Cert.PleIdeal.τ).loc Cert.PleIdeal.main_arg9))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v44) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7)
          ∧ r.2.mem ((c.tc : Thread Cert.PleRefIdeal.nD Cert.PleRefIdeal.τ).loc Cert.PleRefIdeal.main_arg8) = m' ((c.tc : Thread Cert.PleRefIdeal.nD Cert.PleRefIdeal.τ).loc Cert.PleRefIdeal.main_arg8)
          ∧ r.2.mem ((c.tc : Thread Cert.PleRefIdeal.nD Cert.PleRefIdeal.τ).loc Cert.PleRefIdeal.main_arg9) = m' ((c.tc : Thread Cert.PleRefIdeal.nD Cert.PleRefIdeal.τ).loc Cert.PleRefIdeal.main_arg9))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)
      ∧ m' ((c.tc : Thread Cert.LastRefIdeal.nD Cert.LastRefIdeal.τ).loc Cert.LastRefIdeal.main_arg9) = m ((c.tc : Thread Cert.LastIdeal.nD Cert.LastIdeal.τ).loc Cert.LastIdeal.main_arg9)) →
    ∃ (v0 : (c : Dev Cert.LastIdeal.nD) → Buf (Elt Ideal) ((c.tc : Thread Cert.LastIdeal.nD Cert.LastIdeal.τ).loc Cert.LastIdeal.main_v10)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v10) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v57) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8)
          ∧ r.2.mem ((c.tc : Thread Cert.LastRefIdeal.nD Cert.LastRefIdeal.τ).loc Cert.LastRefIdeal.main_arg9) = m' ((c.tc : Thread Cert.LastRefIdeal.nD Cert.LastRefIdeal.τ).loc Cert.LastRefIdeal.main_arg9))

def Claim : Prop :=
  ∃ (hLru : Cert.Lru.Facts) (hLruIdeal : Cert.LruIdeal.Facts) (hLruRefIdeal : Cert.LruRefIdeal.Facts) (hPool : Cert.Pool.Facts) (hPoolIdeal : Cert.PoolIdeal.Facts) (hPoolRefIdeal : Cert.PoolRefIdeal.Facts) (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hLast : Cert.Last.Facts) (hLastIdeal : Cert.LastIdeal.Facts) (hLastRefIdeal : Cert.LastRefIdeal.Facts) (hPre_mix_norm_finite : Cert.Pre_mix_norm_finite.Facts),
    quiescent_Lru (hLru := hLru)
    ∧ quiescent_LruIdeal (hLruIdeal := hLruIdeal)
    ∧ quiescent_LruRefIdeal (hLruRefIdeal := hLruRefIdeal)
    ∧ quiescent_Pool (hPool := hPool)
    ∧ quiescent_PoolIdeal (hPoolIdeal := hPoolIdeal)
    ∧ quiescent_PoolIdeal_pre_mix_norm_finite (hPoolIdeal := hPoolIdeal) (hPre_mix_norm_finite := hPre_mix_norm_finite)
    ∧ quiescent_PoolRefIdeal (hPoolRefIdeal := hPoolRefIdeal)
    ∧ quiescent_PoolRefIdeal_pre_mix_norm_finite (hPoolRefIdeal := hPoolRefIdeal) (hPre_mix_norm_finite := hPre_mix_norm_finite)
    ∧ quiescent_Ffn (hFfn := hFfn)
    ∧ quiescent_FfnIdeal (hFfnIdeal := hFfnIdeal)
    ∧ quiescent_FfnRefIdeal (hFfnRefIdeal := hFfnRefIdeal)
    ∧ quiescent_Ple (hPle := hPle)
    ∧ quiescent_PleIdeal (hPleIdeal := hPleIdeal)
    ∧ quiescent_PleRefIdeal (hPleRefIdeal := hPleRefIdeal)
    ∧ quiescent_Last (hLast := hLast)
    ∧ quiescent_LastIdeal (hLastIdeal := hLastIdeal)
    ∧ quiescent_LastRefIdeal (hLastRefIdeal := hLastRefIdeal)
    ∧ preserves_Lru_LruIdeal
    ∧ algebraic_LruIdeal_LruRefIdeal (hLruIdeal := hLruIdeal) (hLruRefIdeal := hLruRefIdeal)
    ∧ preserves_Pool_PoolIdeal
    ∧ algebraic_PoolIdeal_PoolRefIdeal_pre_mix_norm_finite (hPoolIdeal := hPoolIdeal) (hPoolRefIdeal := hPoolRefIdeal) (hPre_mix_norm_finite := hPre_mix_norm_finite)
    ∧ preserves_Ffn_FfnIdeal
    ∧ algebraic_FfnIdeal_FfnRefIdeal (hFfnIdeal := hFfnIdeal) (hFfnRefIdeal := hFfnRefIdeal)
    ∧ preserves_Ple_PleIdeal
    ∧ algebraic_PleIdeal_PleRefIdeal (hPleIdeal := hPleIdeal) (hPleRefIdeal := hPleRefIdeal)
    ∧ preserves_Last_LastIdeal
    ∧ algebraic_LastIdeal_LastRefIdeal (hLastIdeal := hLastIdeal) (hLastRefIdeal := hLastRefIdeal)
-- ==== Pre_mix_norm_finite.lean ====
abbrev S2x8192x1024 : Shape := ⟨3, ![2, 8192, 1024]⟩
abbrev S1024 : Shape := ⟨1, ![1024]⟩
abbrev S4x256x256 : Shape := ⟨3, ![4, 256, 256]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S2x8192x1024 .f32) (main_arg1 : FVec F S1024 .f32) (main_arg2 : FVec F S4x256x256 .f32) (main_arg3 : FVec F S1024 .f32) (main_arg4 : FVec F S1024 .f32) : IVec S1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  main_v2
-- ==== Lru.lean ====
abbrev S2x8192x1024 : Shape := ⟨3, ![2, 8192, 1024]⟩
abbrev S1024 : Shape := ⟨1, ![1024]⟩
abbrev S1024x2560 : Shape := ⟨2, ![1024, 2560]⟩
abbrev S4x1280 : Shape := ⟨2, ![4, 1280]⟩
abbrev S1280 : Shape := ⟨1, ![1280]⟩
abbrev S16x80x80 : Shape := ⟨3, ![16, 80, 80]⟩
abbrev S1280x1024 : Shape := ⟨2, ![1280, 1024]⟩
abbrev S16384x1024 : Shape := ⟨2, ![16384, 1024]⟩
abbrev S1x1024 : Shape := ⟨2, ![1, 1024]⟩
abbrev S1x1280 : Shape := ⟨2, ![1, 1280]⟩
abbrev S16x16 : Shape := ⟨2, ![16, 16]⟩
abbrev S_ : Shape := ⟨0, ![]⟩
abbrev S16x80x1x80 : Shape := ⟨4, ![16, 80, 1, 80]⟩
abbrev S16x1x16x1 : Shape := ⟨4, ![16, 1, 16, 1]⟩
abbrev S16x80x16x80 : Shape := ⟨4, ![16, 80, 16, 80]⟩
abbrev S1280x1280 : Shape := ⟨2, ![1280, 1280]⟩
abbrev S512x1024 : Shape := ⟨2, ![512, 1024]⟩
abbrev S520x1280 : Shape := ⟨2, ![520, 1280]⟩
abbrev S512x1280 : Shape := ⟨2, ![512, 1280]⟩
abbrev S8x1280 : Shape := ⟨2, ![8, 1280]⟩
abbrev S512 : Shape := ⟨1, ![512]⟩
abbrev S512x1 : Shape := ⟨2, ![512, 1]⟩
abbrev S512x2560 : Shape := ⟨2, ![512, 2560]⟩

abbrev nBuf : Space → Nat
  | .hbm => 48
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .f32⟩
  | .hbm, ⟨3, _⟩ => ⟨S4x1280, .f32⟩
  | .hbm, ⟨4, _⟩ => ⟨S1280, .f32⟩
  | .hbm, ⟨5, _⟩ => ⟨S16x80x80, .f32⟩
  | .hbm, ⟨6, _⟩ => ⟨S1280, .f32⟩
  | .hbm, ⟨7, _⟩ => ⟨S16x80x80, .f32⟩
  | .hbm, ⟨8, _⟩ => ⟨S1280, .f32⟩
  | .hbm, ⟨9, _⟩ => ⟨S1280, .f32⟩
  | .hbm, ⟨10, _⟩ => ⟨S1280x1024, .f32⟩
  | .hbm, ⟨11, _⟩ => ⟨S16384x1024, .f32⟩
  | .hbm, ⟨12, _⟩ => ⟨S1x1024, .f32⟩
  | .hbm, ⟨13, _⟩ => ⟨S1024x2560, .bf16⟩
  | .hbm, ⟨14, _⟩ => ⟨S1x1280, .f32⟩
  | .hbm, ⟨15, _⟩ => ⟨S16x16, .i32⟩
  | .hbm, ⟨16, _⟩ => ⟨S16x16, .i32⟩
  | .hbm, ⟨17, _⟩ => ⟨S_, .i32⟩
  | .hbm, ⟨18, _⟩ => ⟨S16x16, .i32⟩
  | .hbm, ⟨19, _⟩ => ⟨S16x16, .i32⟩
  | .hbm, ⟨20, _⟩ => ⟨S16x16, .i1⟩
  | .hbm, ⟨21, _⟩ => ⟨S16x16, .f32⟩
  | .hbm, ⟨22, _⟩ => ⟨S16x80x1x80, .f32⟩
  | .hbm, ⟨23, _⟩ => ⟨S16x1x16x1, .f32⟩
  | .hbm, ⟨24, _⟩ => ⟨S16x80x16x80, .f32⟩
  | .hbm, ⟨25, _⟩ => ⟨S16x80x16x80, .f32⟩
  | .hbm, ⟨26, _⟩ => ⟨S16x80x16x80, .f32⟩
  | .hbm, ⟨27, _⟩ => ⟨S1280x1280, .f32⟩
  | .hbm, ⟨28, _⟩ => ⟨S1280x1280, .bf16⟩
  | .hbm, ⟨29, _⟩ => ⟨S1x1280, .f32⟩
  | .hbm, ⟨30, _⟩ => ⟨S16x16, .i32⟩
  | .hbm, ⟨31, _⟩ => ⟨S16x16, .i32⟩
  | .hbm, ⟨32, _⟩ => ⟨S_, .i32⟩
  | .hbm, ⟨33, _⟩ => ⟨S16x16, .i32⟩
  | .hbm, ⟨34, _⟩ => ⟨S16x16, .i32⟩
  | .hbm, ⟨35, _⟩ => ⟨S16x16, .i1⟩
  | .hbm, ⟨36, _⟩ => ⟨S16x16, .f32⟩
  | .hbm, ⟨37, _⟩ => ⟨S16x80x1x80, .f32⟩
  | .hbm, ⟨38, _⟩ => ⟨S16x1x16x1, .f32⟩
  | .hbm, ⟨39, _⟩ => ⟨S16x80x16x80, .f32⟩
  | .hbm, ⟨40, _⟩ => ⟨S16x80x16x80, .f32⟩
  | .hbm, ⟨41, _⟩ => ⟨S16x80x16x80, .f32⟩
  | .hbm, ⟨42, _⟩ => ⟨S1280x1280, .f32⟩
  | .hbm, ⟨43, _⟩ => ⟨S1280x1280, .bf16⟩
  | .hbm, ⟨44, _⟩ => ⟨S1x1280, .f32⟩
  | .hbm, ⟨45, _⟩ => ⟨S1x1280, .f32⟩
  | .hbm, ⟨46, _⟩ => ⟨S1280x1024, .bf16⟩
  | .hbm, ⟨47, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S4x1280, .f32⟩
  | .local _ .vmem, ⟨5, _⟩ => ⟨S1x1280, .f32⟩
  | .local _ .vmem, ⟨6, _⟩ => ⟨S1280x1280, .bf16⟩
  | .local _ .vmem, ⟨7, _⟩ => ⟨S1x1280, .f32⟩
  | .local _ .vmem, ⟨8, _⟩ => ⟨S1280x1280, .bf16⟩
  | .local _ .vmem, ⟨9, _⟩ => ⟨S1x1280, .f32⟩
  | .local _ .vmem, ⟨10, _⟩ => ⟨S1x1280, .f32⟩
  | .local _ .vmem, ⟨11, _⟩ => ⟨S1280x1024, .bf16⟩
  | .local _ .vmem, ⟨12, _⟩ => ⟨S512x1024, .f32⟩
  | .local _ .vmem, ⟨13, _⟩ => ⟨S512x1024, .f32⟩
  | .local _ .vmem, ⟨14, _⟩ => ⟨S520x1280, .f32⟩
  | .local _ .vmem, ⟨15, _⟩ => ⟨S512x1280, .f32⟩
  | .local _ .vmem, ⟨16, _⟩ => ⟨S512x1280, .f32⟩
  | .local _ .vmem, ⟨17, _⟩ => ⟨S1x1280, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_49 : BitVec 32 := 0#32
  let c64_i32 : BitVec 32 := 64#32
  let v113 : BitVec 32 := Scalar.addi c0_i32_49 c64_i32
  let c1_i32 : BitVec 32 := 1#32
  ⟨c0_i32_49, v113, c1_i32⟩
def k0_mult1 (k0_t1 : Fin k0_t1_loop.trips) : BitVec 32 :=
  let c0_i32_49 : BitVec 32 := 0#32
  let c1_i32 : BitVec 32 := 1#32
  let arg18 : BitVec 32 := Scf.iv c0_i32_49 c1_i32 k0_t1
  let c8_i32 : BitVec 32 := 8#32
  let v139 : BitVec 32 := Scalar.muli arg18 c8_i32
  v139
def k0_off1 (k0_t1 : Fin k0_t1_loop.trips) : Fin 2 → Nat :=
  let c0_i32_49 : BitVec 32 := 0#32
  let c1_i32 : BitVec 32 := 1#32
  let arg18 : BitVec 32 := Scf.iv c0_i32_49 c1_i32 k0_t1
  let c8_i32 : BitVec 32 := 8#32
  let v139 : BitVec 32 := Scalar.muli arg18 c8_i32
  let v140 : BitVec 32 := v139
  let v141 : Index := Scalar.indexCast v140
  let c0_64 : Index := 0#32
  ![v141.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1280x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1280x1280 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1280x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== LruRefIdeal.lean ====
abbrev S2x8192x1024 : Shape := ⟨3, ![2, 8192, 1024]⟩
abbrev S1024 : Shape := ⟨1, ![1024]⟩
abbrev S1024x2560 : Shape := ⟨2, ![1024, 2560]⟩
abbrev S4x1280 : Shape := ⟨2, ![4, 1280]⟩
abbrev S1280 : Shape := ⟨1, ![1280]⟩
abbrev S16x80x80 : Shape := ⟨3, ![16, 80, 80]⟩
abbrev S1280x1024 : Shape := ⟨2, ![1280, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2560 : Shape := ⟨3, ![2, 8192, 2560]⟩
abbrev S2x8192x1280 : Shape := ⟨3, ![2, 8192, 1280]⟩
abbrev S2x8195x1280 : Shape := ⟨3, ![2, 8195, 1280]⟩
abbrev S1x1280 : Shape := ⟨2, ![1, 1280]⟩
abbrev S1x1x1280 : Shape := ⟨3, ![1, 1, 1280]⟩
abbrev S2x8192x16x80 : Shape := ⟨4, ![2, 8192, 16, 80]⟩
abbrev S16x80x2x8192 : Shape := ⟨4, ![16, 80, 2, 8192]⟩
abbrev S2x1280 : Shape := ⟨2, ![2, 1280]⟩
abbrev S8192x2x1280 : Shape := ⟨3, ![8192, 2, 1280]⟩
abbrev S1x2x1280 : Shape := ⟨3, ![1, 2, 1280]⟩
abbrev S16384x1024 : Shape := ⟨2, ![16384, 1024]⟩

abbrev nBuf : Space → Nat
  | .hbm => 174
  | .vmem => 0
  | .smem => 0
  | _ => 0

abbrev hbmTy0_0 (i : Nat) : BufTy := match i % 128 with
  | 0 => ⟨S2x8192x1024, .f32⟩
  | 1 => ⟨S1024, .f32⟩
  | 2 => ⟨S1024x2560, .f32⟩
  | 3 => ⟨S4x1280, .f32⟩
  | 4 => ⟨S1280, .f32⟩
  | 5 => ⟨S16x80x80, .f32⟩
  | 6 => ⟨S1280, .f32⟩
  | 7 => ⟨S16x80x80, .f32⟩
  | 8 => ⟨S1280, .f32⟩
  | 9 => ⟨S1280, .f32⟩
  | 10 => ⟨S1280x1024, .f32⟩
  | 11 => ⟨S2x8192x1024, .f32⟩
  | 12 => ⟨S_, .f32⟩
  | 13 => ⟨S2x8192, .f32⟩
  | 14 => ⟨S2x8192x1, .f32⟩
  | 15 => ⟨S_, .f32⟩
  | 16 => ⟨S2x8192x1, .f32⟩
  | 17 => ⟨S2x8192x1, .f32⟩
  | 18 => ⟨S_, .f32⟩
  | 19 => ⟨S2x8192x1, .f32⟩
  | 20 => ⟨S2x8192x1, .f32⟩
  | 21 => ⟨S2x8192x1, .f32⟩
  | 22 => ⟨S2x8192x1024, .f32⟩
  | 23 => ⟨S2x8192x1024, .f32⟩
  | 24 => ⟨S1x1x1024, .f32⟩
  | 25 => ⟨S2x8192x1024, .f32⟩
  | 26 => ⟨S2x8192x1024, .f32⟩
  | 27 => ⟨S2x8192x2560, .f32⟩
  | 28 => ⟨S2x8192x1280, .f32⟩
  | 29 => ⟨S2x8192x1280, .f32⟩
  | 30 => ⟨S_, .i32⟩
  | 31 => ⟨S_, .f32⟩
  | 32 => ⟨S2x8195x1280, .f32⟩
  | 33 => ⟨S1x1280, .f32⟩
  | 34 => ⟨S1280, .f32⟩
  | 35 => ⟨S2x8192x1280, .f32⟩
  | 36 => ⟨S1x1x1280, .f32⟩
  | 37 => ⟨S2x8192x1280, .f32⟩
  | 38 => ⟨S2x8192x1280, .f32⟩
  | 39 => ⟨S1x1x1280, .f32⟩
  | 40 => ⟨S2x8192x1280, .f32⟩
  | 41 => ⟨S2x8192x1280, .f32⟩
  | 42 => ⟨S1x1280, .f32⟩
  | 43 => ⟨S1280, .f32⟩
  | 44 => ⟨S2x8192x1280, .f32⟩
  | 45 => ⟨S1x1x1280, .f32⟩
  | 46 => ⟨S2x8192x1280, .f32⟩
  | 47 => ⟨S2x8192x1280, .f32⟩
  | 48 => ⟨S2x8192x1280, .f32⟩
  | 49 => ⟨S1x1280, .f32⟩
  | 50 => ⟨S1280, .f32⟩
  | 51 => ⟨S2x8192x1280, .f32⟩
  | 52 => ⟨S1x1x1280, .f32⟩
  | 53 => ⟨S2x8192x1280, .f32⟩
  | 54 => ⟨S2x8192x1280, .f32⟩
  | 55 => ⟨S2x8192x1280, .f32⟩
  | 56 => ⟨S1x1280, .f32⟩
  | 57 => ⟨S1280, .f32⟩
  | 58 => ⟨S2x8192x1280, .f32⟩
  | 59 => ⟨S1x1x1280, .f32⟩
  | 60 => ⟨S2x8192x1280, .f32⟩
  | 61 => ⟨S2x8192x1280, .f32⟩
  | 62 => ⟨S2x8192x1280, .f32⟩
  | 63 => ⟨S2x8192x16x80, .f32⟩
  | 64 => ⟨S16x80x2x8192, .f32⟩
  | 65 => ⟨S2x8192x16x80, .f32⟩
  | 66 => ⟨S2x8192x1280, .f32⟩
  | 67 => ⟨S1x1x1280, .f32⟩
  | 68 => ⟨S2x8192x1280, .f32⟩
  | 69 => ⟨S2x8192x1280, .f32⟩
  | 70 => ⟨S2x8192x1280, .f32⟩
  | 71 => ⟨S2x8192x1280, .f32⟩
  | 72 => ⟨S_, .f32⟩
  | 73 => ⟨S2x8192x1280, .f32⟩
  | 74 => ⟨S2x8192x1280, .f32⟩
  | 75 => ⟨S_, .f32⟩
  | 76 => ⟨S2x8192x1280, .f32⟩
  | 77 => ⟨S2x8192x1280, .f32⟩
  | 78 => ⟨S16x80x2x8192, .f32⟩
  | 79 => ⟨S2x8192x16x80, .f32⟩
  | 80 => ⟨S2x8192x1280, .f32⟩
  | 81 => ⟨S1x1x1280, .f32⟩
  | 82 => ⟨S2x8192x1280, .f32⟩
  | 83 => ⟨S2x8192x1280, .f32⟩
  | 84 => ⟨S2x8192x1280, .f32⟩
  | 85 => ⟨S2x8192x1280, .f32⟩
  | 86 => ⟨S_, .f32⟩
  | 87 => ⟨S2x8192x1280, .f32⟩
  | 88 => ⟨S2x8192x1280, .f32⟩
  | 89 => ⟨S_, .f32⟩
  | 90 => ⟨S2x8192x1280, .f32⟩
  | 91 => ⟨S2x8192x1280, .f32⟩
  | 92 => ⟨S_, .f32⟩
  | 93 => ⟨S2x8192x1280, .f32⟩
  | 94 => ⟨S2x8192x1280, .f32⟩
  | 95 => ⟨S1280, .f32⟩
  | 96 => ⟨S_, .f32⟩
  | 97 => ⟨S1280, .f32⟩
  | 98 => ⟨S1280, .f32⟩
  | 99 => ⟨S1280, .f32⟩
  | 100 => ⟨S1280, .f32⟩
  | 101 => ⟨S1280, .i1⟩
  | 102 => ⟨S1280, .f32⟩
  | 103 => ⟨S1280, .f32⟩
  | 104 => ⟨S1280, .f32⟩
  | 105 => ⟨S1280, .f32⟩
  | 106 => ⟨S1280, .f32⟩
  | 107 => ⟨S1280, .f32⟩
  | 108 => ⟨S1280, .f32⟩
  | 109 => ⟨S1280, .f32⟩
  | 110 => ⟨S1x1x1280, .f32⟩
  | 111 => ⟨S2x8192x1280, .f32⟩
  | 112 => ⟨S2x8192x1280, .f32⟩
  | 113 => ⟨S2x8192x1280, .f32⟩
  | 114 => ⟨S_, .f32⟩
  | 115 => ⟨S2x8192x1280, .f32⟩
  | 116 => ⟨S2x8192x1280, .f32⟩
  | 117 => ⟨S2x8192x1280, .f32⟩
  | 118 => ⟨S2x8192x1280, .f32⟩
  | 119 => ⟨S2x8192x1280, .f32⟩
  | 120 => ⟨S2x8192x1280, .f32⟩
  | 121 => ⟨S2x8192x1280, .f32⟩
  | 122 => ⟨S_, .f32⟩
  | 123 => ⟨S2x1280, .f32⟩
  | 124 => ⟨S8192x2x1280, .f32⟩
  | 125 => ⟨S8192x2x1280, .f32⟩
  | 126 => ⟨S_, .f32⟩
  | 127 => ⟨S8192x2x1280, .f32⟩
  | _ => ⟨S2x8192x1024, .f32⟩

abbrev hbmTy0_1 (i : Nat) : BufTy := match i % 128 with
  | 0 => ⟨S_, .i32⟩
  | 1 => ⟨S8192x2x1280, .f32⟩
  | 2 => ⟨S8192x2x1280, .f32⟩
  | 3 => ⟨S_, .i32⟩
  | 4 => ⟨S2x1280, .f32⟩
  | 5 => ⟨S8192x2x1280, .f32⟩
  | 6 => ⟨S_, .i32⟩
  | 7 => ⟨S_, .i1⟩
  | 8 => ⟨S_, .i32⟩
  | 9 => ⟨S_, .i32⟩
  | 10 => ⟨S1x2x1280, .f32⟩
  | 11 => ⟨S2x1280, .f32⟩
  | 12 => ⟨S_, .i32⟩
  | 13 => ⟨S_, .i32⟩
  | 14 => ⟨S1x2x1280, .f32⟩
  | 15 => ⟨S2x1280, .f32⟩
  | 16 => ⟨S2x1280, .f32⟩
  | 17 => ⟨S2x1280, .f32⟩
  | 18 => ⟨S1x2x1280, .f32⟩
  | 19 => ⟨S_, .i32⟩
  | 20 => ⟨S_, .i32⟩
  | 21 => ⟨S8192x2x1280, .f32⟩
  | 22 => ⟨S_, .i32⟩
  | 23 => ⟨S_, .i32⟩
  | 24 => ⟨S2x8192x1280, .f32⟩
  | 25 => ⟨S2x8192x1280, .f32⟩
  | 26 => ⟨S2x8192x1280, .f32⟩
  | 27 => ⟨S_, .f32⟩
  | 28 => ⟨S2x8192x1280, .f32⟩
  | 29 => ⟨S2x8192x1280, .f32⟩
  | 30 => ⟨S2x8192x1280, .f32⟩
  | 31 => ⟨S_, .f32⟩
  | 32 => ⟨S2x8192x1280, .f32⟩
  | 33 => ⟨S2x8192x1280, .f32⟩
  | 34 => ⟨S2x8192x1280, .f32⟩
  | 35 => ⟨S_, .f32⟩
  | 36 => ⟨S2x8192x1280, .f32⟩
  | 37 => ⟨S2x8192x1280, .f32⟩
  | 38 => ⟨S_, .f32⟩
  | 39 => ⟨S2x8192x1280, .f32⟩
  | 40 => ⟨S2x8192x1280, .f32⟩
  | 41 => ⟨S2x8192x1280, .f32⟩
  | 42 => ⟨S2x8192x1280, .f32⟩
  | 43 => ⟨S2x8192x1024, .f32⟩
  | 44 => ⟨S2x8192x1024, .f32⟩
  | 45 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_2 : Ref sig .tc := ⟨.hbm, 72, rfl⟩
abbrev main_v56 : Ref sig .tc := ⟨.hbm, 73, rfl⟩
abbrev main_v57 : Ref sig .tc := ⟨.hbm, 74, rfl⟩
abbrev main_cst_3 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_4 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_v70 : Ref sig .tc := ⟨.hbm, 90, rfl⟩
abbrev main_v71 : Ref sig .tc := ⟨.hbm, 91, rfl⟩
abbrev main_cst_6 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_7 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_8 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_9 : Ref sig .tc := ⟨.hbm, 126, rfl⟩
abbrev main_v90 : Ref sig .tc := ⟨.hbm, 127, rfl⟩
abbrev main_c_10 : Ref sig .tc := ⟨.hbm, 128, rfl⟩
abbrev main_v91_0 : Ref sig .tc := ⟨.hbm, 129, rfl⟩
abbrev main_v91_1 : Ref sig .tc := ⟨.hbm, 130, rfl⟩
abbrev main_v91_2 : Ref sig .tc := ⟨.hbm, 131, rfl⟩
abbrev main_v91_3 : Ref sig .tc := ⟨.hbm, 132, rfl⟩
abbrev main_v91_4 : Ref sig .tc := ⟨.hbm, 133, rfl⟩
abbrev main_while0c_c_19 : Ref sig .tc := ⟨.hbm, 134, rfl⟩
abbrev main_while0c_v110 : Ref sig .tc := ⟨.hbm, 135, rfl⟩
abbrev main_while0b_call2_c : Ref sig .tc := ⟨.hbm, 136, rfl⟩
abbrev main_while0b_call2_c_0 : Ref sig .tc := ⟨.hbm, 137, rfl⟩
abbrev main_while0b_call2_v0 : Ref sig .tc := ⟨.hbm, 138, rfl⟩
abbrev main_while0b_v110 : Ref sig .tc := ⟨.hbm, 139, rfl⟩
abbrev main_while0b_call3_c : Ref sig .tc := ⟨.hbm, 140, rfl⟩
abbrev main_while0b_call3_c_0 : Ref sig .tc := ⟨.hbm, 141, rfl⟩
abbrev main_while0b_call3_v0 : Ref sig .tc := ⟨.hbm, 142, rfl⟩
abbrev main_while0b_v111 : Ref sig .tc := ⟨.hbm, 143, rfl⟩
abbrev main_while0b_v112 : Ref sig .tc := ⟨.hbm, 144, rfl⟩
abbrev main_while0b_v113 : Ref sig .tc := ⟨.hbm, 145, rfl⟩
abbrev main_while0b_call4_v0 : Ref sig .tc := ⟨.hbm, 146, rfl⟩
abbrev main_while0b_call4_c : Ref sig .tc := ⟨.hbm, 147, rfl⟩
abbrev main_while0b_call4_c_0 : Ref sig .tc := ⟨.hbm, 148, rfl⟩
abbrev main_while0b_v114 : Ref sig .tc := ⟨.hbm, 149, rfl⟩
abbrev main_while0b_c_19 : Ref sig .tc := ⟨.hbm, 150, rfl⟩
abbrev main_while0b_v115 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_cst_11 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_12 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_13 : Ref sig .tc := ⟨.hbm, 163, rfl⟩
abbrev main_v101 : Ref sig .tc := ⟨.hbm, 164, rfl⟩
abbrev main_v102 : Ref sig .tc := ⟨.hbm, 165, rfl⟩
abbrev main_cst_14 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩

abbrev nD : Nat := 1
abbrev τ : Topo := Topo.v7x

variable {F : FTy → Type} [FloatOps F]

abbrev main_while0_count : Scf.Loop 32 := ⟨0#32, 8192#32, 1#32⟩
-- ==== Pool.lean ====
abbrev S2x8192x1024 : Shape := ⟨3, ![2, 8192, 1024]⟩
abbrev S1024 : Shape := ⟨1, ![1024]⟩
abbrev S4x256x256 : Shape := ⟨3, ![4, 256, 256]⟩
abbrev S16384x1024 : Shape := ⟨2, ![16384, 1024]⟩
abbrev S1x1024 : Shape := ⟨2, ![1, 1024]⟩
abbrev S512x1024 : Shape := ⟨2, ![512, 1024]⟩
abbrev S528x1024 : Shape := ⟨2, ![528, 1024]⟩
abbrev S16x1024 : Shape := ⟨2, ![16, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 11
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S4x256x256, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x256x256, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S528x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PoolRefIdeal.lean ====
abbrev S2x8192x1024 : Shape := ⟨3, ![2, 8192, 1024]⟩
abbrev S1024 : Shape := ⟨1, ![1024]⟩
abbrev S4x256x256 : Shape := ⟨3, ![4, 256, 256]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S8192 : Shape := ⟨1, ![8192]⟩
abbrev S2x8192x256 : Shape := ⟨3, ![2, 8192, 256]⟩
abbrev S2x8190x256 : Shape := ⟨3, ![2, 8190, 256]⟩
abbrev S1x8192x1 : Shape := ⟨3, ![1, 8192, 1]⟩
abbrev S2x8188x256 : Shape := ⟨3, ![2, 8188, 256]⟩
abbrev S2x8184x256 : Shape := ⟨3, ![2, 8184, 256]⟩
abbrev S2x8176x256 : Shape := ⟨3, ![2, 8176, 256]⟩
abbrev S2x8192x1x256 : Shape := ⟨4, ![2, 8192, 1, 256]⟩
abbrev S2x8192x4x256 : Shape := ⟨4, ![2, 8192, 4, 256]⟩
abbrev S4x256x2x8192 : Shape := ⟨4, ![4, 256, 2, 8192]⟩
abbrev S16384x1024 : Shape := ⟨2, ![16384, 1024]⟩

abbrev nBuf : Space → Nat
  | .hbm => 113
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S_, .f32⟩
  | .hbm, ⟨23, _⟩ => ⟨S2x8192x1024, .f32⟩
  | .hbm, ⟨24, _⟩ => ⟨S8192, .i32⟩
  | .hbm, ⟨25, _⟩ => ⟨S2x8192x256, .f32⟩
  | .hbm, ⟨26, _⟩ => ⟨S2x8190x256, .f32⟩
  | .hbm, ⟨27, _⟩ => ⟨S_, .i32⟩
  | .hbm, ⟨28, _⟩ => ⟨S_, .f32⟩
  | .hbm, ⟨29, _⟩ => ⟨S2x8192x256, .f32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .f32⟩
  | .hbm, ⟨37, _⟩ => ⟨S1x8192x1, .f32⟩
  | .hbm, ⟨38, _⟩ => ⟨S2x8192x256, .f32⟩
  | .hbm, ⟨39, _⟩ => ⟨S2x8192x256, .f32⟩
  | .hbm, ⟨40, _⟩ => ⟨S2x8192x256, .f32⟩
  | .hbm, ⟨41, _⟩ => ⟨S2x8192x256, .f32⟩
  | .hbm, ⟨42, _⟩ => ⟨S2x8192x256, .f32⟩
  | .hbm, ⟨43, _⟩ => ⟨S2x8192x256, .f32⟩
  | .hbm, ⟨44, _⟩ => ⟨S2x8188x256, .f32⟩
  | .hbm, ⟨45, _⟩ => ⟨S_, .i32⟩
  | .hbm, ⟨46, _⟩ => ⟨S_, .f32⟩
  | .hbm, ⟨47, _⟩ => ⟨S2x8192x256, .f32⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .f32⟩
  | .hbm, ⟨55, _⟩ => ⟨S1x8192x1, .f32⟩
  | .hbm, ⟨56, _⟩ => ⟨S2x8192x256, .f32⟩
  | .hbm, ⟨57, _⟩ => ⟨S2x8192x256, .f32⟩
  | .hbm, ⟨58, _⟩ => ⟨S2x8192x256, .f32⟩
  | .hbm, ⟨59, _⟩ => ⟨S2x8192x256, .f32⟩
  | .hbm, ⟨60, _⟩ => ⟨S2x8192x256, .f32⟩
  | .hbm, ⟨61, _⟩ => ⟨S2x8192x256, .f32⟩
  | .hbm, ⟨62, _⟩ => ⟨S2x8184x256, .f32⟩
  | .hbm, ⟨63, _⟩ => ⟨S_, .i32⟩
  | .hbm, ⟨64, _⟩ => ⟨S_, .f32⟩
  | .hbm, ⟨65, _⟩ => ⟨S2x8192x256, .f32⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .f32⟩
  | .hbm, ⟨73, _⟩ => ⟨S1x8192x1, .f32⟩
  | .hbm, ⟨74, _⟩ => ⟨S2x8192x256, .f32⟩
  | .hbm, ⟨75, _⟩ => ⟨S2x8192x256, .f32⟩
  | .hbm, ⟨76, _⟩ => ⟨S2x8192x256, .f32⟩
  | .hbm, ⟨77, _⟩ => ⟨S2x8192x256, .f32⟩
  | .hbm, ⟨78, _⟩ => ⟨S2x8192x256, .f32⟩
  | .hbm, ⟨79, _⟩ => ⟨S2x8192x256, .f32⟩
  | .hbm, ⟨80, _⟩ => ⟨S2x8176x256, .f32⟩
  | .hbm, ⟨81, _⟩ => ⟨S_, .i32⟩
  | .hbm, ⟨82, _⟩ => ⟨S_, .f32⟩
  | .hbm, ⟨83, _⟩ => ⟨S2x8192x256, .f32⟩
  | .hbm, ⟨84, _⟩ => ⟨S_, .i32⟩
  | .hbm, ⟨85, _⟩ => ⟨S8192, .i32⟩
  | .hbm, ⟨86, _⟩ => ⟨S8192, .i32⟩
  | .hbm, ⟨87, _⟩ => ⟨S_, .i32⟩
  | .hbm, ⟨88, _⟩ => ⟨S8192, .i32⟩
  | .hbm, ⟨89, _⟩ => ⟨S8192, .i32⟩
  | .hbm, ⟨90, _⟩ => ⟨S8192, .f32⟩
  | .hbm, ⟨91, _⟩ => ⟨S1x8192x1, .f32⟩
  | .hbm, ⟨92, _⟩ => ⟨S2x8192x256, .f32⟩
  | .hbm, ⟨93, _⟩ => ⟨S2x8192x256, .f32⟩
  | .hbm, ⟨94, _⟩ => ⟨S2x8192x256, .f32⟩
  | .hbm, ⟨95, _⟩ => ⟨S2x8192x256, .f32⟩
  | .hbm, ⟨96, _⟩ => ⟨S2x8192x256, .f32⟩
  | .hbm, ⟨97, _⟩ => ⟨S2x8192x1x256, .f32⟩
  | .hbm, ⟨98, _⟩ => ⟨S2x8192x1x256, .f32⟩
  | .hbm, ⟨99, _⟩ => ⟨S2x8192x1x256, .f32⟩
  | .hbm, ⟨100, _⟩ => ⟨S2x8192x1x256, .f32⟩
  | .hbm, ⟨101, _⟩ => ⟨S2x8192x4x256, .f32⟩
  | .hbm, ⟨102, _⟩ => ⟨S4x256x2x8192, .f32⟩
  | .hbm, ⟨103, _⟩ => ⟨S2x8192x4x256, .f32⟩
  | .hbm, ⟨104, _⟩ => ⟨S2x8192x1024, .f32⟩
  | .hbm, ⟨105, _⟩ => ⟨S1x1x1024, .f32⟩
  | .hbm, ⟨106, _⟩ => ⟨S2x8192x1024, .f32⟩
  | .hbm, ⟨107, _⟩ => ⟨S2x8192x1024, .f32⟩
  | .hbm, ⟨108, _⟩ => ⟨S1x1x1024, .f32⟩
  | .hbm, ⟨109, _⟩ => ⟨S2x8192x1024, .f32⟩
  | .hbm, ⟨110, _⟩ => ⟨S2x8192x1024, .f32⟩
  | .hbm, ⟨111, _⟩ => ⟨S2x8192x1024, .f32⟩
  | .hbm, ⟨112, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_call0_cst : Ref sig .tc := ⟨.hbm, 21, rfl⟩
abbrev main_call0_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call1_v0 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_call2_v0 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_call3_v0 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_call4_v0 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]
-- ==== Ffn.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 11
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x2816, .f32⟩
  | .hbm, ⟨22, _⟩ => ⟨S2x8192x2816, .f32⟩
  | .hbm, ⟨23, _⟩ => ⟨S2x8192x2816, .f32⟩
  | .hbm, ⟨24, _⟩ => ⟨S_, .f32⟩
  | .hbm, ⟨25, _⟩ => ⟨S2x8192x2816, .f32⟩
  | .hbm, ⟨26, _⟩ => ⟨S2x8192x2816, .f32⟩
  | .hbm, ⟨27, _⟩ => ⟨S_, .f32⟩
  | .hbm, ⟨28, _⟩ => ⟨S2x8192x2816, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x1024, .f32⟩
  | .hbm, ⟨34, _⟩ => ⟨S_, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Ple.lean ====
abbrev S2x8192x1024 : Shape := ⟨3, ![2, 8192, 1024]⟩
abbrev S2x8192x256 : Shape := ⟨3, ![2, 8192, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S16384x1024 : Shape := ⟨2, ![16384, 1024]⟩
abbrev S16384x256 : Shape := ⟨2, ![16384, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x2816 : Shape := ⟨2, ![512, 2816]⟩

abbrev nBuf : Space → Nat
  | .hbm => 21
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S16384x1024, .f32⟩
  | .hbm, ⟨11, _⟩ => ⟨S16384x256, .f32⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S1024x1024, .bf16⟩
  | .hbm, ⟨18, _⟩ => ⟨S256x1024, .bf16⟩
  | .hbm, ⟨19, _⟩ => ⟨S1x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PleRefIdeal.lean ====
abbrev S2x8192x1024 : Shape := ⟨3, ![2, 8192, 1024]⟩
abbrev S2x8192x256 : Shape := ⟨3, ![2, 8192, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S2x8192x2816, .f32⟩
  | .hbm, ⟨27, _⟩ => ⟨S2x8192x2816, .f32⟩
  | .hbm, ⟨28, _⟩ => ⟨S2x8192x2816, .f32⟩
  | .hbm, ⟨29, _⟩ => ⟨S_, .f32⟩
  | .hbm, ⟨30, _⟩ => ⟨S2x8192x2816, .f32⟩
  | .hbm, ⟨31, _⟩ => ⟨S2x8192x2816, .f32⟩
  | .hbm, ⟨32, _⟩ => ⟨S_, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S2x8192x1024, .f32⟩
  | .hbm, ⟨39, _⟩ => ⟨S_, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S_, .f32⟩
  | .hbm, ⟨45, _⟩ => ⟨S2x8192, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1, .f32⟩
  | .hbm, ⟨54, _⟩ => ⟨S2x8192x1024, .f32⟩
  | .hbm, ⟨55, _⟩ => ⟨S2x8192x1024, .f32⟩
  | .hbm, ⟨56, _⟩ => ⟨S1x1x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S_, .f32⟩
  | .hbm, ⟨63, _⟩ => ⟨S2x8192x1024, .f32⟩
  | .hbm, ⟨64, _⟩ => ⟨S2x8192x1024, .f32⟩
  | .hbm, ⟨65, _⟩ => ⟨S_, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== Last.lean ====
abbrev S2x8192x1024 : Shape := ⟨3, ![2, 8192, 1024]⟩
abbrev S2x8192x256 : Shape := ⟨3, ![2, 8192, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S16384x1024 : Shape := ⟨2, ![16384, 1024]⟩
abbrev S16384x256 : Shape := ⟨2, ![16384, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x2816 : Shape := ⟨2, ![512, 2816]⟩

abbrev nBuf : Space → Nat
  | .hbm => 21
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S16384x1024, .f32⟩
  | .hbm, ⟨11, _⟩ => ⟨S16384x256, .f32⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S1024x1024, .bf16⟩
  | .hbm, ⟨18, _⟩ => ⟨S256x1024, .bf16⟩
  | .hbm, ⟨19, _⟩ => ⟨S1x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== LastRefIdeal.lean ====
abbrev S2x8192x1024 : Shape := ⟨3, ![2, 8192, 1024]⟩
abbrev S2x8192x256 : Shape := ⟨3, ![2, 8192, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S2x8192x2816, .f32⟩
  | .hbm, ⟨27, _⟩ => ⟨S2x8192x2816, .f32⟩
  | .hbm, ⟨28, _⟩ => ⟨S2x8192x2816, .f32⟩
  | .hbm, ⟨29, _⟩ => ⟨S_, .f32⟩
  | .hbm, ⟨30, _⟩ => ⟨S2x8192x2816, .f32⟩
  | .hbm, ⟨31, _⟩ => ⟨S2x8192x2816, .f32⟩
  | .hbm, ⟨32, _⟩ => ⟨S_, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S2x8192x1024, .f32⟩
  | .hbm, ⟨39, _⟩ => ⟨S_, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S_, .f32⟩
  | .hbm, ⟨45, _⟩ => ⟨S2x8192, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1, .f32⟩
  | .hbm, ⟨54, _⟩ => ⟨S2x8192x1024, .f32⟩
  | .hbm, ⟨55, _⟩ => ⟨S2x8192x1024, .f32⟩
  | .hbm, ⟨56, _⟩ => ⟨S1x1x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S_, .f32⟩
  | .hbm, ⟨63, _⟩ => ⟨S2x8192x1024, .f32⟩
  | .hbm, ⟨64, _⟩ => ⟨S2x8192x1024, .f32⟩
  | .hbm, ⟨65, _⟩ => ⟨S_, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S_, .f32⟩
  | .hbm, ⟨73, _⟩ => ⟨S2x8192, .f32⟩
  | .hbm, ⟨74, _⟩ => ⟨S2x8192x1, .f32⟩
  | .hbm, ⟨75, _⟩ => ⟨S_, .f32⟩
  | .hbm, ⟨76, _⟩ => ⟨S2x8192x1, .f32⟩
  | .hbm, ⟨77, _⟩ => ⟨S2x8192x1, .f32⟩
  | .hbm, ⟨78, _⟩ => ⟨S_, .f32⟩
  | .hbm, ⟨79, _⟩ => ⟨S2x8192x1, .f32⟩
  | .hbm, ⟨80, _⟩ => ⟨S2x8192x1, .f32⟩
  | .hbm, ⟨81, _⟩ => ⟨S2x8192x1, .f32⟩
  | .hbm, ⟨82, _⟩ => ⟨S2x8192x1024, .f32⟩
  | .hbm, ⟨83, _⟩ => ⟨S2x8192x1024, .f32⟩
  | .hbm, ⟨84, _⟩ => ⟨S1x1x1024, .f32⟩
  | .hbm, ⟨85, _⟩ => ⟨S2x8192x1024, .f32⟩
  | .hbm, ⟨86, _⟩ => ⟨S2x8192x1024, .f32⟩
  | .hbm, ⟨87, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== Proof.Rows.lean ====
module

public import Idealize.ShloMosaic.Lib.Pointwise

@[expose] public section

noncomputable section

namespace Cert.Rows

open Idealize.ShloMosaic

/-- One row scaled by the reciprocal root of its mean square (the literals' values as the program spells them) and by the
    gains `g`. -/
def rms (x g : Fin 1024 → EReal) (k : Fin 1024) : EReal :=
  x k * Ideal.rsqrt (Ideal.div (∑ l, x l * x l) (Ideal.ofBits .f32 0x44800000#32) + Ideal.ofBits .f32 0x358637BD#32) * g k

/-- A row times a matrix. -/
def vm {m n : ℕ} (x : Fin m → EReal) (w : Fin m → Fin n → EReal) (j : Fin n) : EReal := ∑ k, x k * w k j

/-- `u · σ(u)`. -/
def silu (u : EReal) : EReal := u * Ideal.logistic u

/-- One row of a gated feed-forward layer with half-weight residual. -/
def ffn (x g : Fin 1024 → EReal) (wg wu : Fin 1024 → Fin 2816 → EReal) (wd : Fin 2816 → Fin 1024 → EReal) (j : Fin 1024) : EReal :=
  x j + Ideal.ofBits .f32 0x3F000000#32 *
    vm (fun l => silu (vm (rms x g) wg l) * vm (rms x g) wu l) wd j

/-- A row's gated embedding: `h + σ(rms(h) W) · (p V)`. -/
def ple (h : Fin 1024 → EReal) (p : Fin 256 → EReal) (g : Fin 1024 → EReal) (w : Fin 1024 → Fin 1024 → EReal)
    (v : Fin 256 → Fin 1024 → EReal) (j : Fin 1024) : EReal :=
  h j + Ideal.logistic (vm (rms h g) w j) * vm p v j

/-- A rank-1 array over the extended reals. -/
abbrev A1 (n : ℕ) := (⟨1, ![n]⟩ : Shape).Idx → EReal
/-- A rank-2 array over the extended reals. -/
abbrev A2 (n p : ℕ) := (⟨2, ![n, p]⟩ : Shape).Idx → EReal
/-- A rank-3 array over the extended reals. -/
abbrev A3 (n p q : ℕ) := (⟨3, ![n, p, q]⟩ : Shape).Idx → EReal

/-- Token `n` of the flattened pair of sequences: row `n % 8192` of sequence `n / 8192`. -/
def tok (X : A3 2 8192 1024) (n : Fin 16384) (k : Fin 1024) : EReal :=
  X (ix3 (⟨n.val / 8192, by omega⟩ : Fin 2) (⟨n.val % 8192, by omega⟩ : Fin 8192) k)

/-- Flattening the two sequences reads `tok`. -/
theorem flat_apply (X : A3 2 8192 1024) (h : (⟨3, ![2, 8192, 1024]⟩ : Shape).ShapeCasts ⟨2, ![16384, 1024]⟩) (n : Fin 16384) (k : Fin 1024) :
    shapeCast ⟨2, ![16384, 1024]⟩ X h (ix2 n k) = tok X n k := by
  pointwise [tok]

/-- The feed-forward layer's whole result, row by row. -/
def ffnArr (X : A3 2 8192 1024) (g : A1 1024) (wg wu : A2 1024 2816) (wd : A2 2816 1024) : A2 16384 1024 := fun i =>
  ffn (tok X (i 0)) (fun k => g (ix1 k)) (fun k l => wg (ix2 k l)) (fun k l => wu (ix2 k l)) (fun k l => wd (ix2 k l)) (i 1)

/-- Token `n` of the flattened embeddings. -/
def tokP (X : A3 2 8192 256) (n : Fin 16384) (k : Fin 256) : EReal :=
  X (ix3 (⟨n.val / 8192, by omega⟩ : Fin 2) (⟨n.val % 8192, by omega⟩ : Fin 8192) k)

/-- Flattening the embeddings reads `tokP`. -/
theorem flatP_apply (X : A3 2 8192 256) (h : (⟨3, ![2, 8192, 256]⟩ : Shape).ShapeCasts ⟨2, ![16384, 256]⟩) (n : Fin 16384) (k : Fin 256) :
    shapeCast ⟨2, ![16384, 256]⟩ X h (ix2 n k) = tokP X n k := by
  pointwise [tokP]

/-- The second feed-forward layer with the gated embedding, row by row. -/
def pleArr (X : A3 2 8192 1024) (P : A3 2 8192 256) (g : A1 1024) (wg wu : A2 1024 2816) (wd : A2 2816 1024) (pn : A1 1024)
    (pg : A2 1024 1024) (pp : A2 256 1024) : A2 16384 1024 := fun i =>
  ple (ffn (tok X (i 0)) (fun k => g (ix1 k)) (fun k l => wg (ix2 k l)) (fun k l => wu (ix2 k l)) (fun k l => wd (ix2 k l)))
    (tokP P (i 0)) (fun k => pn (ix1 k)) (fun k l => pg (ix2 k l)) (fun k l => pp (ix2 k l)) (i 1)

/-- The same with the last layer's final normalisation. -/
def lastArr (X : A3 2 8192 1024) (P : A3 2 8192 256) (g : A1 1024) (wg wu : A2 1024 2816) (wd : A2 2816 1024) (pn : A1 1024)
    (pg : A2 1024 1024) (pp : A2 256 1024) (fn : A1 1024) : A2 16384 1024 := fun i =>
  rms (ple (ffn (tok X (i 0)) (fun k => g (ix1 k)) (fun k l => wg (ix2 k l)) (fun k l => wu (ix2 k l)) (fun k l => wd (ix2 k l)))
    (tokP P (i 0)) (fun k => pn (ix1 k)) (fun k l => pg (ix2 k l)) (fun k l => pp (ix2 k l))) (fun k => fn (ix1 k)) (i 1)

end Cert.Rows

end
-- ==== Proof.LruRows.lean ====
module

public import proofs.«01_k».proof.Proof.Rows
public import Mathlib.Analysis.SpecialFunctions.Trigonometric.DerivHyp

@[expose] public section

noncomputable section

namespace Cert.Rows

open Idealize.ShloMosaic

/-! ## The recurrence -/

/-- `n` steps of `h ↦ a h + b` from row `s`, starting at `h`. -/
def run (a b : ℕ → EReal) (s : ℕ) (h : EReal) : ℕ → EReal
  | 0 => h
  | n + 1 => a (s + n) * run a b s h n + b (s + n)

/-- Steps split: `n` steps and then `w` more. -/
theorem run_add (a b : ℕ → EReal) (s : ℕ) (h : EReal) (n : ℕ) : ∀ w, run a b s h (n + w) = run a b (s + n) (run a b s h n) w
  | 0 => rfl
  | w + 1 => by
    show a (s + (n + w)) * run a b s h (n + w) + b (s + (n + w)) = a (s + n + w) * run a b (s + n) (run a b s h n) w + b (s + n + w)
    rw [run_add a b s h n w, Nat.add_assoc]

/-- Steps depend on the rows they take only. -/
theorem run_congr {a b a' b' : ℕ → EReal} {s s' : ℕ} (h : EReal) : ∀ (n : ℕ), (∀ i, i < n → a (s + i) = a' (s' + i) ∧ b (s + i) = b' (s' + i)) →
    run a b s h n = run a' b' s' h n
  | 0, _ => rfl
  | n + 1, e => by
    show a (s + n) * run a b s h n + b (s + n) = a' (s' + n) * run a' b' s' h n + b' (s' + n)
    rw [run_congr h n (fun i hi => e i (by omega)), (e n (by omega)).1, (e n (by omega)).2]

/-- A factor that is a real number of no negative sign. -/
def NN (p : EReal) : Prop := 0 ≤ p ∧ p ≠ ⊤

theorem NN.mul {p q : EReal} (hp : NN p) (hq : NN q) : NN (p * q) :=
  ⟨mul_nonneg hp.1 hq.1, by
    intro h
    rcases (EReal.mul_eq_top p q).mp h with h | h | h | h
    · exact absurd h.1 (ne_of_gt (lt_of_lt_of_le EReal.bot_lt_zero hp.1))
    · exact absurd h.2 (ne_of_gt (lt_of_lt_of_le EReal.bot_lt_zero hq.1))
    · exact hp.2 h.1
    · exact hq.2 h.2⟩

theorem NN.one : NN 1 := ⟨zero_le_one, by decide⟩

theorem NN.distrib {p : EReal} (hp : NN p) (x y : EReal) : p * (x + y) = p * x + p * y :=
  EReal.left_distrib_of_nonneg_of_ne_top hp.1 hp.2 x y

/-- `p i · h + q i` is the last `w` steps up to row `i` (all of them where fewer precede). -/
def Rep (a b : ℕ → EReal) (w : ℕ) (p q : ℕ → EReal) : Prop :=
  ∀ i, NN (p i) ∧ ∀ h, p i * h + q i = run a b (i + 1 - min w (i + 1)) h (min w (i + 1))

/-- The rows' own step. -/
theorem Rep.one {a b : ℕ → EReal} (ha : ∀ i, NN (a i)) : Rep a b 1 a b := fun i => ⟨ha i, fun h => by
  rw [show min 1 (i + 1) = 0 + 1 by omega]
  show _ = a (i + 1 - 1 + 0) * h + b (i + 1 - 1 + 0)
  rw [show i + 1 - 1 + 0 = i by omega]⟩

/-- Composing each row with the one `w` before it doubles the span. -/
theorem Rep.double {a b : ℕ → EReal} {w : ℕ} {p q : ℕ → EReal} (hr : Rep a b w p q) (hw : 0 < w) :
    Rep a b (2 * w) (fun i => p i * (if w ≤ i then p (i - w) else 1)) (fun i => p i * (if w ≤ i then q (i - w) else 0) + q i) := fun i => by
  by_cases hi : w ≤ i
  · simp only [if_pos hi]
    refine ⟨(hr i).1.mul (hr (i - w)).1, fun h => ?_⟩
    rw [mul_assoc, ← add_assoc, ← (hr i).1.distrib, (hr (i - w)).2 h, (hr i).2]
    have e1 : min w (i + 1) = w := by omega
    have e2 : min (2 * w) (i + 1) = min w (i - w + 1) + w := by omega
    rw [e1, e2, run_add, show i + 1 - (min w (i - w + 1) + w) = i - w + 1 - min w (i - w + 1) by omega,
      show i - w + 1 - min w (i - w + 1) + min w (i - w + 1) = i + 1 - w by omega]
  · simp only [if_neg hi, mul_one, mul_zero, zero_add]
    refine ⟨(hr i).1, fun h => ?_⟩
    rw [(hr i).2, show min (2 * w) (i + 1) = min w (i + 1) by omega]

/-! ## The recurrent layer, row by row -/

/-- The smooth positive part, as `max(v, 0) + log(1 + e^{-|v|})`. -/
def softplus (v : EReal) : EReal := max v 0 + Ideal.log1p (Ideal.exp (-(max v (-v))))

/-- The logarithm of the decay. -/
def logDecay (r ap : EReal) : EReal := Ideal.ofBits .f32 0xC1000000#32 * r * softplus (-ap)

/-- What drives the state: the normalised gated input. -/
def drive (la ig xc : EReal) : EReal := Ideal.sqrt (-(Ideal.exp (Ideal.ofBits .f32 0x40000000#32 * la) - 1)) * (ig * xc)

/-- The smooth gate (tanh form). -/
def gelu (v : EReal) : EReal :=
  v * (Ideal.ofBits .f32 0x3F000000#32 * (1 + Ideal.tanh (Ideal.ofBits .f32 0x3F4C422A#32 * (v + Ideal.ofBits .f32 0x3D372713#32 * (v * v * v)))))

/-- A channel's vector times its head's matrix. -/
def head (x : Fin 1280 → EReal) (w : Fin 16 → Fin 80 → Fin 80 → EReal) (k : Fin 1280) : EReal :=
  ∑ i : Fin 80, x (⟨80 * (k.val / 80) + i.val, by omega⟩) * w (⟨k.val / 80, by omega⟩) i (⟨k.val % 80, by omega⟩)

theorem eight : Ideal.ofBits .f32 0xC1000000#32 = ((-8 : ℝ) : EReal) := by
  simp [Ideal.ofBits, Ideal.ieee, -EReal.coe_mul, -EReal.coe_neg]; norm_num

theorem two : Ideal.ofBits .f32 0x40000000#32 = ((2 : ℝ) : EReal) := by
  simp [Ideal.ofBits, Ideal.ieee, -EReal.coe_mul]; norm_num

theorem exp_nonneg (x : EReal) : 0 ≤ Ideal.exp x := by
  induction x with
  | bot => exact le_refl _
  | top => exact le_top
  | coe r => exact EReal.coe_nonneg.mpr (Real.exp_pos r).le

/-- The positive part is never negative. -/
theorem softplus_nonneg (v : EReal) : 0 ≤ softplus v := by
  unfold softplus
  refine add_nonneg (le_max_right _ _) ?_
  generalize -(max v (-v)) = u
  have h := exp_nonneg u
  unfold Ideal.log1p
  induction hz : Ideal.exp u with
  | bot => rw [hz] at h; exact absurd h (by simp)
  | top => rw [EReal.add_top_of_ne_bot (by decide)]; exact le_top
  | coe r =>
    rw [hz] at h
    have hr : 0 ≤ r := EReal.coe_nonneg.mp h
    rw [show (1 : EReal) + (r : EReal) = ((1 + r : ℝ) : EReal) from by norm_num]
    show 0 ≤ (if 1 + r ≤ 0 then ⊥ else (Real.log (1 + r) : EReal))
    rw [if_neg (by linarith)]
    exact EReal.coe_nonneg.mpr (Real.log_nonneg (by linarith))

/-- A sigmoid is never negative. -/
theorem logistic_nonneg (v : EReal) : 0 ≤ Ideal.logistic v := by
  unfold Ideal.logistic Ideal.div
  have h : (0 : EReal) < 1 + Ideal.exp (-v) := lt_of_lt_of_le (by norm_num) (le_add_of_nonneg_right (exp_nonneg _) : (1 : EReal) ≤ _)
  rw [if_neg h.ne', one_mul]
  exact EReal.inv_nonneg_of_nonneg h.le

/-- The decay's logarithm is at most zero. -/
theorem logDecay_nonpos (v ap : EReal) : logDecay (Ideal.logistic v) ap ≤ 0 := by
  unfold logDecay
  rw [eight]
  have h1 := logistic_nonneg v
  have h2 := softplus_nonneg (-ap)
  refine EReal.mul_nonpos_iff.mpr (.inr ⟨EReal.mul_nonpos_iff.mpr (.inr ⟨?_, h1⟩), h2⟩)
  exact EReal.coe_nonpos.mpr (by norm_num)

/-- The decay is a real number of no negative sign. -/
theorem decay_NN {la : EReal} (h : la ≤ 0) : NN (Ideal.exp la) := ⟨exp_nonneg _, by
  induction la with
  | bot => decide
  | top => exact absurd h (by simp)
  | coe r => exact EReal.coe_ne_top _⟩

/-- `-tanh(l) (1 + e^l e^l) = -(e^{2 l} - 1)` for `l ≤ 0`. -/
theorem tanh_form {la : EReal} (h : la ≤ 0) :
    (0 - Ideal.tanh la) * (1 + Ideal.exp la * Ideal.exp la) = -(Ideal.exp (Ideal.ofBits .f32 0x40000000#32 * la) - 1) := by
  rw [two]
  induction la with
  | bot =>
    rw [EReal.coe_mul_bot_of_pos (by norm_num)]
    show (0 - (-1 : EReal)) * (1 + 0 * 0) = -((0 : EReal) - 1)
    norm_num
  | top => exact absurd h (by simp)
  | coe r =>
    rw [← EReal.coe_mul]
    show ((0 : EReal) - (Real.tanh r : EReal)) * (1 + (Real.exp r : EReal) * (Real.exp r : EReal)) = -((Real.exp (2 * r) : EReal) - 1)
    have e : (0 - Real.tanh r) * (1 + Real.exp r * Real.exp r) = -(Real.exp (2 * r) - 1) := by
      rw [Real.tanh_eq_sinh_div_cosh, Real.sinh_eq, Real.cosh_eq, Real.exp_neg, show 2 * r = r + r by ring, Real.exp_add]
      have hp := Real.exp_pos r
      field_simp
      ring
    have e' := congrArg (fun z : ℝ => (z : EReal)) e
    push_cast at e'
    exact e'

/-- A select on a value differing from itself takes its second branch; what is left is the positive part. -/
theorem softplus_select (ap : EReal) :
    (if 0 - ap ≠ 0 - ap then 0 - ap else max (0 - ap) 0 + Ideal.log1p (Ideal.exp (0 - max (0 - ap) (-(0 - ap))))) = softplus (-ap) := by
  rw [if_neg (by simp)]
  simp only [sub_eq_add_neg, zero_add]
  rfl

/-- A dense product with a block-diagonal matrix is each head's own product. -/
theorem head_of_dense (x : Fin 1280 → EReal) (w : Fin 16 → Fin 80 → Fin 80 → EReal) (k : Fin 1280) :
    (∑ j : Fin 1280, x j * (w (⟨j.val / 80, by omega⟩) (⟨j.val % 80, by omega⟩) (⟨k.val % 80, by omega⟩) * (if j.val / 80 = k.val / 80 then 1 else 0)))
      = head x w k := by
  rw [← (finProdFinEquiv : Fin 16 × Fin 80 ≃ Fin (16 * 80)).sum_comp (fun j : Fin (16 * 80) => x j * (w (⟨j.val / 80, by omega⟩) (⟨j.val % 80, by omega⟩) (⟨k.val % 80, by omega⟩) * (if j.val / 80 = k.val / 80 then 1 else 0))),
    Fintype.sum_prod_type, Finset.sum_eq_single (⟨k.val / 80, by omega⟩ : Fin 16)]
  · unfold head
    refine Finset.sum_congr rfl fun i _ => ?_
    have e : (finProdFinEquiv ((⟨k.val / 80, by omega⟩ : Fin 16), i)).val = 80 * (k.val / 80) + i.val := by
      simp [finProdFinEquiv]; omega
    have hi := i.isLt
    rw [if_pos (by rw [e]; omega), mul_one]
    congr 1
    · exact congrArg x (Fin.ext e)
    · congr 1
      · exact Fin.ext (by show _ / 80 = k.val / 80; rw [e]; omega)
      · exact Fin.ext (by show _ % 80 = _; rw [e]; omega)
  · intro h _ hne
    refine Finset.sum_eq_zero fun i _ => ?_
    have e : (finProdFinEquiv (h, i)).val = 80 * h.val + i.val := by
      simp [finProdFinEquiv]; omega
    have hi := i.isLt
    rw [if_neg (by rw [e]; intro h'; exact hne (Fin.ext (by show h.val = k.val / 80; omega))), mul_zero, mul_zero]
  · intro h; exact absurd (Finset.mem_univ _) h

/-! ## The whole layer -/

/-- The layer's arguments: the two sequences, the gains, the input projection, the convolution's taps and bias, the two
    gates' per-head matrices and biases, the decay parameters, the output projection. -/
structure LruW where
  X : A3 2 8192 1024
  g : A1 1024
  w : A2 1024 2560
  cw : A2 4 1280
  cb : A1 1280
  wa : A3 16 80 80
  ba : A1 1280
  wx : A3 16 80 80
  bx : A1 1280
  ap : A1 1280
  wo : A2 1280 1024

namespace LruW

variable (P : LruW)

/-- Row `s` of sequence `b`. -/
def row (b : Fin 2) (s : ℕ) (k : Fin 1024) : EReal := P.X (ix3 b (⟨s % 8192, Nat.mod_lt _ (by omega)⟩ : Fin 8192) k)

/-- The normalised row projected. -/
def z (b : Fin 2) (s : ℕ) (j : Fin 2560) : EReal := vm (rms (P.row b s) (fun k => P.g (ix1 k))) (fun k l => P.w (ix2 k l)) j

/-- The gate's half of the projection. -/
def gate (b : Fin 2) (s : ℕ) (k : Fin 1280) : EReal := P.z b s ⟨k.val, by omega⟩

/-- The recurrence's half of the projection. -/
def u (b : Fin 2) (s : ℕ) (k : Fin 1280) : EReal := P.z b s ⟨1280 + k.val, by omega⟩

/-- That half `d` rows back, zero before the sequence's start. -/
def back (b : Fin 2) (s d : ℕ) (k : Fin 1280) : EReal := if s < d then 0 else P.u b (s - d) k

/-- The causal convolution of four taps. -/
def xc (b : Fin 2) (s : ℕ) (k : Fin 1280) : EReal :=
  P.cb (ix1 k) + P.cw (ix2 0 k) * P.back b s 3 k + P.cw (ix2 1 k) * P.back b s 2 k + P.cw (ix2 2 k) * P.back b s 1 k + P.cw (ix2 3 k) * P.back b s 0 k

/-- The recurrence gate. -/
def rg (b : Fin 2) (s : ℕ) (k : Fin 1280) : EReal := Ideal.logistic (head (P.xc b s) (fun h i j => P.wa (ix3 h i j)) k + P.ba (ix1 k))

/-- The input gate. -/
def ig (b : Fin 2) (s : ℕ) (k : Fin 1280) : EReal := Ideal.logistic (head (P.xc b s) (fun h i j => P.wx (ix3 h i j)) k + P.bx (ix1 k))

/-- The decay's logarithm. -/
def la (b : Fin 2) (s : ℕ) (k : Fin 1280) : EReal := logDecay (P.rg b s k) (P.ap (ix1 k))

/-- The decay. -/
def a (b : Fin 2) (s : ℕ) (k : Fin 1280) : EReal := Ideal.exp (P.la b s k)

/-- The drive. -/
def bt (b : Fin 2) (s : ℕ) (k : Fin 1280) : EReal := drive (P.la b s k) (P.ig b s k) (P.xc b s k)

/-- The state after `n` rows, from zero. -/
def h (b : Fin 2) (n : ℕ) (k : Fin 1280) : EReal := run (fun s => P.a b s k) (fun s => P.bt b s k) 0 0 n

theorem h_succ (b : Fin 2) (n : ℕ) (k : Fin 1280) : P.h b (n + 1) k = P.a b n k * P.h b n k + P.bt b n k := by
  show P.a b (0 + n) k * _ + P.bt b (0 + n) k = _
  rw [Nat.zero_add]; rfl

theorem h_add (b : Fin 2) (n w : ℕ) (k : Fin 1280) : P.h b (n + w) k = run (fun s => P.a b s k) (fun s => P.bt b s k) n (P.h b n k) w := by
  unfold h
  rw [run_add, Nat.zero_add]

theorem la_nonpos (b : Fin 2) (s : ℕ) (k : Fin 1280) : P.la b s k ≤ 0 := logDecay_nonpos _ _

/-- One element of the layer's result. -/
def out (b : Fin 2) (s : ℕ) (j : Fin 1024) : EReal :=
  P.row b s j + vm (fun k => P.h b (s + 1) k * gelu (P.gate b s k)) (fun k l => P.wo (ix2 k l)) j

/-- The layer's result, the two sequences flattened. -/
def arr : A2 16384 1024 := fun i => P.out (⟨(i 0).val / 8192, by have h : (i 0).val < 16384 := (i 0).isLt; omega⟩ : Fin 2) ((i 0).val % 8192) (i 1)

end LruW

end Cert.Rows
-- ==== Proof.LruRun.lean ====
module

public import proofs.«01_k».proof.Proof.Gen.LruIdeal.Skeleton
public import proofs.«01_k».proof.Proof.Gen.LruIdeal.Frame
public import Idealize.ShloMosaic.Lib.Exec
public import Idealize.ShloMosaic.Lib.Tactic
public import Idealize.ShloMosaic.Lib.VecWindow
public import Idealize.ShloMosaic.Lib.Pointwise

@[expose] public section

set_option maxRecDepth 16384

noncomputable section

namespace Cert.LruIdeal.Row

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows 8k..8k+7 of a 512-row buffer. -/
def rows (k : ℕ) (X : Vec F S512x1280 .f32) : Vec F S8x1280 .f32 :=
  fun y => if h : 8 * k + (y 0).val < 512 then X (ix2 (⟨8 * k + (y 0).val, h⟩ : Fin 512) (y 1)) else X (ix2 (0 : Fin 512) (y 1))

/-- A 512-row buffer with rows 8k..8k+7 replaced. -/
def putRows (k : ℕ) (X : Vec F S512x1280 .f32) (w : Vec F S8x1280 .f32) : Vec F S512x1280 .f32 :=
  VecWindow.put X ![8 * k, 0] S8x1280.size w

/-- The scratch of 520 rows: 8 rows of halo above 512 rows. -/
def bufOf (h : Vec F S8x1280 .f32) (z : Vec F S512x1280 .f32) : Vec F S520x1280 .f32 :=
  fun y => if hr : (y 0).val < 8 then h (ix2 (⟨(y 0).val, hr⟩ : Fin 8) (y 1))
    else z (ix2 (⟨(y 0).val - 8, by have h520 : (y 0).val < 520 := (y 0).isLt; omega⟩ : Fin 512) (y 1))

/-- The first 8 rows of the 520-row scratch. -/
def top8 (s : Vec F S520x1280 .f32) : Vec F S8x1280 .f32 :=
  fun y => s (ix2 (⟨(y 0).val, by have h8 : (y 0).val < 8 := (y 0).isLt; omega⟩ : Fin 520) (y 1))

/-- 512 rows of the 520-row scratch from row `o`. -/
def from_ (o : ℕ) (ho : o ≤ 8) (s : Vec F S520x1280 .f32) : Vec F S512x1280 .f32 :=
  fun y => s (ix2 (⟨o + (y 0).val, by have h8 : (y 0).val < 512 := (y 0).isLt; omega⟩ : Fin 520) (y 1))

/-- The last 8 rows of the 520-row scratch. -/
def last8 (s : Vec F S520x1280 .f32) : Vec F S8x1280 .f32 :=
  fun y => s (ix2 (⟨512 + (y 0).val, by have h8 : (y 0).val < 8 := (y 0).isLt; omega⟩ : Fin 520) (y 1))

/-- Row `o` of the convolution's taps. -/
def tapRow (o : Fin 4) (s : Vec F S4x1280 .f32) : Vec F S1x1280 .f32 :=
  fun y => s (ix2 o (y 1))

/-- Eight steps of the recurrence on the rows of trip `k`: the new carry and the rows of h written. -/
def tripV (v111 : IVec S8x1280 32) (A : Vec F S512x1280 .f32) (k : ℕ) (st : Vec F S1x1280 .f32 × Vec F S512x1280 .f32) :
    Vec F S1x1280 .f32 × Vec F S512x1280 .f32 :=
  (k0_pay3 (k0_pay11 v111 (rows k A) (rows k st.2)) (k0_pay12 v111 st.1 (rows k A)),
   putRows k st.2 (k0_pay2 (k0_pay11 v111 (rows k A) (rows k st.2)) (k0_pay12 v111 st.1 (rows k A))))

/-- The state before trip `k`. -/
def loopV (v111 : IVec S8x1280 32) (A B : Vec F S512x1280 .f32) (c0 : Vec F S1x1280 .f32) :
    ℕ → Vec F S1x1280 .f32 × Vec F S512x1280 .f32
  | 0 => (c0, B)
  | k + 1 => tripV v111 A k (loopV v111 A B c0 k)

theorem window_rows (X : Vec F S512x1280 .f32) (k : ℕ) (hk : k < 64) (inb) :
    VecWindow.window X ![8 * k, 0] S8x1280.size inb = rows k X := by
  funext y
  have h8 : (y 0).val < 8 := (y 0).isLt
  unfold rows
  rw [dif_pos (by omega)]
  unfold VecWindow.window
  congr 1
  funext a
  apply Fin.ext
  match a with
  | ⟨0, _⟩ => show 8 * k + 1 * (y 0).val = 8 * k + (y 0).val; omega
  | ⟨1, _⟩ => show 0 + 1 * (y 1).val = (y 1).val; omega

set_option maxHeartbeats 1000000 in
theorem trip (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S4x1280 .f32) (harg5 : arg5.IsWhole) (arg6 : Memref sig .tc .vmem S1x1280 .f32) (harg6 : arg6.IsWhole) (arg7 : Memref sig .tc .vmem S1280x1280 .bf16) (harg7 : arg7.IsWhole) (arg8 : Memref sig .tc .vmem S1x1280 .f32) (harg8 : arg8.IsWhole) (arg9 : Memref sig .tc .vmem S1280x1280 .bf16) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1280x1024 .bf16) (harg12 : arg12.IsWhole) (arg13 : Memref sig .tc .vmem S512x1024 .f32) (harg13 : arg13.IsWhole) (arg14 : Memref sig .tc .vmem S520x1280 .f32) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1x1280 .f32) (harg17 : arg17.IsWhole) (v111 : IVec S8x1280 32)
    (A B : Vec F S512x1280 .f32) (E : Set ℕ) (k : Fin k0_t1_loop.trips) (acc : Vec F S1x1280 .f32) :
    (iprop(owns (c : Thread nD τ) arg15 fullShare A ∗ owns (c : Thread nD τ) arg16 fullShare B) : sProp 𝕄)
      ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v111 k acc)
          (fun yld => iprop(⌜yld = (tripV v111 A k.val (acc, B)).1⌝ ∗ owns (c : Thread nD τ) arg15 fullShare A ∗ owns (c : Thread nD τ) arg16 fullShare (tripV v111 A k.val (acc, B)).2)) := by
  have hk : k.val < 64 := Nat.lt_of_lt_of_le k.isLt k0_t1_abs.2.1
  have hoff := k0_off1_eq k
  have inb' : ∀ a, (![8 * k.val, 0] : Fin 2 → ℕ) a + S8x1280.size a ≤ S512x1280.size a := fun a => by
    match a with
    | ⟨0, _⟩ => show 8 * k.val + 8 ≤ 512; omega
    | ⟨1, _⟩ => show 0 + 1280 ≤ 1280; omega
  have r15 : ∀ inb, arg15.view.readAt (Elt F) (Rect.unit (s := S512x1280) (k0_off1 k) S8x1280.size inb).toLoadRect (harg15.unread A) = rows k.val A := fun inb =>
    ((View.readAt_unit arg15.view (harg15.unread A) inb hoff inb').trans (by rw [harg15.read_unread])).trans (window_rows A k.val hk inb')
  have r16 : ∀ inb, arg16.view.readAt (Elt F) (Rect.unit (s := S512x1280) (k0_off1 k) S8x1280.size inb).toLoadRect (harg16.unread B) = rows k.val B := fun inb =>
    ((View.readAt_unit arg16.view (harg16.unread B) inb hoff inb').trans (by rw [harg16.read_unread])).trans (window_rows B k.val hk inb')
  unfold k0_t1_body
  simp only [k0_part1_eq_skeleton]
  unfold owns
  iintro ⟨⟨%f15, %hf15, H15⟩, ⟨%f16, %hf16, H16⟩⟩
  obtain rfl := harg15.eq_unread hf15; obtain rfl := harg16.eq_unread hf16
  sl_exec
  sl_step
  unfold trip.sl.r trip.sl.r_1
  isplitr
  · ipureintro; dsimp only [tripV]; try rw [r15, r16]
  isplitl [H15]
  · iexists _; isplitr; · ipureintro; exact harg15.read_unread A
    iexact H15
  iexists _; isplitr; swap
  · iexact H16
  ipureintro
  refine (View.read_writes_cons_put (off := k0_off1 k) (size := S8x1280.size) arg16.view (harg16.unread B) (k0_off1_inb k) _ [] hoff).trans ?_
  rw [View.writes_nil, harg16.read_unread]; dsimp only [tripV, putRows]; try rw [r15, r16]

/-- The loop: 64 trips of eight rows each. -/
theorem lp (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S4x1280 .f32) (harg5 : arg5.IsWhole) (arg6 : Memref sig .tc .vmem S1x1280 .f32) (harg6 : arg6.IsWhole) (arg7 : Memref sig .tc .vmem S1280x1280 .bf16) (harg7 : arg7.IsWhole) (arg8 : Memref sig .tc .vmem S1x1280 .f32) (harg8 : arg8.IsWhole) (arg9 : Memref sig .tc .vmem S1280x1280 .bf16) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1280x1024 .bf16) (harg12 : arg12.IsWhole) (arg13 : Memref sig .tc .vmem S512x1024 .f32) (harg13 : arg13.IsWhole) (arg14 : Memref sig .tc .vmem S520x1280 .f32) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1x1280 .f32) (harg17 : arg17.IsWhole) (v111 : IVec S8x1280 32)
    (A B : Vec F S512x1280 .f32) (E : Set ℕ) (c0 : Vec F S1x1280 .f32) :
    (iprop(owns (c : Thread nD τ) arg15 fullShare A ∗ owns (c : Thread nD τ) arg16 fullShare B) : sProp 𝕄)
      ⊢ wp frame (wpE (defs₀ (F := F)) Variants.none c none) E (Scf.Loop.for k0_t1_loop k0_t1_ok c0 (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v111))
          (fun yld => iprop(⌜yld = (loopV v111 A B c0 64).1⌝ ∗ owns (c : Thread nD τ) arg15 fullShare A ∗ owns (c : Thread nD τ) arg16 fullShare (loopV v111 A B c0 64).2)) := by
  have ht : k0_t1_loop.trips = 64 := by decide +kernel
  have step : ∀ (k : Fin (Scf.trips k0_t1_loop.lb k0_t1_loop.ub k0_t1_loop.st)) (acc : Vec F S1x1280 .f32),
      (iprop(⌜acc = (loopV v111 A B c0 k.val).1⌝ ∗ owns (c : Thread nD τ) arg15 fullShare A ∗ owns (c : Thread nD τ) arg16 fullShare (loopV v111 A B c0 k.val).2) : sProp 𝕄) ⊢
      wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v111 k acc) (fun acc => iprop(⌜acc = (loopV v111 A B c0 (k.val + 1)).1⌝ ∗ owns (c : Thread nD τ) arg15 fullShare A ∗ owns (c : Thread nD τ) arg16 fullShare (loopV v111 A B c0 (k.val + 1)).2)) := by
    intro k acc
    iintro ⟨%h, H15, H16⟩
    subst h
    iapply (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v111 A (loopV v111 A B c0 k.val).2 E k (loopV v111 A B c0 k.val).1)
    isplitl [H15]
    · iexact H15
    iexact H16
  have e : Scf.trips k0_t1_loop.lb k0_t1_loop.ub k0_t1_loop.st = 64 := ht
  have base := Scf.wp_for frame (wpE (defs₀ (F := F)) Variants.none c none) E k0_t1_loop.lb k0_t1_loop.ub k0_t1_loop.st k0_t1_ok c0 _
    (fun k acc => (iprop(⌜acc = (loopV v111 A B c0 k).1⌝ ∗ owns (c : Thread nD τ) arg15 fullShare A ∗ owns (c : Thread nD τ) arg16 fullShare (loopV v111 A B c0 k).2) : sProp 𝕄)) step
    (Q := fun yld => iprop(⌜yld = (loopV v111 A B c0 64).1⌝ ∗ owns (c : Thread nD τ) arg15 fullShare A ∗ owns (c : Thread nD τ) arg16 fullShare (loopV v111 A B c0 64).2))
  iintro ⟨H15, H16⟩
  iapply base
  isplitl [H15 H16]
  · isplitr
    · ipureintro; rfl
    isplitl [H15]
    · iexact H15
    iexact H16
  · rw [e]
    iintro %acc H
    iexact H

theorem rd {sp : Space} {S : Shape} {e : EltTy} (m : Memref sig .tc sp S e) (h : m.IsWhole) (X : Vec F S e)
    (off : Fin S.rank → ℕ) (inb) : m.view.readAt (Elt F) (Rect.unit off S.size inb).toLoadRect (h.unread X) = X :=
  (View.readAt_full m.view (h.unread X) inb).trans (h.read_unread X)

theorem wr {sp : Space} {S : Shape} {e : EltTy} (m : Memref sig .tc sp S e) (h : m.IsWhole) (X : Vec F S e)
    (off : Fin S.rank → ℕ) (inb) (w) : m.view.read (Elt F) (m.view.writes (Elt F) (h.unread X) [⟨Rect.unit off S.size inb, w⟩]) = w :=
  View.read_writes_full m.view (h.unread X) inb w []

theorem rdWin {sp : Space} {S : Shape} {e : EltTy} (m : Memref sig .tc sp S e) (h : m.IsWhole) (X : Vec F S e)
    (off size : Fin S.rank → ℕ) (inb) : m.view.readAt (Elt F) (Rect.unit off size inb).toLoadRect (h.unread X) = VecWindow.window X off size inb := by
  rw [View.readAt_unit m.view (h.unread X) inb rfl inb, h.read_unread]

theorem win_tap (cw : Vec F S4x1280 .f32) (o : Fin 4) (inb) : VecWindow.window cw ![o.val, 0] S1x1280.size inb = tapRow o cw := by
  funext y
  have h1 : (y 0).val < 1 := (y 0).isLt
  unfold tapRow VecWindow.window
  congr 1
  funext a
  apply Fin.ext
  match a with
  | ⟨0, _⟩ => show o.val + 1 * (y 0).val = o.val; omega
  | ⟨1, _⟩ => show 0 + 1 * (y 1).val = (y 1).val; omega

theorem tap0 (cw : Vec F S4x1280 .f32) (inb) : VecWindow.window cw ![0, 0] S1x1280.size inb = tapRow 0 cw := win_tap cw 0 inb

theorem tap1 (cw : Vec F S4x1280 .f32) (inb) : VecWindow.window cw ![1, 0] S1x1280.size inb = tapRow 1 cw := win_tap cw 1 inb

theorem tap2 (cw : Vec F S4x1280 .f32) (inb) : VecWindow.window cw ![2, 0] S1x1280.size inb = tapRow 2 cw := win_tap cw 2 inb

theorem tap3 (cw : Vec F S4x1280 .f32) (inb) : VecWindow.window cw ![3, 0] S1x1280.size inb = tapRow 3 cw := win_tap cw 3 inb

theorem read_put8 {sp : Space} (m : Memref sig .tc sp S520x1280 .f32) (f : m.view.ty.Contents (Elt F)) (w : Vec F S512x1280 .f32) (L) (inb) :
    m.view.read (Elt F) (m.view.writes (Elt F) f (⟨Rect.unit ![8, 0] S512x1280.size inb, w⟩ :: L)) = VecWindow.put (m.view.read (Elt F) (m.view.writes (Elt F) f L)) ![8, 0] S512x1280.size w :=
  View.read_writes_cons_put m.view f inb w L rfl

theorem read_put0 {sp : Space} (m : Memref sig .tc sp S520x1280 .f32) (f : m.view.ty.Contents (Elt F)) (w : Vec F S8x1280 .f32) (L) (inb) :
    m.view.read (Elt F) (m.view.writes (Elt F) f (⟨Rect.unit ![0, 0] S8x1280.size inb, w⟩ :: L)) = VecWindow.put (m.view.read (Elt F) (m.view.writes (Elt F) f L)) ![0, 0] S8x1280.size w :=
  View.read_writes_cons_put m.view f inb w L rfl

theorem win_from (s : Vec F S520x1280 .f32) (o : ℕ) (ho : o ≤ 8) (inb) : VecWindow.window s ![o, 0] S512x1280.size inb = from_ o ho s := by
  funext y
  unfold from_ VecWindow.window
  congr 1
  funext a
  apply Fin.ext
  match a with
  | ⟨0, _⟩ => show o + 1 * (y 0).val = o + (y 0).val; omega
  | ⟨1, _⟩ => show 0 + 1 * (y 1).val = (y 1).val; omega

theorem win_last (s : Vec F S520x1280 .f32) (inb) : VecWindow.window s ![512, 0] S8x1280.size inb = last8 s := by
  funext y
  unfold last8 VecWindow.window
  congr 1
  funext a
  apply Fin.ext
  match a with
  | ⟨0, _⟩ => show 512 + 1 * (y 0).val = 512 + (y 0).val; omega
  | ⟨1, _⟩ => show 0 + 1 * (y 1).val = (y 1).val; omega

theorem put_bufOf (s : Vec F S520x1280 .f32) (z : Vec F S512x1280 .f32) :
    VecWindow.put s ![8, 0] S512x1280.size z = bufOf (top8 s) z := by
  funext y
  have h520 : (y 0).val < 520 := (y 0).isLt
  have h1280 : (y 1).val < 1280 := (y 1).isLt
  unfold VecWindow.put bufOf
  by_cases hr : (y 0).val < 8
  · rw [dif_neg (fun h => by have := (h 0).1; have e : (![8, 0] : Fin 2 → ℕ) 0 = 8 := rfl; change 8 ≤ (y 0).val at this; omega), dif_pos hr]
    unfold top8
    congr 1
    funext a
    match a with
    | ⟨0, _⟩ => rfl
    | ⟨1, _⟩ => rfl
  · rw [dif_pos (fun a => by
      match a with
      | ⟨0, _⟩ => show 8 ≤ (y 0).val ∧ (y 0).val < 8 + 512; omega
      | ⟨1, _⟩ => show 0 ≤ (y 1).val ∧ (y 1).val < 0 + 1280; omega), dif_neg hr]
    congr 1
    funext a
    apply Fin.ext
    match a with
    | ⟨0, _⟩ => rfl
    | ⟨1, _⟩ => rfl

theorem top8_put (s : Vec F S520x1280 .f32) (h : Vec F S8x1280 .f32) :
    top8 (VecWindow.put s ![0, 0] S8x1280.size h) = h := by
  funext y
  have h8 : (y 0).val < 8 := (y 0).isLt
  have h1280 : (y 1).val < 1280 := (y 1).isLt
  unfold VecWindow.put top8
  refine (dif_pos (fun a => by
      match a with
      | ⟨0, _⟩ => show 0 ≤ (y 0).val ∧ (y 0).val < 0 + 8; omega
      | ⟨1, _⟩ => show 0 ≤ (y 1).val ∧ (y 1).val < 0 + 1280; omega)).trans ?_
  congr 1
  funext a
  apply Fin.ext
  match a with
  | ⟨0, _⟩ => rfl
  | ⟨1, _⟩ => rfl

set_option maxHeartbeats 1000000 in
theorem p2A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S4x1280 .f32) (harg5 : arg5.IsWhole) (arg6 : Memref sig .tc .vmem S1x1280 .f32) (harg6 : arg6.IsWhole) (arg7 : Memref sig .tc .vmem S1280x1280 .bf16) (harg7 : arg7.IsWhole) (arg8 : Memref sig .tc .vmem S1x1280 .f32) (harg8 : arg8.IsWhole) (arg9 : Memref sig .tc .vmem S1280x1280 .bf16) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1280x1024 .bf16) (harg12 : arg12.IsWhole) (arg13 : Memref sig .tc .vmem S512x1024 .f32) (harg13 : arg13.IsWhole) (arg14 : Memref sig .tc .vmem S520x1280 .f32) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1x1280 .f32) (harg17 : arg17.IsWhole)
    (hc : (Scalar.cmpi .ne (Scalar.extui (Scalar.cmpi .eq (BitVec.ofNat 32 (i 1).val) 0#32)) 0#32) = 1#1)
    (x : Vec F S512x1024 .f32) (g : Vec F S1x1024 .f32) (w : Vec F S1024x2560 .bf16) (cw : Vec F S4x1280 .f32) (cb : Vec F S1x1280 .f32)
    (s : Vec F S520x1280 .f32) (cc : Vec F S1x1280 .f32) (E : Set ℕ) :
    (iprop(owns (c : Thread nD τ) arg2 fullShare x ∗ owns (c : Thread nD τ) arg3 fullShare g ∗ owns (c : Thread nD τ) arg4 fullShare w ∗ owns (c : Thread nD τ) arg5 fullShare cw ∗ owns (c : Thread nD τ) arg6 fullShare cb ∗ owns (c : Thread nD τ) arg14 fullShare s ∗ owns (c : Thread nD τ) arg17 fullShare cc) : sProp 𝕄)
      ⊢ wp frame (wpE (defs₀ (F := F)) Variants.none c none) E (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun r => iprop(⌜r = ⟨k0_pay15 x, k0_pay17 x g w, k0_pay19 cb (tapRow 3 cw) (k0_pay18 x g w)⟩⌝ ∗
            owns (c : Thread nD τ) arg2 fullShare x ∗ owns (c : Thread nD τ) arg3 fullShare g ∗ owns (c : Thread nD τ) arg4 fullShare w ∗ owns (c : Thread nD τ) arg5 fullShare cw ∗ owns (c : Thread nD τ) arg6 fullShare cb ∗ owns (c : Thread nD τ) arg14 fullShare (bufOf k0_pay13 (k0_pay18 x g w)) ∗ owns (c : Thread nD τ) arg17 fullShare (k0_pay14 (F := F)))) := by
  simp only [k0_part2_eq_skeleton]
  unfold k0_part2_skel
  unfold owns
  iintro ⟨⟨%f2, %hf2, H2⟩, ⟨%f3, %hf3, H3⟩, ⟨%f4, %hf4, H4⟩, ⟨%f5, %hf5, H5⟩, ⟨%f6, %hf6, H6⟩, ⟨%f14, %hf14, H14⟩, ⟨%f17, %hf17, H17⟩⟩
  obtain rfl := harg2.eq_unread hf2; obtain rfl := harg3.eq_unread hf3; obtain rfl := harg4.eq_unread hf4; obtain rfl := harg5.eq_unread hf5; obtain rfl := harg6.eq_unread hf6; obtain rfl := harg14.eq_unread hf14; obtain rfl := harg17.eq_unread hf17
  sl_exec (disch := first | exact hc)
  sl_step
  unfold p2A.sl.v31 p2A.sl.H14_2
  isplitr
  · ipureintro
    rw [View.readCov_cons_toLoadRect, rd, rd, rd, rd, rdWin, tap3]
  isplitl [H2]
  · iexists _; isplitr; swap
    · iexact H2
    ipureintro; exact harg2.read_unread _
  isplitl [H3]
  · iexists _; isplitr; swap
    · iexact H3
    ipureintro; exact harg3.read_unread _
  isplitl [H4]
  · iexists _; isplitr; swap
    · iexact H4
    ipureintro; exact harg4.read_unread _
  isplitl [H5]
  · iexists _; isplitr; swap
    · iexact H5
    ipureintro; exact harg5.read_unread _
  isplitl [H6]
  · iexists _; isplitr; swap
    · iexact H6
    ipureintro; exact harg6.read_unread _
  isplitl [H14]
  · iexists _; isplitr; swap
    · iexact H14
    ipureintro; rw [read_put8, read_put0, put_bufOf, top8_put, rd, rd, rd]
  iexists _; isplitr; swap
  · iexact H17
  ipureintro; exact wr _ _ _ _ _ _

set_option maxHeartbeats 1000000 in
theorem p2B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S4x1280 .f32) (harg5 : arg5.IsWhole) (arg6 : Memref sig .tc .vmem S1x1280 .f32) (harg6 : arg6.IsWhole) (arg7 : Memref sig .tc .vmem S1280x1280 .bf16) (harg7 : arg7.IsWhole) (arg8 : Memref sig .tc .vmem S1x1280 .f32) (harg8 : arg8.IsWhole) (arg9 : Memref sig .tc .vmem S1280x1280 .bf16) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1280x1024 .bf16) (harg12 : arg12.IsWhole) (arg13 : Memref sig .tc .vmem S512x1024 .f32) (harg13 : arg13.IsWhole) (arg14 : Memref sig .tc .vmem S520x1280 .f32) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1x1280 .f32) (harg17 : arg17.IsWhole)
    (hc : ¬ (Scalar.cmpi .ne (Scalar.extui (Scalar.cmpi .eq (BitVec.ofNat 32 (i 1).val) 0#32)) 0#32) = 1#1)
    (x : Vec F S512x1024 .f32) (g : Vec F S1x1024 .f32) (w : Vec F S1024x2560 .bf16) (cw : Vec F S4x1280 .f32) (cb : Vec F S1x1280 .f32)
    (s : Vec F S520x1280 .f32) (E : Set ℕ) :
    (iprop(owns (c : Thread nD τ) arg2 fullShare x ∗ owns (c : Thread nD τ) arg3 fullShare g ∗ owns (c : Thread nD τ) arg4 fullShare w ∗ owns (c : Thread nD τ) arg5 fullShare cw ∗ owns (c : Thread nD τ) arg6 fullShare cb ∗ owns (c : Thread nD τ) arg14 fullShare s) : sProp 𝕄)
      ⊢ wp frame (wpE (defs₀ (F := F)) Variants.none c none) E (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun r => iprop(⌜r = ⟨k0_pay15 x, k0_pay17 x g w, k0_pay19 cb (tapRow 3 cw) (k0_pay18 x g w)⟩⌝ ∗
            owns (c : Thread nD τ) arg2 fullShare x ∗ owns (c : Thread nD τ) arg3 fullShare g ∗ owns (c : Thread nD τ) arg4 fullShare w ∗ owns (c : Thread nD τ) arg5 fullShare cw ∗ owns (c : Thread nD τ) arg6 fullShare cb ∗ owns (c : Thread nD τ) arg14 fullShare (bufOf (top8 s) (k0_pay18 x g w)))) := by
  simp only [k0_part2_eq_skeleton]
  unfold k0_part2_skel
  unfold owns
  iintro ⟨⟨%f2, %hf2, H2⟩, ⟨%f3, %hf3, H3⟩, ⟨%f4, %hf4, H4⟩, ⟨%f5, %hf5, H5⟩, ⟨%f6, %hf6, H6⟩, ⟨%f14, %hf14, H14⟩⟩
  obtain rfl := harg2.eq_unread hf2; obtain rfl := harg3.eq_unread hf3; obtain rfl := harg4.eq_unread hf4; obtain rfl := harg5.eq_unread hf5; obtain rfl := harg6.eq_unread hf6; obtain rfl := harg14.eq_unread hf14
  sl_exec (disch := first | exact hc)
  sl_step
  unfold p2B.sl.v31 p2B.sl.H14_1
  isplitr
  · ipureintro
    rw [View.readCov_cons_toLoadRect, rd, rd, rd, rd, rdWin, tap3]
  isplitl [H2]
  · iexists _; isplitr; swap
    · iexact H2
    ipureintro; exact harg2.read_unread _
  isplitl [H3]
  · iexists _; isplitr; swap
    · iexact H3
    ipureintro; exact harg3.read_unread _
  isplitl [H4]
  · iexists _; isplitr; swap
    · iexact H4
    ipureintro; exact harg4.read_unread _
  isplitl [H5]
  · iexists _; isplitr; swap
    · iexact H5
    ipureintro; exact harg5.read_unread _
  isplitl [H6]
  · iexists _; isplitr; swap
    · iexact H6
    ipureintro; exact harg6.read_unread _
  iexists _; isplitr; swap
  · iexact H14
  ipureintro; rw [read_put8, View.writes_nil, harg14.read_unread, put_bufOf, rd, rd, rd]

/-- The first part whichever way its condition goes: the scratch holds `halo` above the tile's rows, the carry is `ca0`. -/
theorem p2 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S4x1280 .f32) (harg5 : arg5.IsWhole) (arg6 : Memref sig .tc .vmem S1x1280 .f32) (harg6 : arg6.IsWhole) (arg7 : Memref sig .tc .vmem S1280x1280 .bf16) (harg7 : arg7.IsWhole) (arg8 : Memref sig .tc .vmem S1x1280 .f32) (harg8 : arg8.IsWhole) (arg9 : Memref sig .tc .vmem S1280x1280 .bf16) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1280x1024 .bf16) (harg12 : arg12.IsWhole) (arg13 : Memref sig .tc .vmem S512x1024 .f32) (harg13 : arg13.IsWhole) (arg14 : Memref sig .tc .vmem S520x1280 .f32) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1x1280 .f32) (harg17 : arg17.IsWhole)
    (x : Vec F S512x1024 .f32) (g : Vec F S1x1024 .f32) (w : Vec F S1024x2560 .bf16) (cw : Vec F S4x1280 .f32) (cb : Vec F S1x1280 .f32) (s : Vec F S520x1280 .f32) (cc : Vec F S1x1280 .f32) (halo : Vec F S8x1280 .f32) (ca0 : Vec F S1x1280 .f32)
    (hA : (Scalar.cmpi .ne (Scalar.extui (Scalar.cmpi .eq (BitVec.ofNat 32 (i 1).val) 0#32)) 0#32) = 1#1 → halo = k0_pay13 ∧ ca0 = k0_pay14) (hB : ¬ (Scalar.cmpi .ne (Scalar.extui (Scalar.cmpi .eq (BitVec.ofNat 32 (i 1).val) 0#32)) 0#32) = 1#1 → top8 s = halo ∧ cc = ca0) (E : Set ℕ) :
    (iprop(owns (c : Thread nD τ) arg2 fullShare x ∗ owns (c : Thread nD τ) arg3 fullShare g ∗ owns (c : Thread nD τ) arg4 fullShare w ∗ owns (c : Thread nD τ) arg5 fullShare cw ∗ owns (c : Thread nD τ) arg6 fullShare cb ∗ owns (c : Thread nD τ) arg14 fullShare s ∗ owns (c : Thread nD τ) arg17 fullShare cc) : sProp 𝕄)
      ⊢ wp frame (wpE (defs₀ (F := F)) Variants.none c none) E (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun r => iprop(⌜r = ⟨k0_pay15 x, k0_pay17 x g w, k0_pay19 cb (tapRow 3 cw) (k0_pay18 x g w)⟩⌝ ∗
            owns (c : Thread nD τ) arg2 fullShare x ∗ owns (c : Thread nD τ) arg3 fullShare g ∗ owns (c : Thread nD τ) arg4 fullShare w ∗ owns (c : Thread nD τ) arg5 fullShare cw ∗ owns (c : Thread nD τ) arg6 fullShare cb ∗ owns (c : Thread nD τ) arg14 fullShare (bufOf halo (k0_pay18 x g w)) ∗ owns (c : Thread nD τ) arg17 fullShare ca0)) := by
  by_cases hc : (Scalar.cmpi .ne (Scalar.extui (Scalar.cmpi .eq (BitVec.ofNat 32 (i 1).val) 0#32)) 0#32) = 1#1
  · obtain ⟨h1, h2⟩ := hA hc
    subst h1; subst h2
    exact p2A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x g w cw cb s cc E
  · obtain ⟨h1, h2⟩ := hB hc
    subst h1; subst h2
    iintro ⟨H2, H3, H4, H5, H6, H14, H17⟩
    iapply (wp_wand_r frame (wpE (defs₀ (F := F)) Variants.none c none) E)
    isplitl [H2 H3 H4 H5 H6 H14]
    · iapply (p2B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x g w cw cb s E)
      isplitl [H2]; · iexact H2
      isplitl [H3]; · iexact H3
      isplitl [H4]; · iexact H4
      isplitl [H5]; · iexact H5
      isplitl [H6]; · iexact H6
      iexact H14
    iintro %r ⟨%hr, H2, H3, H4, H5, H6, H14⟩
    isplitr; · ipureintro; exact hr
    isplitl [H2]; · iexact H2
    isplitl [H3]; · iexact H3
    isplitl [H4]; · iexact H4
    isplitl [H5]; · iexact H5
    isplitl [H6]; · iexact H6
    isplitl [H14]; · iexact H14
    iexact H17

set_option maxHeartbeats 1000000 in
theorem p3 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S4x1280 .f32) (harg5 : arg5.IsWhole) (arg6 : Memref sig .tc .vmem S1x1280 .f32) (harg6 : arg6.IsWhole) (arg7 : Memref sig .tc .vmem S1280x1280 .bf16) (harg7 : arg7.IsWhole) (arg8 : Memref sig .tc .vmem S1x1280 .f32) (harg8 : arg8.IsWhole) (arg9 : Memref sig .tc .vmem S1280x1280 .bf16) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1280x1024 .bf16) (harg12 : arg12.IsWhole) (arg13 : Memref sig .tc .vmem S512x1024 .f32) (harg13 : arg13.IsWhole) (arg14 : Memref sig .tc .vmem S520x1280 .f32) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1x1280 .f32) (harg17 : arg17.IsWhole)
    (cw : Vec F S4x1280 .f32) (wa : Vec F S1280x1280 .bf16) (ba : Vec F S1x1280 .f32) (wx : Vec F S1280x1280 .bf16) (bx : Vec F S1x1280 .f32) (buf : Vec F S520x1280 .f32) (v35 : FVec F S512x1280 .f32) (E : Set ℕ) :
    (iprop(owns (c : Thread nD τ) arg5 fullShare cw ∗ owns (c : Thread nD τ) arg7 fullShare wa ∗ owns (c : Thread nD τ) arg8 fullShare ba ∗ owns (c : Thread nD τ) arg9 fullShare wx ∗ owns (c : Thread nD τ) arg10 fullShare bx ∗ owns (c : Thread nD τ) arg14 fullShare buf) : sProp 𝕄)
      ⊢ wp frame (wpE (defs₀ (F := F)) Variants.none c none) E (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v35)
          (fun r => iprop(⌜r = ⟨k0_pay20 v35 (tapRow 0 cw) (from_ 5 (by omega) buf) (tapRow 1 cw) (from_ 6 (by omega) buf) (tapRow 2 cw) (from_ 7 (by omega) buf), k0_pay23 v35 (tapRow 0 cw) (from_ 5 (by omega) buf) (tapRow 1 cw) (from_ 6 (by omega) buf) (tapRow 2 cw) (from_ 7 (by omega) buf) wa ba, k0_pay24 v35 (tapRow 0 cw) (from_ 5 (by omega) buf) (tapRow 1 cw) (from_ 6 (by omega) buf) (tapRow 2 cw) (from_ 7 (by omega) buf) wx, k0_pay25 bx⟩⌝ ∗
            owns (c : Thread nD τ) arg5 fullShare cw ∗ owns (c : Thread nD τ) arg7 fullShare wa ∗ owns (c : Thread nD τ) arg8 fullShare ba ∗ owns (c : Thread nD τ) arg9 fullShare wx ∗ owns (c : Thread nD τ) arg10 fullShare bx ∗ owns (c : Thread nD τ) arg14 fullShare (VecWindow.put buf ![0, 0] S8x1280.size (k0_pay21 (last8 buf))))) := by
  simp only [k0_part3_eq_skeleton]
  unfold k0_part3_skel
  unfold owns
  iintro ⟨⟨%f5, %hf5, H5⟩, ⟨%f7, %hf7, H7⟩, ⟨%f8, %hf8, H8⟩, ⟨%f9, %hf9, H9⟩, ⟨%f10, %hf10, H10⟩, ⟨%f14, %hf14, H14⟩⟩
  obtain rfl := harg5.eq_unread hf5; obtain rfl := harg7.eq_unread hf7; obtain rfl := harg8.eq_unread hf8; obtain rfl := harg9.eq_unread hf9; obtain rfl := harg10.eq_unread hf10; obtain rfl := harg14.eq_unread hf14
  sl_exec
  sl_step
  isplitr
  · ipureintro
    rw [rd arg7 harg7, rd arg8 harg8, rd arg9 harg9, rd arg10 harg10]
    repeat rw [rdWin]
    rw [tap0, tap1, tap2, win_from _ 5 (by omega), win_from _ 6 (by omega), win_from _ 7 (by omega)]
  isplitl [H5]
  · iexists _; isplitr; swap
    · iexact H5
    ipureintro; exact harg5.read_unread _
  isplitl [H7]
  · iexists _; isplitr; swap
    · iexact H7
    ipureintro; exact harg7.read_unread _
  isplitl [H8]
  · iexists _; isplitr; swap
    · iexact H8
    ipureintro; exact harg8.read_unread _
  isplitl [H9]
  · iexists _; isplitr; swap
    · iexact H9
    ipureintro; exact harg9.read_unread _
  isplitl [H10]
  · iexists _; isplitr; swap
    · iexact H10
    ipureintro; exact harg10.read_unread _
  iexists _; isplitr; swap
  · iexact H14
  ipureintro; rw [read_put0, View.writes_nil, harg14.read_unread, rdWin, win_last]

set_option maxHeartbeats 1000000 in
theorem p4 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S4x1280 .f32) (harg5 : arg5.IsWhole) (arg6 : Memref sig .tc .vmem S1x1280 .f32) (harg6 : arg6.IsWhole) (arg7 : Memref sig .tc .vmem S1280x1280 .bf16) (harg7 : arg7.IsWhole) (arg8 : Memref sig .tc .vmem S1x1280 .f32) (harg8 : arg8.IsWhole) (arg9 : Memref sig .tc .vmem S1280x1280 .bf16) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1280x1024 .bf16) (harg12 : arg12.IsWhole) (arg13 : Memref sig .tc .vmem S512x1024 .f32) (harg13 : arg13.IsWhole) (arg14 : Memref sig .tc .vmem S520x1280 .f32) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1x1280 .f32) (harg17 : arg17.IsWhole)
    (ap : Vec F S1x1280 .f32) (a0 b0 : Vec F S512x1280 .f32) (cc : Vec F S1x1280 .f32) (v50 v63 v66 : FVec F S512x1280 .f32) (v68 : FVec F S1x1280 .f32) (E : Set ℕ) :
    (iprop(owns (c : Thread nD τ) arg11 fullShare ap ∗ owns (c : Thread nD τ) arg15 fullShare a0 ∗ owns (c : Thread nD τ) arg16 fullShare b0 ∗ owns (c : Thread nD τ) arg17 fullShare cc) : sProp 𝕄)
      ⊢ wp frame (wpE (defs₀ (F := F)) Variants.none c none) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v50 v63 v66 v68)
          (fun r => iprop(⌜r = ⟨iota .tc S8x1280 32 [0] iota_S8x1280_d0_w32, cc⟩⌝ ∗
            owns (c : Thread nD τ) arg11 fullShare ap ∗ owns (c : Thread nD τ) arg15 fullShare (k0_pay28 v63 ap) ∗ owns (c : Thread nD τ) arg16 fullShare (k0_pay29 v50 v63 v66 v68 ap) ∗ owns (c : Thread nD τ) arg17 fullShare cc)) := by
  simp only [k0_part4_eq_skeleton]
  unfold k0_part4_skel
  unfold owns
  iintro ⟨⟨%f11, %hf11, H11⟩, ⟨%f15, %hf15, H15⟩, ⟨%f16, %hf16, H16⟩, ⟨%f17, %hf17, H17⟩⟩
  obtain rfl := harg11.eq_unread hf11; obtain rfl := harg15.eq_unread hf15; obtain rfl := harg16.eq_unread hf16; obtain rfl := harg17.eq_unread hf17
  sl_exec
  sl_step
  isplitr
  · ipureintro
    unfold p4.sl.v111; rw [rd]
  isplitl [H11]
  · iexists _; isplitr; swap
    · iexact H11
    ipureintro; exact harg11.read_unread _
  isplitl [H15]
  · iexists _; isplitr; swap
    · iexact H15
    ipureintro; rw [wr, rd]
  isplitl [H16]
  · iexists _; isplitr; swap
    · iexact H16
    ipureintro; rw [wr, rd]
  iexists _; isplitr; swap
  · iexact H17
  ipureintro; exact harg17.read_unread _

/-- The tile's rows of the projection's second half under the halo. -/
def bufV (halo : Vec F S8x1280 .f32) (x : Vec F S512x1024 .f32) (g : Vec F S1x1024 .f32) (w : Vec F S1024x2560 .bf16) : Vec F S520x1280 .f32 := bufOf halo (k0_pay18 x g w)

/-- The part of the convolution the tile's own rows give. -/
def v35V (x : Vec F S512x1024 .f32) (g : Vec F S1x1024 .f32) (w : Vec F S1024x2560 .bf16) (cw : Vec F S4x1280 .f32) (cb : Vec F S1x1280 .f32) : FVec F S512x1280 .f32 := k0_pay19 cb (tapRow 3 cw) (k0_pay18 x g w)

/-- The coefficients of the recurrence. -/
def AV (buf : Vec F S520x1280 .f32) (v35 : FVec F S512x1280 .f32) (cw : Vec F S4x1280 .f32) (wa : Vec F S1280x1280 .bf16) (ba : Vec F S1x1280 .f32) (ap : Vec F S1x1280 .f32) : Vec F S512x1280 .f32 :=
  k0_pay28 (k0_pay23 v35 (tapRow 0 cw) (from_ 5 (by omega) buf) (tapRow 1 cw) (from_ 6 (by omega) buf) (tapRow 2 cw) (from_ 7 (by omega) buf) wa ba) ap

/-- The driving terms of the recurrence. -/
def BV (buf : Vec F S520x1280 .f32) (v35 : FVec F S512x1280 .f32) (cw : Vec F S4x1280 .f32) (wa : Vec F S1280x1280 .bf16) (ba : Vec F S1x1280 .f32) (wx : Vec F S1280x1280 .bf16) (bx : Vec F S1x1280 .f32) (ap : Vec F S1x1280 .f32) : Vec F S512x1280 .f32 :=
  k0_pay29 (k0_pay20 v35 (tapRow 0 cw) (from_ 5 (by omega) buf) (tapRow 1 cw) (from_ 6 (by omega) buf) (tapRow 2 cw) (from_ 7 (by omega) buf)) (k0_pay23 v35 (tapRow 0 cw) (from_ 5 (by omega) buf) (tapRow 1 cw) (from_ 6 (by omega) buf) (tapRow 2 cw) (from_ 7 (by omega) buf) wa ba) (k0_pay24 v35 (tapRow 0 cw) (from_ 5 (by omega) buf) (tapRow 1 cw) (from_ 6 (by omega) buf) (tapRow 2 cw) (from_ 7 (by omega) buf) wx) (k0_pay25 bx) ap

/-- The last carry and the tile's states. -/
def LV (halo : Vec F S8x1280 .f32) (ca0 : Vec F S1x1280 .f32) (x : Vec F S512x1024 .f32) (g : Vec F S1x1024 .f32) (w : Vec F S1024x2560 .bf16) (cw : Vec F S4x1280 .f32) (cb : Vec F S1x1280 .f32) (wa : Vec F S1280x1280 .bf16) (ba : Vec F S1x1280 .f32) (wx : Vec F S1280x1280 .bf16) (bx : Vec F S1x1280 .f32) (ap : Vec F S1x1280 .f32) : Vec F S1x1280 .f32 × Vec F S512x1280 .f32 :=
  loopV (iota .tc S8x1280 32 [0] iota_S8x1280_d0_w32) (AV (bufV halo x g w) (v35V x g w cw cb) cw wa ba ap)
    (BV (bufV halo x g w) (v35V x g w cw cb) cw wa ba wx bx ap) ca0 64

/-- The tile's output. -/
def outV (halo : Vec F S8x1280 .f32) (ca0 : Vec F S1x1280 .f32) (x : Vec F S512x1024 .f32) (g : Vec F S1x1024 .f32) (w : Vec F S1024x2560 .bf16) (cw : Vec F S4x1280 .f32) (cb : Vec F S1x1280 .f32) (wa : Vec F S1280x1280 .bf16) (ba : Vec F S1x1280 .f32) (wx : Vec F S1280x1280 .bf16) (bx : Vec F S1x1280 .f32) (ap : Vec F S1x1280 .f32) (wo : Vec F S1280x1024 .bf16) : Vec F S512x1024 .f32 :=
  k0_pay5 (k0_pay15 x) (k0_pay17 x g w) (LV halo ca0 x g w cw cb wa ba wx bx ap).2 wo

/-- The halo left for the next tile. -/
def haloV (halo : Vec F S8x1280 .f32) (x : Vec F S512x1024 .f32) (g : Vec F S1x1024 .f32) (w : Vec F S1024x2560 .bf16) : Vec F S8x1280 .f32 := k0_pay21 (last8 (bufV halo x g w))

/-- The carry left for the next tile. -/
def carryV (halo : Vec F S8x1280 .f32) (ca0 : Vec F S1x1280 .f32) (x : Vec F S512x1024 .f32) (g : Vec F S1x1024 .f32) (w : Vec F S1024x2560 .bf16) (cw : Vec F S4x1280 .f32) (cb : Vec F S1x1280 .f32) (wa : Vec F S1280x1280 .bf16) (ba : Vec F S1x1280 .f32) (wx : Vec F S1280x1280 .bf16) (bx : Vec F S1x1280 .f32) (ap : Vec F S1x1280 .f32) : Vec F S1x1280 .f32 :=
  k0_pay4 (LV halo ca0 x g w cw cb wa ba wx bx ap).1

set_option maxHeartbeats 4000000 in
/-- One grid point's body: from the inputs, the scratch whose first rows are the halo and the carry, the output, the next
halo and the next carry. -/
theorem body (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S4x1280 .f32) (harg5 : arg5.IsWhole) (arg6 : Memref sig .tc .vmem S1x1280 .f32) (harg6 : arg6.IsWhole) (arg7 : Memref sig .tc .vmem S1280x1280 .bf16) (harg7 : arg7.IsWhole) (arg8 : Memref sig .tc .vmem S1x1280 .f32) (harg8 : arg8.IsWhole) (arg9 : Memref sig .tc .vmem S1280x1280 .bf16) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1280x1024 .bf16) (harg12 : arg12.IsWhole) (arg13 : Memref sig .tc .vmem S512x1024 .f32) (harg13 : arg13.IsWhole) (arg14 : Memref sig .tc .vmem S520x1280 .f32) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1x1280 .f32) (harg17 : arg17.IsWhole)
    (x : Vec F S512x1024 .f32) (g : Vec F S1x1024 .f32) (w : Vec F S1024x2560 .bf16) (cw : Vec F S4x1280 .f32) (cb : Vec F S1x1280 .f32) (wa : Vec F S1280x1280 .bf16) (ba : Vec F S1x1280 .f32) (wx : Vec F S1280x1280 .bf16) (bx : Vec F S1x1280 .f32) (ap : Vec F S1x1280 .f32) (wo : Vec F S1280x1024 .bf16) (o : Vec F S512x1024 .f32) (s : Vec F S520x1280 .f32) (a0 b0 : Vec F S512x1280 .f32) (cc : Vec F S1x1280 .f32)
    (halo : Vec F S8x1280 .f32) (ca0 : Vec F S1x1280 .f32)
    (hA : (Scalar.cmpi .ne (Scalar.extui (Scalar.cmpi .eq (BitVec.ofNat 32 (i 1).val) 0#32)) 0#32) = 1#1 → halo = k0_pay13 ∧ ca0 = k0_pay14) (hB : ¬ (Scalar.cmpi .ne (Scalar.extui (Scalar.cmpi .eq (BitVec.ofNat 32 (i 1).val) 0#32)) 0#32) = 1#1 → top8 s = halo ∧ cc = ca0) (E : Set ℕ) :
    (iprop(owns (c : Thread nD τ) arg2 fullShare x ∗ owns (c : Thread nD τ) arg3 fullShare g ∗ owns (c : Thread nD τ) arg4 fullShare w ∗ owns (c : Thread nD τ) arg5 fullShare cw ∗ owns (c : Thread nD τ) arg6 fullShare cb ∗ owns (c : Thread nD τ) arg7 fullShare wa ∗ owns (c : Thread nD τ) arg8 fullShare ba ∗ owns (c : Thread nD τ) arg9 fullShare wx ∗ owns (c : Thread nD τ) arg10 fullShare bx ∗ owns (c : Thread nD τ) arg11 fullShare ap ∗ owns (c : Thread nD τ) arg12 fullShare wo ∗ owns (c : Thread nD τ) arg13 fullShare o ∗ owns (c : Thread nD τ) arg14 fullShare s ∗ owns (c : Thread nD τ) arg15 fullShare a0 ∗ owns (c : Thread nD τ) arg16 fullShare b0 ∗ owns (c : Thread nD τ) arg17 fullShare cc) : sProp 𝕄)
      ⊢ wp frame (wpE (defs₀ (F := F)) Variants.none c none) E (cc0_lru (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop(owns (c : Thread nD τ) arg2 fullShare x ∗ owns (c : Thread nD τ) arg3 fullShare g ∗ owns (c : Thread nD τ) arg4 fullShare w ∗ owns (c : Thread nD τ) arg5 fullShare cw ∗ owns (c : Thread nD τ) arg6 fullShare cb ∗ owns (c : Thread nD τ) arg7 fullShare wa ∗ owns (c : Thread nD τ) arg8 fullShare ba ∗ owns (c : Thread nD τ) arg9 fullShare wx ∗ owns (c : Thread nD τ) arg10 fullShare bx ∗ owns (c : Thread nD τ) arg11 fullShare ap ∗ owns (c : Thread nD τ) arg12 fullShare wo ∗ owns (c : Thread nD τ) arg13 fullShare (outV halo ca0 x g w cw cb wa ba wx bx ap wo) ∗ (∃ s', ⌜top8 s' = haloV halo x g w⌝ ∗ owns (c : Thread nD τ) arg14 fullShare s') ∗
            (∃ a', owns (c : Thread nD τ) arg15 fullShare a') ∗ (∃ b', owns (c : Thread nD τ) arg16 fullShare b') ∗ owns (c : Thread nD τ) arg17 fullShare (carryV halo ca0 x g w cw cb wa ba wx bx ap))) := by
  simp only [cc0_lru_eq_skeleton]
  unfold cc0_lru_skel
  iintro ⟨H2, H3, H4, H5, H6, H7, H8, H9, H10, H11, H12, H13, H14, H15, H16, H17⟩
  rw [wp_bind]
  iapply (wp_wand_r frame (wpE (defs₀ (F := F)) Variants.none c none) E)
  isplitl [H2 H3 H4 H5 H6 H14 H17]
  · iapply (p2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x g w cw cb s cc halo ca0 hA hB E)
    isplitl [H2]; · iexact H2
    isplitl [H3]; · iexact H3
    isplitl [H4]; · iexact H4
    isplitl [H5]; · iexact H5
    isplitl [H6]; · iexact H6
    isplitl [H14]; · iexact H14
    iexact H17
  iintro %r ⟨%hr, H2, H3, H4, H5, H6, H14, H17⟩
  subst hr
  dsimp only
  rw [wp_bind]
  iapply (wp_wand_r frame (wpE (defs₀ (F := F)) Variants.none c none) E)
  isplitl [H5 H7 H8 H9 H10 H14]
  · iapply (p3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 cw wa ba wx bx (bufV halo x g w) (v35V x g w cw cb) E)
    isplitl [H5]; · iexact H5
    isplitl [H7]; · iexact H7
    isplitl [H8]; · iexact H8
    isplitl [H9]; · iexact H9
    isplitl [H10]; · iexact H10
    iexact H14
  iintro %r ⟨%hr, H5, H7, H8, H9, H10, H14⟩
  subst hr
  dsimp only
  rw [wp_bind]
  iapply (wp_wand_r frame (wpE (defs₀ (F := F)) Variants.none c none) E)
  isplitl [H11 H15 H16 H17]
  · iapply (p4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ap a0 b0 ca0 _ _ _ _ E)
    isplitl [H11]; · iexact H11
    isplitl [H15]; · iexact H15
    isplitl [H16]; · iexact H16
    iexact H17
  iintro %r ⟨%hr, H11, H15, H16, H17⟩
  subst hr
  dsimp only
  rw [wp_bind]
  iapply (wp_wand_r frame (wpE (defs₀ (F := F)) Variants.none c none) E)
  isplitl [H15 H16]
  · iapply (lp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ (AV (bufV halo x g w) (v35V x g w cw cb) cw wa ba ap) (BV (bufV halo x g w) (v35V x g w cw cb) cw wa ba wx bx ap) E ca0)
    isplitl [H15]; · iexact H15
    iexact H16
  iintro %r ⟨%hr, H15, H16⟩
  subst hr
  generalize hL : loopV (iota .tc S8x1280 32 [0] iota_S8x1280_d0_w32) (AV (bufV halo x g w) (v35V x g w cw cb) cw wa ba ap)
    (BV (bufV halo x g w) (v35V x g w cw cb) cw wa ba wx bx ap) ca0 64 = L
  have hL' : LV halo ca0 x g w cw cb wa ba wx bx ap = L := hL
  unfold outV carryV
  rw [hL']
  unfold owns
  icases H12 with ⟨%f12, %hf12, H12⟩
  icases H13 with ⟨%f13, %hf13, H13⟩
  icases H16 with ⟨%f16, %hf16, H16⟩
  icases H17 with ⟨%f17, %hf17, H17⟩
  obtain rfl := harg12.eq_unread hf12; obtain rfl := harg13.eq_unread hf13; obtain rfl := harg16.eq_unread hf16; obtain rfl := harg17.eq_unread hf17
  sl_exec
  sl_step
  rw [rd arg12 harg12, rd arg16 harg16]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; isplitr; swap
    · iexact H12
    ipureintro; exact harg12.read_unread _
  isplitl [H13]
  · iexists _; isplitr; swap
    · iexact H13
    ipureintro; rw [wr]
  isplitl [H14]
  · iexists _; isplitr; swap
    · iexact H14
    ipureintro; exact top8_put _ _
  isplitl [H15]
  · iexists _; iexact H15
  isplitl [H16]
  · iexists _; iexists _; isplitr; swap
    · iexact H16
    ipureintro; exact harg16.read_unread _
  iexists _; isplitr; swap
  · iexact H17
  ipureintro; rw [wr]

end Cert.LruIdeal.Row

end
-- ==== Proof.LruFrame.lean ====
module

public import proofs.«01_k».proof.Proof.LruRun
public import Idealize.ShloMosaic.Lib.Pipeline.FrameBody
public import Idealize.ShloMosaic.Lib.Ring
public import Idealize.ShloMosaic.Lib.WordCmp
public import Idealize.ShloMosaic.Lib.Claim

@[expose] public section

set_option maxRecDepth 16384

noncomputable section

namespace Cert.LruIdeal.Row

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev ms0_8 (t : Fin cfg0.N) := win0_8.stage (cfg0.slots t 8)
abbrev hs0_8 (t : Fin cfg0.N) : (ms0_8 t).IsWhole := hstage0_8 ((cfg0.slots t 8).cast nbuf0_8)
abbrev ms0_9 (t : Fin cfg0.N) := win0_9.stage (cfg0.slots t 9)
abbrev hs0_9 (t : Fin cfg0.N) : (ms0_9 t).IsWhole := hstage0_9 ((cfg0.slots t 9).cast nbuf0_9)
abbrev ms0_10 (t : Fin cfg0.N) := win0_10.stage (cfg0.slots t 10)
abbrev hs0_10 (t : Fin cfg0.N) : (ms0_10 t).IsWhole := hstage0_10 ((cfg0.slots t 10).cast nbuf0_10)
abbrev ms0_11 (t : Fin cfg0.N) := win0_11.stage (cfg0.slots t 11)
abbrev hs0_11 (t : Fin cfg0.N) : (ms0_11 t).IsWhole := hstage0_11 ((cfg0.slots t 11).cast nbuf0_11)
abbrev scM0_0 : Memref sig .tc .vmem S520x1280 .f32 := Memref.whole cc0_scratch0
abbrev scM0_1 : Memref sig .tc .vmem S512x1280 .f32 := Memref.whole cc0_scratch1
abbrev scM0_2 : Memref sig .tc .vmem S512x1280 .f32 := Memref.whole cc0_scratch2
abbrev scM0_3 : Memref sig .tc .vmem S1x1280 .f32 := Memref.whole cc0_scratch3

/-- The tile is the first of its sequence at every sixteenth point. -/
theorem hcond : ∀ t : Fin cfg0.N, (Scalar.cmpi .ne (Scalar.extui (Scalar.cmpi .eq (BitVec.ofNat 32 (grid0.coords t 1).val) 0#32)) 0#32) = 1#1 ↔ t.val % 16 = 0 := fun t => by
  have ht : t.val < 32 := Nat.lt_of_lt_of_eq t.isLt N_0
  have e0 : (grid0.coords t 0).val = t.val / 16 % 2 := Pipeline.Grid.coords_val t 0 (by decide) rfl
  have e1 : (grid0.coords t 1).val = t.val / 1 % 16 := Pipeline.Grid.coords_val t 1 (by decide) rfl
  simp only [e1]; word_cmp

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

variable (m : (ℓ : Loc nD τ sig) → Buf (Elt F) ℓ) (ρ : Dev nD → PrngReg)

/-- The halo and the carry a point leaves, of those it finds. -/
def nextSt (c : Dev nD) (t : Fin cfg0.N) (st : Vec F S8x1280 .f32 × Vec F S1x1280 .f32) : Vec F S8x1280 .f32 × Vec F S1x1280 .f32 :=
  (haloV st.1 (iblk m c 0 t) (iblk m c 1 t) (iblk m c 2 t), carryV st.1 st.2 (iblk m c 0 t) (iblk m c 1 t) (iblk m c 2 t) (iblk m c 3 t) (iblk m c 4 t) (iblk m c 5 t) (iblk m c 6 t) (iblk m c 7 t) (iblk m c 8 t) (iblk m c 9 t))

/-- The halo and the carry a point works with: zeros at the first tile of a sequence, else what the point before left. -/
def stAt (c : Dev nD) : ℕ → Vec F S8x1280 .f32 × Vec F S1x1280 .f32
  | 0 => (k0_pay13, k0_pay14)
  | n + 1 => if (n + 1) % 16 = 0 then (k0_pay13, k0_pay14) else if h : n < cfg0.N then nextSt m c ⟨n, h⟩ (stAt c n) else (k0_pay13, k0_pay14)

theorem stAt_first (c : Dev nD) (n : ℕ) (h : n % 16 = 0) : stAt m c n = (k0_pay13, k0_pay14) := by
  cases n with
  | zero => rfl
  | succ n => exact if_pos h

theorem stAt_next (c : Dev nD) (n : ℕ) (h : ¬ (n + 1) % 16 = 0) (hn : n < cfg0.N) : stAt m c (n + 1) = nextSt m c ⟨n, hn⟩ (stAt m c n) :=
  (if_neg h).trans (dif_pos hn)

/-- The tile a point writes. -/
def outAt (c : Dev nD) (t : Fin cfg0.N) : Vec F S512x1024 .f32 :=
  outV (stAt m c t.val).1 (stAt m c t.val).2 (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The invariant: after a point, the scratch's first rows are the halo it left, the carry is the one it left. -/
def PhiS (c : Dev nD) : (n : ℕ) → n ≤ cfg0.N → sProp 𝕄
  | 0, _ => Pipeline.ΦA spec0 c
  | n + 1, hn => iprop(iprop((∃ s, ⌜top8 s = (nextSt m c ⟨n, hn⟩ (stAt m c n)).1⌝ ∗ owns (c : Thread nD τ) scM0_0 fullShare s) ∗ (∃ d, owns (c : Thread nD τ) scM0_1 fullShare d) ∗ (∃ d, owns (c : Thread nD τ) scM0_2 fullShare d) ∗ owns (c : Thread nD τ) scM0_3 fullShare (nextSt m c ⟨n, hn⟩ (stAt m c n)).2) ∗ (∃ r, prngReg c r))

theorem PhiS_zero (c : Dev nD) (n : ℕ) (h : n ≤ cfg0.N) (hz : n = 0) : PhiS m c n h = Pipeline.ΦA spec0 c := by
  subst hz; rfl

/-- Before any point: the four scratches, at the halo and the carry unless the point starts a sequence. -/
theorem PhiS_open (c : Dev nD) (n : ℕ) (h : n ≤ cfg0.N) :
    PhiS m c n h ⊢ iprop(∃ s, ∃ a, ∃ b, ∃ cc, ⌜¬ n % 16 = 0 → top8 s = (stAt m c n).1 ∧ cc = (stAt m c n).2⌝ ∗ owns (c : Thread nD τ) scM0_0 fullShare s ∗ owns (c : Thread nD τ) scM0_1 fullShare a ∗ owns (c : Thread nD τ) scM0_2 fullShare b ∗ owns (c : Thread nD τ) scM0_3 fullShare cc ∗ (∃ r, prngReg c r)) := by
  cases n with
  | zero =>
    rw [PhiS_zero m c 0 h rfl, PhiA0_eq]
    iintro ⟨⟨⟨%s, H0⟩, ⟨%a, H1⟩, ⟨%b, H2⟩, ⟨%cc, H3⟩⟩, Hg⟩
    iexists s; iexists a; iexists b; iexists cc
    isplitr; · ipureintro; intro hh; exact absurd rfl hh
    isplitl [H0]; · iexact H0
    isplitl [H1]; · iexact H1
    isplitl [H2]; · iexact H2
    isplitl [H3]; · iexact H3
    iexact Hg
  | succ n =>
    unfold PhiS
    iintro ⟨⟨⟨%s, %hs, H0⟩, ⟨%a, H1⟩, ⟨%b, H2⟩, H3⟩, Hg⟩
    iexists s; iexists a; iexists b; iexists (nextSt m c ⟨n, h⟩ (stAt m c n)).2
    isplitr; · ipureintro; intro hh; rw [stAt_next m c n hh h]; exact ⟨hs, rfl⟩
    isplitl [H0]; · iexact H0
    isplitl [H1]; · iexact H1
    isplitl [H2]; · iexact H2
    isplitl [H3]; · iexact H3
    iexact Hg

/-- The proof data of the pipeline: the arrays as the region finds them; after a point the inputs' blocks in place and
the output's tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_castSucc m c t]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  icases (PhiS_open m c t.val (Nat.le_of_lt t.isLt)) $$ HP with ⟨%s, %a, %b, %cc, %hs, HS0, HS1, HS2, HS3, Hg⟩
  iapply (wp_wand_r frame (wpE (defs₀ (F := F)) Variants.none c none) Set.univ)
  isplitl [H0 H1 H2 H3 H4 H5 H6 H7 H8 H9 H10 H11 HS0 HS1 HS2 HS3]
  · iapply (body c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) s a b cc (stAt m c t.val).1 (stAt m c t.val).2
      (fun h => by rw [stAt_first m c t.val ((hcond t).mp h)]; exact ⟨rfl, rfl⟩) (fun h => hs fun h' => h ((hcond t).mpr h')) Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iexact HS3
  iintro %r ⟨H0, H1, H2, H3, H4, H5, H6, H7, H8, H9, H10, H11, ⟨%s', %hs', HS0⟩, ⟨%a', HS1⟩, ⟨%b', HS2⟩, HS3⟩
  isplitl [HS0 HS1 HS2 HS3 Hg]
  · unfold PhiS
    isplitl [HS0 HS1 HS2 HS3]
    · isplitl [HS0]
      · iexists s'; isplitr; · ipureintro; exact hs'
        iexact HS0
      isplitl [HS1]; · iexists a'; iexact HS1
      isplitl [HS2]; · iexists b'; iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  iintro HP
  icases (PhiS_open m c _ _) $$ HP with ⟨%s, %a, %b, %cc, %hs, HS0, HS1, HS2, HS3, Hg⟩
  rw [PhiA0_eq]
  isplitl [HS0 HS1 HS2 HS3]
  · isplitl [HS0]; · iexists s; iexact HS0
    isplitl [HS1]; · iexists a; iexact HS1
    isplitl [HS2]; · iexists b; iexact HS2
    iexists cc; iexact HS3
  iexact Hg

set_option backward.isDefEq.respectTransparency.types false in
/-- The run: every array of the pipeline ends at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.LruIdeal.Row

end
-- ==== Proof.LruPay.lean ====
module

public import proofs.«01_k».proof.Proof.LruRows
public import proofs.«01_k».proof.Proof.LruFrame

@[expose] public section

set_option maxRecDepth 16384

noncomputable section

namespace Cert.LruIdeal.Row

open Cert.LruIdeal Cert.LruIdeal.Gen Idealize.ShloMosaic Idealize.ShloMosaic.TcCoe Idealize.SL.Sem
open Idealize.ShloMosaic.Pipeline (Dat)

/-! ## What the pieces compute, element by element -/

theorem p17 (x : Vec Ideal S512x1024 .f32) (g : Vec Ideal S1x1024 .f32) (w : Vec Ideal S1024x2560 .bf16) (r : Fin 512) (k : Fin 1280) :
    k0_pay17 (F := Ideal) x g w (ix2 r k)
      = Rows.vm (Rows.rms (fun k => x (ix2 r k)) (fun k => g (ix2 0 k))) (fun k l => w (ix2 k l)) (⟨k.val, by omega⟩ : Fin 2560) := by
  pointwise [k0_pay17, k0_pay16, k0_pay15, Rows.vm, Rows.rms]
theorem p18 (x : Vec Ideal S512x1024 .f32) (g : Vec Ideal S1x1024 .f32) (w : Vec Ideal S1024x2560 .bf16) (r : Fin 512) (k : Fin 1280) :
    k0_pay18 (F := Ideal) x g w (ix2 r k)
      = Rows.vm (Rows.rms (fun k => x (ix2 r k)) (fun k => g (ix2 0 k))) (fun k l => w (ix2 k l)) (⟨1280 + k.val, by omega⟩ : Fin 2560) := by
  pointwise [k0_pay18, k0_pay16, k0_pay15, Rows.vm, Rows.rms]
theorem p19 (cb c3 : Vec Ideal S1x1280 .f32) (z : Vec Ideal S512x1280 .f32) (i : Fin 512) (k : Fin 1280) :
    k0_pay19 (F := Ideal) cb c3 z (ix2 i k) = cb (ix2 0 k) + c3 (ix2 0 k) * z (ix2 i k) := by
  pointwise [k0_pay19]
theorem p20 (v35 : Vec Ideal S512x1280 .f32) (c0 c1 c2 : Vec Ideal S1x1280 .f32) (z0 z1 z2 : Vec Ideal S512x1280 .f32) (i : Fin 512) (k : Fin 1280) :
    k0_pay20 (F := Ideal) v35 c0 z0 c1 z1 c2 z2 (ix2 i k)
      = v35 (ix2 i k) + c0 (ix2 0 k) * z0 (ix2 i k) + c1 (ix2 0 k) * z1 (ix2 i k) + c2 (ix2 0 k) * z2 (ix2 i k) := by
  pointwise [k0_pay20]
theorem p21 (v : Vec Ideal S8x1280 .f32) : k0_pay21 (F := Ideal) v = v := by
  funext y
  rw [ValueIdx.eq_ix2 y]
  generalize y 0 = i; generalize y 1 = k
  revert i k
  intro (i : Fin 8) (k : Fin 1280)
  pointwise [k0_pay21]
theorem p23 (v35 : Vec Ideal S512x1280 .f32) (c0 c1 c2 : Vec Ideal S1x1280 .f32) (z0 z1 z2 : Vec Ideal S512x1280 .f32) (wa : Vec Ideal S1280x1280 .bf16) (ba : Vec Ideal S1x1280 .f32) (i : Fin 512) (k : Fin 1280) :
    k0_pay23 (F := Ideal) v35 c0 z0 c1 z1 c2 z2 wa ba (ix2 i k)
      = Ideal.logistic (∑ j, k0_pay20 (F := Ideal) v35 c0 z0 c1 z1 c2 z2 (ix2 i j) * wa (ix2 j k) + ba (ix2 0 k)) := by
  pointwise [k0_pay23, k0_pay22]
theorem p24 (v35 : Vec Ideal S512x1280 .f32) (c0 c1 c2 : Vec Ideal S1x1280 .f32) (z0 z1 z2 : Vec Ideal S512x1280 .f32) (wx : Vec Ideal S1280x1280 .bf16) (i : Fin 512) (k : Fin 1280) :
    k0_pay24 (F := Ideal) v35 c0 z0 c1 z1 c2 z2 wx (ix2 i k)
      = ∑ j, k0_pay20 (F := Ideal) v35 c0 z0 c1 z1 c2 z2 (ix2 i j) * wx (ix2 j k) := by
  pointwise [k0_pay24, k0_pay22]
theorem p25 (v : Vec Ideal S1x1280 .f32) (k : Fin 1280) : k0_pay25 (F := Ideal) v (ix2 0 k) = v (ix2 0 k) := by
  pointwise [k0_pay25]
theorem p26 (r : Vec Ideal S512x1280 .f32) (ap : Vec Ideal S1x1280 .f32) (i : Fin 512) (k : Fin 1280) :
    k0_pay26 (F := Ideal) r ap (ix2 i k) = Rows.logDecay (r (ix2 i k)) (ap (ix2 0 k)) := by
  unfold Rows.logDecay
  rw [← Rows.softplus_select]
  pointwise [k0_pay26]
  rfl
theorem p28 (r : Vec Ideal S512x1280 .f32) (ap : Vec Ideal S1x1280 .f32) (i : Fin 512) (k : Fin 1280) :
    k0_pay28 (F := Ideal) r ap (ix2 i k) = Ideal.exp (Rows.logDecay (r (ix2 i k)) (ap (ix2 0 k))) := by
  rw [← p26]
  pointwise [k0_pay28, k0_pay27]
theorem p29 (v50 v63 v66 : Vec Ideal S512x1280 .f32) (v68 ap : Vec Ideal S1x1280 .f32) (i : Fin 512) (k : Fin 1280)
    (h : Rows.logDecay (v63 (ix2 i k)) (ap (ix2 0 k)) ≤ 0) :
    k0_pay29 (F := Ideal) v50 v63 v66 v68 ap (ix2 i k)
      = Rows.drive (Rows.logDecay (v63 (ix2 i k)) (ap (ix2 0 k))) (Ideal.logistic (v66 (ix2 i k) + v68 (ix2 0 k))) (v50 (ix2 i k)) := by
  unfold Rows.drive
  rw [← Rows.tanh_form h, ← p26]
  pointwise [k0_pay29, k0_pay27]
theorem p5 (x : Vec Ideal S512x1024 .f32) (gt h : Vec Ideal S512x1280 .f32) (wo : Vec Ideal S1280x1024 .bf16) (i : Fin 512) (k : Fin 1024) :
    k0_pay5 (F := Ideal) (k0_pay15 x) gt h wo (ix2 i k)
      = x (ix2 i k) + Rows.vm (fun l => h (ix2 i l) * Rows.gelu (gt (ix2 i l))) (fun k l => wo (ix2 k l)) k := by
  have e : ∀ l, Rows.gelu (gt (ix2 i l)) = gt (ix2 i l) * (Ideal.ofBits .f32 0x3F000000#32 * (1 + Ideal.tanh (Ideal.ofBits .f32 0x3F4C422A#32 *
      (gt (ix2 i l) + Ideal.ofBits .f32 0x3D372713#32 * (gt (ix2 i l) * (gt (ix2 i l) * gt (ix2 i l))))))) := fun l => by
    unfold Rows.gelu; rw [mul_assoc (gt (ix2 i l)) (gt (ix2 i l)) (gt (ix2 i l))]
  simp only [e]
  pointwise [k0_pay5, k0_pay15, Rows.vm]

/-! ## Eight rows of the recurrence -/

/-- Column `k` of eight rows, by a natural row number. -/
def col (A : Vec Ideal S8x1280 .f32) (k : Fin 1280) (n : ℕ) : EReal := A (ix2 (⟨n % 8, Nat.mod_lt _ (by omega)⟩ : Fin 8) k)

theorem col_fin (A : Vec Ideal S8x1280 .f32) (k : Fin 1280) (i : Fin 8) : col A k i.val = A (ix2 i k) := by
  unfold col; congr 2; exact Fin.ext (Nat.mod_eq_of_lt i.isLt)

/-- A rotation by `w` rows read at a row not before `w` is the row `w` back. -/
theorem col_back (A : Vec Ideal S8x1280 .f32) (k : Fin 1280) (i w : ℕ) (h : w ≤ i) (hw : w ≤ 8) (hp) :
    A (ix2 (⟨(i + 8 - w) % 8, hp⟩ : Fin 8) k) = col A k (i - w) := by
  unfold col; congr 2; exact Fin.ext (by show (i + 8 - w) % 8 = (i - w) % 8; omega)

abbrev IO : IVec S8x1280 32 := iota .tc S8x1280 32 [0] iota_S8x1280_d0_w32

theorem sel1 (i : Fin 8) (u v : EReal) : Scalar.select (IntOp.cmpi CmpIPredicate.sge (BitVec.ofNat 32 i.val) 1#32) u v = if 1 ≤ i.val then u else v := by
  fin_cases i <;> rfl
theorem sel2 (i : Fin 8) (u v : EReal) : Scalar.select (IntOp.cmpi CmpIPredicate.sge (BitVec.ofNat 32 i.val) 2#32) u v = if 2 ≤ i.val then u else v := by
  fin_cases i <;> rfl
theorem sel4 (i : Fin 8) (u v : EReal) : Scalar.select (IntOp.cmpi CmpIPredicate.sge (BitVec.ofNat 32 i.val) 4#32) u v = if 4 ≤ i.val then u else v := by
  fin_cases i <;> rfl

theorem p7 (A : Vec Ideal S8x1280 .f32) (i : Fin 8) (k : Fin 1280) :
    k0_pay7 (F := Ideal) IO A (ix2 i k) = col A k i.val * (if 1 ≤ i.val then col A k (i.val - 1) else 1) := by
  rw [col_fin]
  pointwise [k0_pay7, k0_pay6]
  rw [sel1]
  split_ifs with h
  · rw [col_back A k i.val 1 h (by omega)]
  · rfl
theorem p9 (A : Vec Ideal S8x1280 .f32) (i : Fin 8) (k : Fin 1280) :
    k0_pay9 (F := Ideal) IO A (ix2 i k) = col (k0_pay7 (F := Ideal) IO A) k i.val * (if 2 ≤ i.val then col (k0_pay7 (F := Ideal) IO A) k (i.val - 2) else 1) := by
  rw [col_fin]
  pointwise [k0_pay9, k0_pay8]
  rw [sel2]
  split_ifs with h
  · exact congrArg (fun z => k0_pay7 (F := Ideal) IO A (ix2 i k) * z) (col_back (k0_pay7 (F := Ideal) IO A) k i.val 2 h (by omega) _)
  · rfl

/-- The driving part after the first doubling. -/
def V154 (A B : Vec Ideal S8x1280 .f32) : FVec Ideal S8x1280 .f32 :=
  addf (mulf A (select (k0_pay6 IO) (dynamicRotate 0 1#32 none B rotates_S8x1280_d0) (broadcast S8x1280 (Scalar.ofBits .f32 0x00000000#32)))) B
/-- The driving part after the second doubling. -/
def V165 (A B : Vec Ideal S8x1280 .f32) : FVec Ideal S8x1280 .f32 :=
  addf (mulf (k0_pay7 (F := Ideal) IO A) (select (k0_pay8 IO) (dynamicRotate 0 2#32 none (V154 A B) rotates_S8x1280_d0) (broadcast S8x1280 (Scalar.ofBits .f32 0x00000000#32)))) (V154 A B)
theorem p11_eq (A B : Vec Ideal S8x1280 .f32) : k0_pay11 (F := Ideal) IO A B
    = addf (mulf (k0_pay9 (F := Ideal) IO A) (select (k0_pay10 IO) (dynamicRotate 0 4#32 none (V165 A B) rotates_S8x1280_d0) (broadcast S8x1280 (Scalar.ofBits .f32 0x00000000#32)))) (V165 A B) := rfl

theorem v154 (A B : Vec Ideal S8x1280 .f32) (i : Fin 8) (k : Fin 1280) :
    V154 A B (ix2 i k) = col A k i.val * (if 1 ≤ i.val then col B k (i.val - 1) else 0) + col B k i.val := by
  rw [col_fin, col_fin]
  pointwise [V154, k0_pay6]
  rw [sel1]
  split_ifs with h
  · exact congrArg (fun z => A (ix2 i k) * z + B (ix2 i k)) (col_back B k i.val 1 h (by omega) _)
  · rw [mul_zero]
theorem v165 (A B : Vec Ideal S8x1280 .f32) (i : Fin 8) (k : Fin 1280) :
    V165 A B (ix2 i k) = col (k0_pay7 (F := Ideal) IO A) k i.val * (if 2 ≤ i.val then col (V154 A B) k (i.val - 2) else 0) + col (V154 A B) k i.val := by
  rw [col_fin, col_fin]
  pointwise [V165, k0_pay8]
  rw [sel2]
  split_ifs with h
  · exact congrArg (fun z => k0_pay7 (F := Ideal) IO A (ix2 i k) * z + V154 A B (ix2 i k)) (col_back (V154 A B) k i.val 2 h (by omega) _)
  · rw [mul_zero]
theorem p11 (A B : Vec Ideal S8x1280 .f32) (i : Fin 8) (k : Fin 1280) :
    k0_pay11 (F := Ideal) IO A B (ix2 i k) = col (k0_pay9 (F := Ideal) IO A) k i.val * (if 4 ≤ i.val then col (V165 A B) k (i.val - 4) else 0) + col (V165 A B) k i.val := by
  rw [col_fin, col_fin, p11_eq]
  pointwise [k0_pay10]
  rw [sel4]
  split_ifs with h
  · exact congrArg (fun z => k0_pay9 (F := Ideal) IO A (ix2 i k) * z + V165 A B (ix2 i k)) (col_back (V165 A B) k i.val 4 h (by omega) _)
  · rw [mul_zero]
theorem p12 (h0 : Vec Ideal S1x1280 .f32) (A : Vec Ideal S8x1280 .f32) (i : Fin 8) (k : Fin 1280) :
    k0_pay12 (F := Ideal) IO h0 A (ix2 i k) = col (k0_pay9 (F := Ideal) IO A) k i.val * (if 4 ≤ i.val then col (k0_pay9 (F := Ideal) IO A) k (i.val - 4) else 1) * h0 (ix2 0 k) := by
  rw [col_fin]
  pointwise [k0_pay12, k0_pay10]
  rw [sel4]
  split_ifs with h
  · exact congrArg (fun z => k0_pay9 (F := Ideal) IO A (ix2 i k) * z * h0 (ix2 0 k)) (col_back (k0_pay9 (F := Ideal) IO A) k i.val 4 h (by omega) _)
  · rfl

/-- Row `i` of the three doublings is the state after rows 0 … i from the carry. -/
theorem block (A B : Vec Ideal S8x1280 .f32) (h0 : Vec Ideal S1x1280 .f32) (i : Fin 8) (k : Fin 1280) (hA : ∀ j, Rows.NN (A (ix2 j k))) :
    k0_pay1 (F := Ideal) (k0_pay11 (F := Ideal) IO A B) (k0_pay12 (F := Ideal) IO h0 A) (ix2 i k) = Rows.run (col A k) (col B k) 0 (h0 (ix2 0 k)) (i.val + 1) := by
  have r1 : Rows.Rep (col A k) (col B k) 1 (col A k) (col B k) := Rows.Rep.one fun i => hA _
  have r2 := r1.double (by omega)
  have r4 := r2.double (by omega)
  have r8 := r4.double (by omega)
  have e7 : ∀ n, n < 8 → col (k0_pay7 (F := Ideal) IO A) k n = col A k n * (if 1 ≤ n then col A k (n - 1) else 1) := fun n hn => by
    rw [← p7 A ⟨n, hn⟩ k]; exact col_fin _ k ⟨n, hn⟩
  have e154 : ∀ n, n < 8 → col (V154 A B) k n = col A k n * (if 1 ≤ n then col B k (n - 1) else 0) + col B k n := fun n hn => by
    rw [← v154 A B ⟨n, hn⟩ k]; exact col_fin _ k ⟨n, hn⟩
  have e9 : ∀ n, n < 8 → col (k0_pay9 (F := Ideal) IO A) k n = col (k0_pay7 (F := Ideal) IO A) k n * (if 2 ≤ n then col (k0_pay7 (F := Ideal) IO A) k (n - 2) else 1) := fun n hn => by
    rw [← p9 A ⟨n, hn⟩ k]; exact col_fin _ k ⟨n, hn⟩
  have e165 : ∀ n, n < 8 → col (V165 A B) k n = col (k0_pay7 (F := Ideal) IO A) k n * (if 2 ≤ n then col (V154 A B) k (n - 2) else 0) + col (V154 A B) k n := fun n hn => by
    rw [← v165 A B ⟨n, hn⟩ k]; exact col_fin _ k ⟨n, hn⟩
  have hi := i.isLt
  have e := (r8 i.val).2 (h0 (ix2 0 k))
  rw [show min (2 * (2 * (2 * 1))) (i.val + 1) = i.val + 1 by omega, Nat.sub_self] at e
  rw [← e]
  pointwise [k0_pay1]
  rw [p11, p12, e9 _ hi, e9 (i.val - 4) (by omega), e165 _ hi, e165 (i.val - 4) (by omega),
    e7 _ hi, e7 (i.val - 4) (by omega), e7 (i.val - 2) (by omega), e7 (i.val - 4 - 2) (by omega),
    e154 _ hi, e154 (i.val - 4) (by omega), e154 (i.val - 2) (by omega), e154 (i.val - 4 - 2) (by omega)]

theorem p2' (P Q : Vec Ideal S8x1280 .f32) (i : Fin 8) (k : Fin 1280) : k0_pay2 (F := Ideal) P Q (ix2 i k) = k0_pay1 (F := Ideal) P Q (ix2 i k) := by
  pointwise [k0_pay2]
theorem p3' (P Q : Vec Ideal S8x1280 .f32) (k : Fin 1280) : k0_pay3 (F := Ideal) P Q (ix2 0 k) = k0_pay1 (F := Ideal) P Q (ix2 7 k) := by
  pointwise [k0_pay3]
theorem p4' (v : Vec Ideal S1x1280 .f32) (k : Fin 1280) : k0_pay4 (F := Ideal) v (ix2 0 k) = v (ix2 0 k) := by
  pointwise [k0_pay4]
theorem p13 (j : Fin 8) (k : Fin 1280) : k0_pay13 (F := Ideal) (ix2 j k) = 0 := by
  pointwise [k0_pay13]
theorem p14 (k : Fin 1280) : k0_pay14 (F := Ideal) (ix2 0 k) = 0 := by
  pointwise [k0_pay14]

end Cert.LruIdeal.Row
-- ==== Proof.LruTile.lean ====
module

public import proofs.«01_k».proof.Proof.LruPay

@[expose] public section

set_option maxRecDepth 16384

noncomputable section

namespace Cert.LruIdeal.Row

open Cert.LruIdeal Cert.LruIdeal.Gen Idealize.ShloMosaic Idealize.ShloMosaic.TcCoe Idealize.SL.Sem
open Idealize.ShloMosaic.Pipeline (Dat)

/-! ## One tile of 512 rows -/

/-- The halo a tile of rows 512 q … needs: the eight rows before it, zero before the sequence. -/
def haloR (P : Rows.LruW) (b : Fin 2) (q : ℕ) (j : ℕ) (k : Fin 1280) : EReal :=
  if 512 * q + j < 8 then 0 else P.u b (512 * q + j - 8) k

/-- What the blocks of tile `q` of sequence `b` hold, in the layer's arguments. -/
structure Tile (P : Rows.LruW) (b : Fin 2) (q : ℕ) (halo : Vec Ideal S8x1280 .f32) (ca0 : Vec Ideal S1x1280 .f32) (x : Vec Ideal S512x1024 .f32)
    (g : Vec Ideal S1x1024 .f32) (w : Vec Ideal S1024x2560 .bf16) (cw : Vec Ideal S4x1280 .f32) (cb : Vec Ideal S1x1280 .f32)
    (wa : Vec Ideal S1280x1280 .bf16) (ba : Vec Ideal S1x1280 .f32) (wx : Vec Ideal S1280x1280 .bf16) (bx : Vec Ideal S1x1280 .f32)
    (ap : Vec Ideal S1x1280 .f32) (wo : Vec Ideal S1280x1024 .bf16) : Prop where
  halo : ∀ j k, halo (ix2 j k) = haloR P b q j.val k
  ca : ∀ k, ca0 (ix2 0 k) = P.h b (512 * q) k
  x : ∀ r k, x (ix2 r k) = P.row b (512 * q + r.val) k
  g : ∀ k, g (ix2 0 k) = P.g (ix1 k)
  w : ∀ k l, w (ix2 k l) = P.w (ix2 k l)
  cw : ∀ k l, cw (ix2 k l) = P.cw (ix2 k l)
  cb : ∀ k, cb (ix2 0 k) = P.cb (ix1 k)
  wa : ∀ j k : Fin 1280, wa (ix2 j k) = P.wa (ix3 (⟨j.val / 80, by omega⟩ : Fin 16) (⟨j.val % 80, by omega⟩ : Fin 80) (⟨k.val % 80, by omega⟩ : Fin 80)) * (if j.val / 80 = k.val / 80 then 1 else 0)
  ba : ∀ k, ba (ix2 0 k) = P.ba (ix1 k)
  wx : ∀ j k : Fin 1280, wx (ix2 j k) = P.wx (ix3 (⟨j.val / 80, by omega⟩ : Fin 16) (⟨j.val % 80, by omega⟩ : Fin 80) (⟨k.val % 80, by omega⟩ : Fin 80)) * (if j.val / 80 = k.val / 80 then 1 else 0)
  bx : ∀ k, bx (ix2 0 k) = P.bx (ix1 k)
  ap : ∀ k, ap (ix2 0 k) = P.ap (ix1 k)
  wo : ∀ k l, wo (ix2 k l) = P.wo (ix2 k l)

variable {P : Rows.LruW} {b : Fin 2} {q : ℕ} {halo : Vec Ideal S8x1280 .f32} {ca0 : Vec Ideal S1x1280 .f32} {x : Vec Ideal S512x1024 .f32}
    {g : Vec Ideal S1x1024 .f32} {w : Vec Ideal S1024x2560 .bf16} {cw : Vec Ideal S4x1280 .f32} {cb : Vec Ideal S1x1280 .f32}
    {wa : Vec Ideal S1280x1280 .bf16} {ba : Vec Ideal S1x1280 .f32} {wx : Vec Ideal S1280x1280 .bf16} {bx : Vec Ideal S1x1280 .f32}
    {ap : Vec Ideal S1x1280 .f32} {wo : Vec Ideal S1280x1024 .bf16}
    (T : Tile P b q halo ca0 x g w cw cb wa ba wx bx ap wo)

include T

theorem Tile.gate (r : Fin 512) (k : Fin 1280) : k0_pay17 (F := Ideal) x g w (ix2 r k) = P.gate b (512 * q + r.val) k := by
  rw [p17]
  simp only [T.x, T.g, T.w]
  rfl

theorem Tile.u (r : Fin 512) (k : Fin 1280) : k0_pay18 (F := Ideal) x g w (ix2 r k) = P.u b (512 * q + r.val) k := by
  rw [p18]
  simp only [T.x, T.g, T.w]
  rfl

/-- The scratch of 520 rows holds the rows from eight before the tile. -/
theorem Tile.buf (i : Fin 520) (k : Fin 1280) : bufV (F := Ideal) halo x g w (ix2 i k) = haloR P b q i.val k := by
  unfold bufV bufOf
  by_cases h : i.val < 8
  · refine (dif_pos h).trans ?_
    exact T.halo ⟨i.val, h⟩ k
  · refine (dif_neg h).trans ?_
    refine (T.u ⟨i.val - 8, by omega⟩ k).trans ?_
    unfold haloR
    rw [if_neg (by omega)]
    show P.u b (512 * q + (i.val - 8)) k = _
    rw [show 512 * q + (i.val - 8) = 512 * q + i.val - 8 by omega]

/-- Rows of the scratch from row `8 - d` are the tile's rows `d` back. -/
theorem Tile.back (o : ℕ) (ho : o ≤ 8) (r : Fin 512) (k : Fin 1280) :
    from_ (F := Ideal) o ho (bufV (F := Ideal) halo x g w) (ix2 r k) = P.back b (512 * q + r.val) (8 - o) k := by
  refine (T.buf ⟨o + r.val, by omega⟩ k).trans ?_
  unfold haloR Rows.LruW.back
  show (if 512 * q + (o + r.val) < 8 then 0 else P.u b (512 * q + (o + r.val) - 8) k) = _
  by_cases h : 512 * q + (o + r.val) < 8
  · rw [if_pos h, if_pos (by omega)]
  · rw [if_neg h, if_neg (by omega), show 512 * q + (o + r.val) - 8 = 512 * q + r.val - (8 - o) by omega]

/-- The convolved rows. -/
theorem Tile.conv (r : Fin 512) (k : Fin 1280) :
    k0_pay20 (F := Ideal) (v35V x g w cw cb) (tapRow 0 cw) (from_ 5 (by omega) (bufV halo x g w)) (tapRow 1 cw) (from_ 6 (by omega) (bufV halo x g w))
      (tapRow 2 cw) (from_ 7 (by omega) (bufV halo x g w)) (ix2 r k) = P.xc b (512 * q + r.val) k := by
  rw [p20, T.back, T.back, T.back]
  unfold v35V
  rw [p19, T.u, T.cb]
  show P.cb (ix1 k) + cw (ix2 3 k) * P.u b (512 * q + r.val) k + cw (ix2 0 k) * P.back b (512 * q + r.val) (8 - 5) k
    + cw (ix2 1 k) * P.back b (512 * q + r.val) (8 - 6) k + cw (ix2 2 k) * P.back b (512 * q + r.val) (8 - 7) k = _
  rw [T.cw, T.cw, T.cw, T.cw]
  unfold Rows.LruW.xc
  rw [show P.back b (512 * q + r.val) 0 k = P.u b (512 * q + r.val) k from rfl]
  generalize P.cb (ix1 k) = e0
  generalize P.cw (ix2 3 k) * P.u b (512 * q + r.val) k = e1
  show e0 + e1 + P.cw (ix2 0 k) * P.back b (512 * q + r.val) 3 k + P.cw (ix2 1 k) * P.back b (512 * q + r.val) 2 k + P.cw (ix2 2 k) * P.back b (512 * q + r.val) 1 k = _
  generalize P.cw (ix2 0 k) * P.back b (512 * q + r.val) 3 k = e2
  generalize P.cw (ix2 1 k) * P.back b (512 * q + r.val) 2 k = e3
  generalize P.cw (ix2 2 k) * P.back b (512 * q + r.val) 1 k = e4
  ac_rfl

/-- The recurrence gate's rows. -/
theorem Tile.rg (r : Fin 512) (k : Fin 1280) :
    k0_pay23 (F := Ideal) (v35V x g w cw cb) (tapRow 0 cw) (from_ 5 (by omega) (bufV halo x g w)) (tapRow 1 cw) (from_ 6 (by omega) (bufV halo x g w))
      (tapRow 2 cw) (from_ 7 (by omega) (bufV halo x g w)) wa ba (ix2 r k) = P.rg b (512 * q + r.val) k := by
  rw [p23, T.ba]
  simp only [T.conv, T.wa]
  unfold Rows.LruW.rg
  rw [← Rows.head_of_dense]

/-- The input gate's rows. -/
theorem Tile.ig (r : Fin 512) (k : Fin 1280) :
    Ideal.logistic (k0_pay24 (F := Ideal) (v35V x g w cw cb) (tapRow 0 cw) (from_ 5 (by omega) (bufV halo x g w)) (tapRow 1 cw) (from_ 6 (by omega) (bufV halo x g w))
      (tapRow 2 cw) (from_ 7 (by omega) (bufV halo x g w)) wx (ix2 r k) + k0_pay25 (F := Ideal) bx (ix2 0 k)) = P.ig b (512 * q + r.val) k := by
  rw [p24, p25, T.bx]
  simp only [T.conv, T.wx]
  unfold Rows.LruW.ig
  rw [← Rows.head_of_dense]

/-- The decays. -/
theorem Tile.a (r : Fin 512) (k : Fin 1280) :
    AV (F := Ideal) (bufV halo x g w) (v35V x g w cw cb) cw wa ba ap (ix2 r k) = P.a b (512 * q + r.val) k := by
  unfold AV
  rw [p28, T.rg, T.ap]
  rfl

/-- The drives. -/
theorem Tile.bt (r : Fin 512) (k : Fin 1280) :
    BV (F := Ideal) (bufV halo x g w) (v35V x g w cw cb) cw wa ba wx bx ap (ix2 r k) = P.bt b (512 * q + r.val) k := by
  unfold BV
  rw [p29]
  · rw [T.rg, T.ap, T.ig, T.conv]; rfl
  · rw [T.rg, T.ap]; exact P.la_nonpos b _ k

omit T in
theorem put_apply (n : ℕ) (hn : n < 64) (X : Vec Ideal S512x1280 .f32) (v : Vec Ideal S8x1280 .f32) (r : Fin 512) (k : Fin 1280) :
    putRows (F := Ideal) n X v (ix2 r k) = if h : 8 * n ≤ r.val ∧ r.val < 8 * n + 8 then v (ix2 (⟨r.val - 8 * n, by omega⟩ : Fin 8) k) else X (ix2 r k) := by
  unfold putRows VecWindow.put
  by_cases h : 8 * n ≤ r.val ∧ r.val < 8 * n + 8
  · rw [dif_pos h]
    refine (dif_pos (fun a => ?_)).trans ?_
    · match a with
      | ⟨0, _⟩ => exact h
      | ⟨1, _⟩ => exact ⟨Nat.zero_le _, by show k.val < 0 + 1280; omega⟩
    · congr 1
      funext a
      apply Fin.ext
      match a with
      | ⟨0, _⟩ => rfl
      | ⟨1, _⟩ => rfl
  · rw [dif_neg h]
    exact dif_neg fun h' => h (h' 0)

omit T in
theorem rows_apply (n : ℕ) (hn : n < 64) (X : Vec Ideal S512x1280 .f32) (i : Fin 8) (k : Fin 1280) :
    rows (F := Ideal) n X (ix2 i k) = X (ix2 (⟨8 * n + i.val, by omega⟩ : Fin 512) k) := by
  unfold rows
  exact dif_pos (by show 8 * n + i.val < 512; omega)

/-- The state before trip `n`: the carry, and the rows of states stored so far. -/
theorem Tile.loop : ∀ n, n ≤ 64 →
    (∀ k, (loopV (F := Ideal) IO (AV (bufV halo x g w) (v35V x g w cw cb) cw wa ba ap) (BV (bufV halo x g w) (v35V x g w cw cb) cw wa ba wx bx ap) ca0 n).1 (ix2 0 k) = P.h b (512 * q + 8 * n) k)
    ∧ ∀ (r : Fin 512) k, (loopV (F := Ideal) IO (AV (bufV halo x g w) (v35V x g w cw cb) cw wa ba ap) (BV (bufV halo x g w) (v35V x g w cw cb) cw wa ba wx bx ap) ca0 n).2 (ix2 r k)
      = if r.val < 8 * n then P.h b (512 * q + r.val + 1) k else P.bt b (512 * q + r.val) k
  | 0, _ => ⟨T.ca, fun r k => (T.bt r k).trans (if_neg (by omega)).symm⟩
  | n + 1, hn => by
    obtain ⟨h1, h2⟩ := Tile.loop n (by omega)
    have hb : ∀ (i : Fin 8) k, k0_pay1 (F := Ideal)
        (k0_pay11 (F := Ideal) IO (rows n (AV (bufV halo x g w) (v35V x g w cw cb) cw wa ba ap)) (rows n (loopV (F := Ideal) IO (AV (bufV halo x g w) (v35V x g w cw cb) cw wa ba ap) (BV (bufV halo x g w) (v35V x g w cw cb) cw wa ba wx bx ap) ca0 n).2))
        (k0_pay12 (F := Ideal) IO (loopV (F := Ideal) IO (AV (bufV halo x g w) (v35V x g w cw cb) cw wa ba ap) (BV (bufV halo x g w) (v35V x g w cw cb) cw wa ba wx bx ap) ca0 n).1 (rows n (AV (bufV halo x g w) (v35V x g w cw cb) cw wa ba ap))) (ix2 i k)
        = P.h b (512 * q + 8 * n + i.val + 1) k := fun i k => by
      rw [block _ _ _ i k (fun j => by rw [rows_apply n (by omega), T.a]; exact Rows.decay_NN (P.la_nonpos b _ k)), h1, Nat.add_assoc (512 * q + 8 * n), P.h_add b (512 * q + 8 * n) (i.val + 1) k]
      refine Rows.run_congr _ _ fun j hj => ?_
      have hj8 : j < 8 := by omega
      rw [Nat.zero_add]
      constructor
      · refine (col_fin _ k ⟨j, hj8⟩).trans ?_
        rw [rows_apply n (by omega), T.a]
        show P.a b (512 * q + (8 * n + j)) k = _
        rw [Nat.add_assoc]
      · refine (col_fin _ k ⟨j, hj8⟩).trans ?_
        rw [rows_apply n (by omega), h2, if_neg (by show ¬ 8 * n + j < 8 * n; omega)]
        show P.bt b (512 * q + (8 * n + j)) k = _
        rw [Nat.add_assoc]
    constructor
    · intro k
      show k0_pay3 (F := Ideal) _ _ (ix2 0 k) = _
      rw [p3', hb]
      rfl
    · intro r k
      show putRows (F := Ideal) n _ _ (ix2 r k) = _
      rw [put_apply n (by omega)]
      by_cases h : 8 * n ≤ r.val ∧ r.val < 8 * n + 8
      · rw [dif_pos h, if_pos (by omega), p2', hb]
        show P.h b (512 * q + 8 * n + (r.val - 8 * n) + 1) k = _
        rw [show 512 * q + 8 * n + (r.val - 8 * n) = 512 * q + r.val by omega]
      · rw [dif_neg h, h2]
        by_cases h' : r.val < 8 * n
        · rw [if_pos h', if_pos (by omega)]
        · rw [if_neg h', if_neg (by omega)]

/-- The tile's output rows are the layer's. -/
theorem Tile.out (r : Fin 512) (j : Fin 1024) :
    outV (F := Ideal) halo ca0 x g w cw cb wa ba wx bx ap wo (ix2 r j) = P.out b (512 * q + r.val) j := by
  unfold outV LV
  rw [p5]
  unfold Rows.LruW.out
  simp only [T.x, T.gate, T.wo, (T.loop 64 (by omega)).2]
  congr 2
  funext k
  rw [if_pos (by omega)]

/-- The halo left for the next tile. -/
theorem Tile.halo_next (j : Fin 8) (k : Fin 1280) : haloV (F := Ideal) halo x g w (ix2 j k) = haloR P b (q + 1) j.val k := by
  unfold haloV
  rw [p21]
  refine (T.buf ⟨512 + j.val, by omega⟩ k).trans ?_
  unfold haloR
  show (if 512 * q + (512 + j.val) < 8 then 0 else P.u b (512 * q + (512 + j.val) - 8) k) = _
  rw [if_neg (by omega), if_neg (by omega), show 512 * q + (512 + j.val) - 8 = 512 * (q + 1) + j.val - 8 by omega]

/-- The carry left for the next tile. -/
theorem Tile.carry_next (k : Fin 1280) : carryV (F := Ideal) halo ca0 x g w cw cb wa ba wx bx ap (ix2 0 k) = P.h b (512 * (q + 1)) k := by
  unfold carryV LV
  rw [p4', (T.loop 64 (by omega)).1, show 512 * q + 8 * 64 = 512 * (q + 1) by omega]

end Cert.LruIdeal.Row
-- ==== Proof.LruVal.lean ====
module

public import proofs.«01_k».proof.Proof.LruTile
public import Idealize.ShloMosaic.Lib.Claim

@[expose] public section

set_option maxRecDepth 16384

noncomputable section

namespace Cert.LruIdeal.Row

open Cert.LruIdeal Cert.LruIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block-diagonal matrix of sixteen heads' matrices. -/
def blockDiag (w : Vec Ideal S16x80x80 .f32) : Vec Ideal S1280x1280 .bf16 :=
  truncf .bf16 (shapeCast S1280x1280 (mulf (broadcastInDim S16x80x16x80 ![0, 1, 2, 3] bcast_S16x80x1x80_S16x80x16x80_0_1_2_3 (broadcastInDim S16x80x1x80 ![0, 1, 3] bcast_S16x80x80_S16x80x1x80_0_1_3 w))
    (broadcastInDim S16x80x16x80 ![0, 1, 2, 3] bcast_S16x1x16x1_S16x80x16x80_0_1_2_3 (broadcastInDim S16x1x16x1 ![0, 2] bcast_S16x16_S16x1x16x1_0_2
      (uitofp (F := Ideal) .f32 (cmpi .eq (addi (iotaInDim S16x16 32 0) (broadcastInDim S16x16 ![] bcast_S_S16x16 (constantI S_ 32 0#32))) (iotaInDim S16x16 32 1))))) ) shapeCasts_S16x80x16x80_S1280x1280) bitsLt_bf16_f32

theorem same (p q : Fin 16) : IntOp.cmpi CmpIPredicate.eq (IntOp.addi (BitVec.ofNat 32 p.val) 0#32) (BitVec.ofNat 32 q.val) = if p.val = q.val then 1#1 else 0#1 :=
  (by decide +kernel : ∀ p q : Fin 16, IntOp.cmpi CmpIPredicate.eq (IntOp.addi (BitVec.ofNat 32 p.val) 0#32) (BitVec.ofNat 32 q.val) = if p.val = q.val then 1#1 else 0#1) p q

theorem blockDiag_apply (w : Vec Ideal S16x80x80 .f32) (j k : Fin 1280) : blockDiag w (ix2 j k)
    = w (ix3 (⟨j.val / 80, by omega⟩ : Fin 16) (⟨j.val % 80, by omega⟩ : Fin 80) (⟨k.val % 80, by omega⟩ : Fin 80)) * (if j.val / 80 = k.val / 80 then 1 else 0) := by
  pointwise [blockDiag]
  rw [same (⟨j.val / 80, by omega⟩ : Fin 16) (⟨k.val / 80, by omega⟩ : Fin 16)]
  congr 1
  show _ = if j.val / 80 = k.val / 80 then (1 : EReal) else 0
  split_ifs with h
  · show (((1#1 : BitVec 1).toNat : ℝ) : EReal) = 1
    norm_num
  · show (((0#1 : BitVec 1).toNat : ℝ) : EReal) = 0
    norm_num

theorem V0 (c : Dev nD) : V m c main_v0 = shapeCast S16384x1024 (m ((c : Thread nD τ).loc main_arg0)) shapeCasts_S2x8192x1024_S16384x1024 := by
  unfold V hostOps0; after_results; rfl
theorem V1 (c : Dev nD) : V m c main_v1 = shapeCast S1x1024 (m ((c : Thread nD τ).loc main_arg1)) shapeCasts_S1024_S1x1024 := by
  unfold V hostOps0; after_results; rfl
theorem V2 (c : Dev nD) : V m c main_v2 = (m ((c : Thread nD τ).loc main_arg2)) := by
  unfold V hostOps0; after_results; rfl
theorem V3 (c : Dev nD) : V m c main_v3 = shapeCast S1x1280 (m ((c : Thread nD τ).loc main_arg4)) shapeCasts_S1280_S1x1280 := by
  unfold V hostOps0; after_results; rfl
theorem V17 (c : Dev nD) : V m c main_v17 = shapeCast S1x1280 (m ((c : Thread nD τ).loc main_arg6)) shapeCasts_S1280_S1x1280 := by
  unfold V hostOps0; after_results; rfl
theorem V31 (c : Dev nD) : V m c main_v31 = shapeCast S1x1280 (m ((c : Thread nD τ).loc main_arg8)) shapeCasts_S1280_S1x1280 := by
  unfold V hostOps0; after_results; rfl
theorem V32 (c : Dev nD) : V m c main_v32 = shapeCast S1x1280 (m ((c : Thread nD τ).loc main_arg9)) shapeCasts_S1280_S1x1280 := by
  unfold V hostOps0; after_results; rfl
theorem V16 (c : Dev nD) : V m c main_v16 = blockDiag (m ((c : Thread nD τ).loc main_arg5)) := by
  unfold V hostOps0; after_results; rfl
theorem V30 (c : Dev nD) : V m c main_v30 = blockDiag (m ((c : Thread nD τ).loc main_arg7)) := by
  unfold V hostOps0; after_results; rfl
theorem V33 (c : Dev nD) : V m c main_v33 = (m ((c : Thread nD τ).loc main_arg10)) := by
  unfold V hostOps0; after_results; rfl

/-- Where the grid's windows stand at point `t`. -/
theorem idx (t : Fin cfg0.N) : win0_0.index t 0 = t.val ∧ win0_0.index t 1 = 0 ∧ win0_1.index t 0 = 0 ∧ win0_1.index t 1 = 0 ∧ win0_2.index t 0 = 0 ∧ win0_2.index t 1 = 0 ∧ win0_3.index t 0 = 0 ∧ win0_3.index t 1 = 0 ∧ win0_4.index t 0 = 0 ∧ win0_4.index t 1 = 0 ∧ win0_5.index t 0 = 0 ∧ win0_5.index t 1 = 0 ∧ win0_6.index t 0 = 0 ∧ win0_6.index t 1 = 0 ∧ win0_7.index t 0 = 0 ∧ win0_7.index t 1 = 0 ∧ win0_8.index t 0 = 0 ∧ win0_8.index t 1 = 0 ∧ win0_9.index t 0 = 0 ∧ win0_9.index t 1 = 0 ∧ win0_10.index t 0 = 0 ∧ win0_10.index t 1 = 0 ∧ win0_11.index t 0 = t.val ∧ win0_11.index t 1 = 0 :=
  (by decide +kernel : ∀ t : Fin grid0.N, win0_0.index t 0 = t.val ∧ win0_0.index t 1 = 0 ∧ win0_1.index t 0 = 0 ∧ win0_1.index t 1 = 0 ∧ win0_2.index t 0 = 0 ∧ win0_2.index t 1 = 0 ∧ win0_3.index t 0 = 0 ∧ win0_3.index t 1 = 0 ∧ win0_4.index t 0 = 0 ∧ win0_4.index t 1 = 0 ∧ win0_5.index t 0 = 0 ∧ win0_5.index t 1 = 0 ∧ win0_6.index t 0 = 0 ∧ win0_6.index t 1 = 0 ∧ win0_7.index t 0 = 0 ∧ win0_7.index t 1 = 0 ∧ win0_8.index t 0 = 0 ∧ win0_8.index t 1 = 0 ∧ win0_9.index t 0 = 0 ∧ win0_9.index t 1 = 0 ∧ win0_10.index t 0 = 0 ∧ win0_10.index t 1 = 0 ∧ win0_11.index t 0 = t.val ∧ win0_11.index t 1 = 0) t

theorem N32 : cfg0.N = 32 := N_0

theorem iblk0 (c : Dev nD) (t : Fin cfg0.N) (r : Fin 512) (k : Fin 1024) :
    (iblk m c 0 t : Vec Ideal S512x1024 .f32) (ix2 r k) = Rows.tok (m ((c : Thread nD τ).loc main_arg0)) (⟨512 * t.val + r.val, by have := t.isLt; have := N32; omega⟩ : Fin 16384) k := by
  unfold iblk
  rw [View.read_apply]
  refine Eq.trans (b := V m c main_v0 (ix2 (⟨512 * t.val + r.val, by have := t.isLt; have := N32; omega⟩ : Fin 16384) k)) ?_ (by rw [V0]; exact Rows.flat_apply _ _ _ _)
  show V m c main_v0 _ = V m c main_v0 _
  congr 1
  funext a
  apply Fin.ext
  match a with
  | ⟨0, _⟩ => show win0_0.index t 0 * 512 + 1 * r.val = 512 * t.val + r.val; rw [(idx t).1]; omega
  | ⟨1, _⟩ => show win0_0.index t 1 * 1024 + 1 * k.val = k.val; rw [(idx t).2.1]; omega

theorem iblk1 (c : Dev nD) (t : Fin cfg0.N) (r : Fin 1) (k : Fin 1024) :
    (iblk m c 1 t : Vec Ideal S1x1024 .f32) (ix2 r k) = m ((c : Thread nD τ).loc main_arg1) (ix1 k) := by
  unfold iblk
  rw [View.read_apply]
  refine Eq.trans (b := V m c main_v1 (ix2 r k)) ?_ (by rw [V1]; pointwise)
  show V m c main_v1 _ = V m c main_v1 _
  congr 1
  funext a
  apply Fin.ext
  match a with
  | ⟨0, _⟩ => show win0_1.index t 0 * 1 + 1 * r.val = r.val; rw [(idx t).2.2.1]; omega
  | ⟨1, _⟩ => show win0_1.index t 1 * 1024 + 1 * k.val = k.val; rw [(idx t).2.2.2.1]; omega

theorem iblk2 (c : Dev nD) (t : Fin cfg0.N) (r : Fin 1024) (k : Fin 2560) :
    (iblk m c 2 t : Vec Ideal S1024x2560 .bf16) (ix2 r k) = m ((c : Thread nD τ).loc main_arg2) (ix2 r k) := by
  unfold iblk
  rw [View.read_apply]
  refine Eq.trans (b := V m c main_v2 (ix2 r k)) ?_ (by rw [V2])
  show V m c main_v2 _ = V m c main_v2 _
  congr 1
  funext a
  apply Fin.ext
  match a with
  | ⟨0, _⟩ => show win0_2.index t 0 * 1024 + 1 * r.val = r.val; rw [(idx t).2.2.2.2.1]; omega
  | ⟨1, _⟩ => show win0_2.index t 1 * 2560 + 1 * k.val = k.val; rw [(idx t).2.2.2.2.2.1]; omega

theorem iblk3 (c : Dev nD) (t : Fin cfg0.N) (r : Fin 4) (k : Fin 1280) :
    (iblk m c 3 t : Vec Ideal S4x1280 .f32) (ix2 r k) = m ((c : Thread nD τ).loc main_arg3) (ix2 r k) := by
  unfold iblk
  rw [View.read_apply]
  refine Eq.trans (b := V m c main_arg3 (ix2 r k)) ?_ (by rw [V_main_arg3])
  show V m c main_arg3 _ = V m c main_arg3 _
  congr 1
  funext a
  apply Fin.ext
  match a with
  | ⟨0, _⟩ => show win0_3.index t 0 * 4 + 1 * r.val = r.val; rw [(idx t).2.2.2.2.2.2.1]; omega
  | ⟨1, _⟩ => show win0_3.index t 1 * 1280 + 1 * k.val = k.val; rw [(idx t).2.2.2.2.2.2.2.1]; omega

theorem iblk4 (c : Dev nD) (t : Fin cfg0.N) (r : Fin 1) (k : Fin 1280) :
    (iblk m c 4 t : Vec Ideal S1x1280 .f32) (ix2 r k) = m ((c : Thread nD τ).loc main_arg4) (ix1 k) := by
  unfold iblk
  rw [View.read_apply]
  refine Eq.trans (b := V m c main_v3 (ix2 r k)) ?_ (by rw [V3]; pointwise)
  show V m c main_v3 _ = V m c main_v3 _
  congr 1
  funext a
  apply Fin.ext
  match a with
  | ⟨0, _⟩ => show win0_4.index t 0 * 1 + 1 * r.val = r.val; rw [(idx t).2.2.2.2.2.2.2.2.1]; omega
  | ⟨1, _⟩ => show win0_4.index t 1 * 1280 + 1 * k.val = k.val; rw [(idx t).2.2.2.2.2.2.2.2.2.1]; omega

theorem iblk5 (c : Dev nD) (t : Fin cfg0.N) (r : Fin 1280) (k : Fin 1280) :
    (iblk m c 5 t : Vec Ideal S1280x1280 .bf16) (ix2 r k) = blockDiag (m ((c : Thread nD τ).loc main_arg5)) (ix2 r k) := by
  unfold iblk
  rw [View.read_apply]
  refine Eq.trans (b := V m c main_v16 (ix2 r k)) ?_ (by rw [V16])
  show V m c main_v16 _ = V m c main_v16 _
  congr 1
  funext a
  apply Fin.ext
  match a with
  | ⟨0, _⟩ => show win0_5.index t 0 * 1280 + 1 * r.val = r.val; rw [(idx t).2.2.2.2.2.2.2.2.2.2.1]; omega
  | ⟨1, _⟩ => show win0_5.index t 1 * 1280 + 1 * k.val = k.val; rw [(idx t).2.2.2.2.2.2.2.2.2.2.2.1]; omega

theorem iblk6 (c : Dev nD) (t : Fin cfg0.N) (r : Fin 1) (k : Fin 1280) :
    (iblk m c 6 t : Vec Ideal S1x1280 .f32) (ix2 r k) = m ((c : Thread nD τ).loc main_arg6) (ix1 k) := by
  unfold iblk
  rw [View.read_apply]
  refine Eq.trans (b := V m c main_v17 (ix2 r k)) ?_ (by rw [V17]; pointwise)
  show V m c main_v17 _ = V m c main_v17 _
  congr 1
  funext a
  apply Fin.ext
  match a with
  | ⟨0, _⟩ => show win0_6.index t 0 * 1 + 1 * r.val = r.val; rw [(idx t).2.2.2.2.2.2.2.2.2.2.2.2.1]; omega
  | ⟨1, _⟩ => show win0_6.index t 1 * 1280 + 1 * k.val = k.val; rw [(idx t).2.2.2.2.2.2.2.2.2.2.2.2.2.1]; omega

theorem iblk7 (c : Dev nD) (t : Fin cfg0.N) (r : Fin 1280) (k : Fin 1280) :
    (iblk m c 7 t : Vec Ideal S1280x1280 .bf16) (ix2 r k) = blockDiag (m ((c : Thread nD τ).loc main_arg7)) (ix2 r k) := by
  unfold iblk
  rw [View.read_apply]
  refine Eq.trans (b := V m c main_v30 (ix2 r k)) ?_ (by rw [V30])
  show V m c main_v30 _ = V m c main_v30 _
  congr 1
  funext a
  apply Fin.ext
  match a with
  | ⟨0, _⟩ => show win0_7.index t 0 * 1280 + 1 * r.val = r.val; rw [(idx t).2.2.2.2.2.2.2.2.2.2.2.2.2.2.1]; omega
  | ⟨1, _⟩ => show win0_7.index t 1 * 1280 + 1 * k.val = k.val; rw [(idx t).2.2.2.2.2.2.2.2.2.2.2.2.2.2.2.1]; omega

theorem iblk8 (c : Dev nD) (t : Fin cfg0.N) (r : Fin 1) (k : Fin 1280) :
    (iblk m c 8 t : Vec Ideal S1x1280 .f32) (ix2 r k) = m ((c : Thread nD τ).loc main_arg8) (ix1 k) := by
  unfold iblk
  rw [View.read_apply]
  refine Eq.trans (b := V m c main_v31 (ix2 r k)) ?_ (by rw [V31]; pointwise)
  show V m c main_v31 _ = V m c main_v31 _
  congr 1
  funext a
  apply Fin.ext
  match a with
  | ⟨0, _⟩ => show win0_8.index t 0 * 1 + 1 * r.val = r.val; rw [(idx t).2.2.2.2.2.2.2.2.2.2.2.2.2.2.2.2.1]; omega
  | ⟨1, _⟩ => show win0_8.index t 1 * 1280 + 1 * k.val = k.val; rw [(idx t).2.2.2.2.2.2.2.2.2.2.2.2.2.2.2.2.2.1]; omega

theorem iblk9 (c : Dev nD) (t : Fin cfg0.N) (r : Fin 1) (k : Fin 1280) :
    (iblk m c 9 t : Vec Ideal S1x1280 .f32) (ix2 r k) = m ((c : Thread nD τ).loc main_arg9) (ix1 k) := by
  unfold iblk
  rw [View.read_apply]
  refine Eq.trans (b := V m c main_v32 (ix2 r k)) ?_ (by rw [V32]; pointwise)
  show V m c main_v32 _ = V m c main_v32 _
  congr 1
  funext a
  apply Fin.ext
  match a with
  | ⟨0, _⟩ => show win0_9.index t 0 * 1 + 1 * r.val = r.val; rw [(idx t).2.2.2.2.2.2.2.2.2.2.2.2.2.2.2.2.2.2.1]; omega
  | ⟨1, _⟩ => show win0_9.index t 1 * 1280 + 1 * k.val = k.val; rw [(idx t).2.2.2.2.2.2.2.2.2.2.2.2.2.2.2.2.2.2.2.1]; omega

theorem iblk10 (c : Dev nD) (t : Fin cfg0.N) (r : Fin 1280) (k : Fin 1024) :
    (iblk m c 10 t : Vec Ideal S1280x1024 .bf16) (ix2 r k) = m ((c : Thread nD τ).loc main_arg10) (ix2 r k) := by
  unfold iblk
  rw [View.read_apply]
  refine Eq.trans (b := V m c main_v33 (ix2 r k)) ?_ (by rw [V33])
  show V m c main_v33 _ = V m c main_v33 _
  congr 1
  funext a
  apply Fin.ext
  match a with
  | ⟨0, _⟩ => show win0_10.index t 0 * 1280 + 1 * r.val = r.val; rw [(idx t).2.2.2.2.2.2.2.2.2.2.2.2.2.2.2.2.2.2.2.2.1]; omega
  | ⟨1, _⟩ => show win0_10.index t 1 * 1024 + 1 * k.val = k.val; rw [(idx t).2.2.2.2.2.2.2.2.2.2.2.2.2.2.2.2.2.2.2.2.2.1]; omega

/-- The layer's arguments on device `c`. -/
abbrev W (c : Dev nD) : Rows.LruW where
  X := m ((c : Thread nD τ).loc main_arg0)
  g := m ((c : Thread nD τ).loc main_arg1)
  w := m ((c : Thread nD τ).loc main_arg2)
  cw := m ((c : Thread nD τ).loc main_arg3)
  cb := m ((c : Thread nD τ).loc main_arg4)
  wa := m ((c : Thread nD τ).loc main_arg5)
  ba := m ((c : Thread nD τ).loc main_arg6)
  wx := m ((c : Thread nD τ).loc main_arg7)
  bx := m ((c : Thread nD τ).loc main_arg8)
  ap := m ((c : Thread nD τ).loc main_arg9)
  wo := m ((c : Thread nD τ).loc main_arg10)

/-- The sequence point `n` works on. -/
def seqOf (n : ℕ) : Fin 2 := ⟨n / 16 % 2, Nat.mod_lt _ (by omega)⟩

/-- What point `t`'s blocks hold, given what it was left. -/
theorem tile_of (c : Dev nD) (n : ℕ) (hn : n < cfg0.N)
    (h1 : ∀ j k, (stAt m c n).1 (ix2 j k) = haloR (W m c) (seqOf n) (n % 16) j.val k) (h2 : ∀ k, (stAt m c n).2 (ix2 0 k) = (W m c).h (seqOf n) (512 * (n % 16)) k) :
    Tile (W m c) (seqOf n) (n % 16) (stAt m c n).1 (stAt m c n).2 (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) where
  halo := h1
  ca := h2
  x := fun r k => by
    rw [iblk0]
    unfold Rows.tok Rows.LruW.row
    have := N32
    congr 2
    · exact Fin.ext (by show (512 * n + r.val) / 8192 = n / 16 % 2; omega)
    · exact Fin.ext (by show (512 * n + r.val) % 8192 = (512 * (n % 16) + r.val) % 8192; omega)
  g := fun k => iblk1 m c _ 0 k
  w := fun k l => iblk2 m c _ k l
  cw := fun k l => iblk3 m c _ k l
  cb := fun k => iblk4 m c _ 0 k
  wa := fun j k => (iblk5 m c _ j k).trans (blockDiag_apply _ j k)
  ba := fun k => iblk6 m c _ 0 k
  wx := fun j k => (iblk7 m c _ j k).trans (blockDiag_apply _ j k)
  bx := fun k => iblk8 m c _ 0 k
  ap := fun k => iblk9 m c _ 0 k
  wo := fun k l => iblk10 m c _ k l

/-- A sequence's first point starts from zeros. -/
theorem first_ok (c : Dev nD) (n : ℕ) (h : n % 16 = 0) :
    (∀ j k, (stAt m c n).1 (ix2 j k) = haloR (W m c) (seqOf n) (n % 16) j.val k) ∧ ∀ k, (stAt m c n).2 (ix2 0 k) = (W m c).h (seqOf n) (512 * (n % 16)) k := by
  rw [stAt_first m c n h, h]
  exact ⟨fun j k => (p13 j k).trans (if_pos (by have := j.isLt; omega)).symm, fun k => p14 k⟩

/-- Every point is left the eight rows before its tile and the state after them. -/
theorem st_ok (c : Dev nD) : ∀ n, n < cfg0.N →
    (∀ j k, (stAt m c n).1 (ix2 j k) = haloR (W m c) (seqOf n) (n % 16) j.val k) ∧ ∀ k, (stAt m c n).2 (ix2 0 k) = (W m c).h (seqOf n) (512 * (n % 16)) k
  | 0, _ => first_ok m c 0 rfl
  | n + 1, hn => by
    by_cases h : (n + 1) % 16 = 0
    · exact first_ok m c (n + 1) h
    · have hn' : n < cfg0.N := by omega
      have T := tile_of m c n hn' (st_ok c n hn').1 (st_ok c n hn').2
      have e1 : seqOf (n + 1) = seqOf n := Fin.ext (by show (n + 1) / 16 % 2 = n / 16 % 2; omega)
      have e2 : (n + 1) % 16 = n % 16 + 1 := by omega
      rw [stAt_next m c n h hn', e1, e2]
      exact ⟨fun j k => T.halo_next j k, fun k => T.carry_next k⟩

/-- The layer's result of device `c`'s arguments. -/
abbrev G (c : Dev nD) : Buf (Elt Ideal) ((c : Thread nD τ).loc main_v34) := (W m c).arr

theorem flushed_eq (c : Dev nD) (t : Fin cfg0.N) :
    (dats m 0 c).flushed 11 t = ((cfg0.win 11).blk t).view.read (Elt Ideal) (G m c) := by
  show (cfg0.win 11).cut (grid0.coords t) ((dats m 0 c).after 11 t) = _
  rw [after0_11]
  funext j
  rw [View.read_apply]
  obtain ⟨r, k, rfl⟩ : ∃ (r : Fin 512) (k : Fin 1024), j = ix2 r k := ⟨j 0, j 1, ValueIdx.eq_ix2 (n0 := 512) (n1 := 1024) j⟩
  have e : ((cfg0.win 11).blk t).view.emb (ix2 r k) = (ix2 (⟨512 * t.val + r.val, by have := t.isLt; have := N32; omega⟩ : Fin 16384) k) := by
    funext a
    apply Fin.ext
    match a with
    | ⟨0, _⟩ => show win0_11.index t 0 * 512 + 1 * r.val = 512 * t.val + r.val; rw [(idx t).2.2.2.2.2.2.2.2.2.2.2.2.2.2.2.2.2.2.2.2.2.2.1]; omega
    | ⟨1, _⟩ => show win0_11.index t 1 * 1024 + 1 * k.val = k.val; rw [(idx t).2.2.2.2.2.2.2.2.2.2.2.2.2.2.2.2.2.2.2.2.2.2.2]; omega
  rw [e]
  show outAt m c t (ix2 r k) = _
  unfold outAt
  have T := tile_of m c t.val t.isLt (st_ok m c t.val t.isLt).1 (st_ok m c t.val t.isLt).2
  refine (T.out r k).trans ?_
  have := t.isLt
  have := N32
  show (W m c).out (seqOf t.val) (512 * (t.val % 16) + r.val) k = (W m c).out ⟨(512 * t.val + r.val) / 8192, _⟩ ((512 * t.val + r.val) % 8192) k
  congr 1
  · exact Fin.ext (by show t.val / 16 % 2 = (512 * t.val + r.val) / 8192; omega)
  · omega

/-- Every element of the result lies in the block of its 512 rows. -/
theorem cover (i : S16384x1024.Idx) : ∃ t : Fin cfg0.N, (cfg0.win 11).flush t = true ∧ i ∈ ((cfg0.win 11).blk t).view.set := by
  have h0 : (i 0 : Nat) < 16384 := (i 0).isLt
  have h1 : (i 1 : Nat) < 1024 := (i 1).isLt
  let t : Fin cfg0.N := ⟨(i 0 : Nat) / 512, by rw [N32]; omega⟩
  have ht : t.val = (i 0 : Nat) / 512 := rfl
  refine ⟨t, flush0_11 t, ?_⟩
  show i ∈ ((View.whole main_v34).slice (win0_11.rect t)).set
  rw [View.set_slice_whole, Rect.mem_set_unit]
  have e0 : win0_11.index t 0 = t.val := (idx t).2.2.2.2.2.2.2.2.2.2.2.2.2.2.2.2.2.2.2.2.2.2.1
  have e1 : win0_11.index t 1 = 0 := (idx t).2.2.2.2.2.2.2.2.2.2.2.2.2.2.2.2.2.2.2.2.2.2.2
  intro a
  match a with
  | ⟨0, _⟩ => show win0_11.index t 0 * 512 ≤ (i 0 : Nat) ∧ (i 0 : Nat) < win0_11.index t 0 * 512 + 512
              rw [e0, ht]; omega
  | ⟨1, _⟩ => show win0_11.index t 1 * 1024 ≤ (i 1 : Nat) ∧ (i 1 : Nat) < win0_11.index t 1 * 1024 + 1024
              rw [e1]; omega

/-- After the run the result array is the layer of the arguments. -/
theorem final (c : Dev nD) : (dats m 0 c).arrAt 11 cfg0.N = G m c :=
  (dats m 0 c).arrAt_eq_of_cover 11 (G m c) (fun t _ => flushed_eq m c t) cover

/-- The kernel's run: its result is the layer of its arguments, which it leaves unchanged. -/
theorem run : θ_run defs (onTc (τ := τ) (main (F := Ideal))) ⟨m, fun _ => 0, ρ⟩ fun r => ∀ c : Dev nD,
      r.2.mem ((c : Thread nD τ).loc main_v34) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h.1 c).1 11).trans (final m c), h.2 c⟩) (θ_run_and (run_main m ρ) (unchanged m ρ))

end Cert.LruIdeal.Row
-- ==== Proof.LruRefPre.lean ====
module

public import proofs.«01_k».proof.Proof.LruRows
public import proofs.«01_k».proof.Proof.Gen.LruRefIdeal.Run
public import Idealize.ShloMosaic.Lib.KernelVsHost

@[expose] public section

set_option maxRecDepth 16384

noncomputable section

namespace Cert.LruRefIdeal.Row

open Cert.LruRefIdeal Cert.LruRefIdeal.Gen Idealize.ShloMosaic Idealize.ShloMosaic.TcCoe Idealize.SL.Sem
open Cert.LruRefIdeal.Value Idealize.ShloMosaic.StableHlo

/-- The arguments a valuation holds. -/
abbrev PW (V : Valuation τ sig (Elt Ideal)) : Rows.LruW where
  X := V (Proc.devRef .tc main_arg0)
  g := V (Proc.devRef .tc main_arg1)
  w := V (Proc.devRef .tc main_arg2)
  cw := V (Proc.devRef .tc main_arg3)
  cb := V (Proc.devRef .tc main_arg4)
  wa := V (Proc.devRef .tc main_arg5)
  ba := V (Proc.devRef .tc main_arg6)
  wx := V (Proc.devRef .tc main_arg7)
  bx := V (Proc.devRef .tc main_arg8)
  ap := V (Proc.devRef .tc main_arg9)
  wo := V (Proc.devRef .tc main_arg10)

theorem row_fin (P : Rows.LruW) (b : Fin 2) (s : Fin 8192) (k : Fin 1024) : P.row b s.val k = P.X (ix3 b s k) := by
  unfold Rows.LruW.row
  congr 2
  exact Fin.ext (Nat.mod_eq_of_lt s.isLt)

set_option maxHeartbeats 4000000 in
/-- The projection the first stretch leaves. -/
theorem z0 (V : Valuation τ sig (Elt Ideal)) (b : Fin 2) (s : Fin 8192) (j : Fin 2560) :
    (after hostOps0 V (Proc.devRef .tc main_v13) : Vec Ideal S2x8192x2560 .f32) (ix3 b s j) = (PW V).z b s.val j := by
  unfold Rows.LruW.z
  rw [show (PW V).row b s.val = fun k => (V (Proc.devRef .tc main_arg0) : Vec Ideal S2x8192x1024 .f32) (ix3 b s k) from funext fun k => row_fin _ b s k]
  dsimp only [PW]
  unfold hostOps0
  after_results
  generalize V (Proc.devRef .tc main_arg0) = X
  generalize V (Proc.devRef .tc main_arg1) = g
  generalize V (Proc.devRef .tc main_arg2) = w
  pointwise [Rows.rms, Rows.vm]

theorem gate0 (V : Valuation τ sig (Elt Ideal)) (b : Fin 2) (s : Fin 8192) (k : Fin 1280) :
    (after hostOps0 V (Proc.devRef .tc main_v14) : Vec Ideal S2x8192x1280 .f32) (ix3 b s k) = (PW V).gate b s.val k := by
  have e : after hostOps0 V (Proc.devRef .tc main_v14) = extractStridedSlice S2x8192x1280 ![0, 0, 0] (after hostOps0 V (Proc.devRef .tc main_v13) : Vec Ideal S2x8192x2560 .f32) slices_S2x8192x2560_S2x8192x1280_0_0_0 := by
    unfold hostOps0
    after_results
  rw [e]
  unfold Rows.LruW.gate
  rw [← z0]
  generalize after hostOps0 V (Proc.devRef .tc main_v13) = z
  pointwise

theorem u0 (V : Valuation τ sig (Elt Ideal)) (b : Fin 2) (s : Fin 8192) (k : Fin 1280) :
    (after hostOps0 V (Proc.devRef .tc main_v15) : Vec Ideal S2x8192x1280 .f32) (ix3 b s k) = (PW V).u b s.val k := by
  have e : after hostOps0 V (Proc.devRef .tc main_v15) = extractStridedSlice S2x8192x1280 ![0, 0, 1280] (after hostOps0 V (Proc.devRef .tc main_v13) : Vec Ideal S2x8192x2560 .f32) slices_S2x8192x2560_S2x8192x1280_0_0_1280 := by
    unfold hostOps0
    after_results
  rw [e]
  unfold Rows.LruW.u
  rw [← z0]
  generalize after hostOps0 V (Proc.devRef .tc main_v13) = z
  pointwise

theorem c0 (V : Valuation τ sig (Elt Ideal)) : after hostOps0 V (Proc.devRef .tc main_c) = (constantI S_ 32 0#32 : Vec Ideal S_ .i32) := by
  unfold hostOps0
  after_results

/-- The padded rows: three zeros, then the sequence. -/
theorem pad1 (V : Valuation τ sig (Elt Ideal)) (hc : V (Proc.devRef .tc main_c) = (constantI S_ 32 0#32 : Vec Ideal S_ .i32))
    (x : Vec Ideal S2x8192x1280 .f32) (hx : V (Proc.devRef .tc main_v15) = x) (b : Fin 2) (j : Fin 8195) (k : Fin 1280) :
    (after hostOps0_1 V (Proc.devRef .tc main_v16) : Vec Ideal S2x8195x1280 .f32) (ix3 b j k)
      = if h : j.val < 3 then (0 : EReal) else x (ix3 b ⟨j.val - 3, by omega⟩ k) := by
  have e : after hostOps0_1 V (Proc.devRef .tc main_v16)
      = pad S2x8195x1280 ![0, 3, 0] ![0, 0, 0] ![0, 0, 0] x
        (sitofp (F := Ideal) .f32 (constantI S_ 32 0#32 : Vec Ideal S_ .i32)) pads_S2x8192x1280_S2x8195x1280_000_300_000 h_S_ := by
    rw [← hx, ← hc]
    unfold hostOps0_1
    after_results
    rfl
  rw [e]
  by_cases h : j.val < 3
  · rw [dif_pos h, pad_apply_of_not_inside (s := S2x8192x1280) (t := S2x8195x1280) ![0, 3, 0] ![0, 0, 0] ![0, 0, 0] x _ _ _ (ix3 b j k) (1 : Fin 3) (fun hh => by
      have h2 : 3 ≤ j.val := hh.1
      omega)]
    pointwise
    show (((0#32 : BitVec 32).toInt : ℝ) : EReal) = 0
    simp
  · rw [dif_neg h]
    refine pad_apply_of_inside (s := S2x8192x1280) (t := S2x8195x1280) ![0, 3, 0] ![0, 0, 0] ![0, 0, 0] x _ _ _ (ix3 b j k) (ix3 b ⟨j.val - 3, by omega⟩ k) fun a => ?_
    match a with
    | ⟨0, _⟩ => show b.val = 0 + b.val * (0 + 1); omega
    | ⟨1, _⟩ => show j.val = 3 + (j.val - 3) * (0 + 1); omega
    | ⟨2, _⟩ => show k.val = 0 + k.val * (0 + 1); omega

/-- The convolution over the padded rows. -/
theorem conv2 (V : Valuation τ sig (Elt Ideal)) (P : Rows.LruW) (hcw : V (Proc.devRef .tc main_arg3) = P.cw) (hcb : V (Proc.devRef .tc main_arg4) = P.cb)
    (hp : ∀ (b : Fin 2) (j : Fin 8195) (k : Fin 1280), (V (Proc.devRef .tc main_v16) : Vec Ideal S2x8195x1280 .f32) (ix3 b j k)
      = if j.val < 3 then 0 else P.u b (j.val - 3) k) (b : Fin 2) (s : Fin 8192) (k : Fin 1280) :
    (after hostOps0_2 V (Proc.devRef .tc main_v46) : Vec Ideal S2x8192x1280 .f32) (ix3 b s k) = P.xc b s.val k := by
  have hb : ∀ (d : Fin 4) (e : ℕ), e = 3 - d.val → P.back b s.val e k = (V (Proc.devRef .tc main_v16) : Vec Ideal S2x8195x1280 .f32) (ix3 b ⟨d.val + s.val, by omega⟩ k) := fun d e he => by
    subst he
    rw [hp]
    unfold Rows.LruW.back
    have : s.val < 3 - d.val ↔ d.val + s.val < 3 := by omega
    simp only [this]
    congr 2
    show s.val - (3 - d.val) = d.val + s.val - 3
    omega
  unfold Rows.LruW.xc
  rw [hb 0 3 rfl, hb 1 2 rfl, hb 2 1 rfl, hb 3 0 rfl, ← hcw, ← hcb]
  unfold hostOps0_2
  after_results
  generalize V (Proc.devRef .tc main_v16) = x
  generalize V (Proc.devRef .tc main_arg3) = w
  generalize V (Proc.devRef .tc main_arg4) = cb
  pointwise

/-- A gate: each head's product, the bias, the logistic function. -/
def gateR (xc : Vec Ideal S2x8192x1280 .f32) (w : Vec Ideal S16x80x80 .f32) (b : Vec Ideal S1280 .f32) : Vec Ideal S2x8192x1280 .f32 :=
  Host.divf (broadcastInDim S2x8192x1280 ![] bcast_S_S2x8192x1280 (constant (F := Ideal) S_ .f32 0x3F800000#32))
    (addf (broadcastInDim S2x8192x1280 ![] bcast_S_S2x8192x1280 (constant (F := Ideal) S_ .f32 0x3F800000#32))
      (Host.exp (Host.negf (addf
        (shapeCast S2x8192x1280 (transpose S2x8192x16x80 [2, 3, 0, 1]
          (Host.dotGeneral (F := Ideal) (φ₁ := .f32) (φ₂ := .f32) dot_S16x80x80_S2x8192x16x80_S16x80x2x8192_1_3_2_01_0_2 none w (shapeCast S2x8192x16x80 xc shapeCasts_S2x8192x1280_S2x8192x16x80))
          transposes_S16x80x2x8192_S2x8192x16x80_2_3_0_1) shapeCasts_S2x8192x16x80_S2x8192x1280)
        (broadcastInDim S2x8192x1280 ![0, 1, 2] bcast_S1x1x1280_S2x8192x1280_0_1_2 (broadcastInDim S1x1x1280 ![2] bcast_S1280_S1x1x1280_2 b))))))

theorem gateR_apply (xc : Vec Ideal S2x8192x1280 .f32) (w : Vec Ideal S16x80x80 .f32) (bi : Vec Ideal S1280 .f32) (b : Fin 2) (s : Fin 8192) (k : Fin 1280) :
    gateR xc w bi (ix3 b s k) = Ideal.logistic (Rows.head (fun l => xc (ix3 b s l)) (fun h i j => w (ix3 h i j)) k + bi (ix1 k)) := by
  have e : Rows.head (fun l => xc (ix3 b s l)) (fun h i j => w (ix3 h i j)) k
      = ∑ i : Fin 80, w (ix3 (⟨k.val / 80, by omega⟩ : Fin 16) i (⟨k.val % 80, by omega⟩ : Fin 80)) * xc (ix3 b s (⟨k.val / 80 * 80 + i.val, by omega⟩ : Fin 1280)) :=
    Finset.sum_congr rfl fun i _ => by
      rw [mul_comm]
      exact congrArg (fun l : Fin 1280 => w (ix3 (⟨k.val / 80, by omega⟩ : Fin 16) i (⟨k.val % 80, by omega⟩ : Fin 80)) * xc (ix3 b s l))
        (a₁ := ⟨80 * (k.val / 80) + i.val, by omega⟩) (a₂ := ⟨k.val / 80 * 80 + i.val, by omega⟩) (Fin.ext (by show 80 * (k.val / 80) + i.val = k.val / 80 * 80 + i.val; omega))
  rw [e]
  pointwise [gateR, Ideal.logistic]

set_option maxHeartbeats 4000000 in
theorem rg2 (V : Valuation τ sig (Elt Ideal)) : after hostOps0_2 V (Proc.devRef .tc main_v73)
    = mulf (broadcastInDim S2x8192x1280 ![] bcast_S_S2x8192x1280 (constant (F := Ideal) S_ .f32 0xC1000000#32))
      (gateR (after hostOps0_2 V (Proc.devRef .tc main_v46)) (V (Proc.devRef .tc main_arg5)) (V (Proc.devRef .tc main_arg6))) := by
  unfold hostOps0_2 gateR
  after_results
  rfl

set_option maxHeartbeats 4000000 in
theorem ig2 (V : Valuation τ sig (Elt Ideal)) : after hostOps0_2 V (Proc.devRef .tc main_v71)
    = gateR (after hostOps0_2 V (Proc.devRef .tc main_v46)) (V (Proc.devRef .tc main_arg7)) (V (Proc.devRef .tc main_arg8)) := by
  unfold hostOps0_2 gateR
  after_results
  rfl

theorem neg2 (V : Valuation τ sig (Elt Ideal)) : after hostOps0_2 V (Proc.devRef .tc main_v74)
    = (Host.negf (F := Ideal) (φ := .f32) (V (Proc.devRef .tc main_arg9)) : Vec Ideal S1280 .f32) := by
  unfold hostOps0_2
  after_results

/-- The smooth positive part the call leaves. -/
theorem soft3 (V : Valuation τ sig (Elt Ideal)) (x : Vec Ideal S1280 .f32) (hx : V (Proc.devRef .tc main_v74) = x) (k : Fin 1280) :
    (after hostOps0_3 V (Proc.devRef .tc main_v75) : Vec Ideal S1280 .f32) (ix1 k) = Rows.softplus (x (ix1 k)) := by
  have e : after hostOps0_3 V (Proc.devRef .tc main_v75)
      = select (cmpf .une (subf x (broadcastInDim S1280 ![] bcast_S_S1280 (constant (F := Ideal) S_ .f32 0x00000000#32))) (subf x (broadcastInDim S1280 ![] bcast_S_S1280 (constant (F := Ideal) S_ .f32 0x00000000#32))))
        (addf x (broadcastInDim S1280 ![] bcast_S_S1280 (constant (F := Ideal) S_ .f32 0x00000000#32)))
        (addf (maximumf x (broadcastInDim S1280 ![] bcast_S_S1280 (constant (F := Ideal) S_ .f32 0x00000000#32)))
          (Host.log1p (Host.exp (Host.negf (Host.absf (subf x (broadcastInDim S1280 ![] bcast_S_S1280 (constant (F := Ideal) S_ .f32 0x00000000#32)))))))) := by
    rw [← hx]
    unfold hostOps0_3
    after_results
    rfl
  rw [e]
  pointwise [Rows.softplus]
  rw [if_neg (by simp)]
  rfl

/-- The decays the last stretch before the loop leaves. -/
theorem a4 (V : Valuation τ sig (Elt Ideal)) (x : Vec Ideal S2x8192x1280 .f32) (y : Vec Ideal S1280 .f32)
    (hx : V (Proc.devRef .tc main_v73) = x) (hy : V (Proc.devRef .tc main_v75) = y) (s : Fin 8192) (b : Fin 2) (k : Fin 1280) :
    (after hostOps0_4 V (Proc.devRef .tc main_v91_0) : Vec Ideal S8192x2x1280 .f32) (ix3 s b k) = Ideal.exp (x (ix3 b s k) * y (ix1 k)) := by
  subst hx hy
  unfold hostOps0_4
  after_results
  simp only [id_eq]
  generalize V (Proc.devRef .tc main_v73) = x
  generalize V (Proc.devRef .tc main_v75) = y
  pointwise

theorem b4 (V : Valuation τ sig (Elt Ideal)) (x z w : Vec Ideal S2x8192x1280 .f32) (y : Vec Ideal S1280 .f32)
    (hx : V (Proc.devRef .tc main_v73) = x) (hy : V (Proc.devRef .tc main_v75) = y) (hz : V (Proc.devRef .tc main_v71) = z) (hw : V (Proc.devRef .tc main_v46) = w)
    (s : Fin 8192) (b : Fin 2) (k : Fin 1280) :
    (after hostOps0_4 V (Proc.devRef .tc main_v91_1) : Vec Ideal S8192x2x1280 .f32) (ix3 s b k)
      = Rows.drive (x (ix3 b s k) * y (ix1 k)) (z (ix3 b s k)) (w (ix3 b s k)) := by
  subst hx hy hz hw
  unfold hostOps0_4
  after_results
  simp only [id_eq]
  generalize V (Proc.devRef .tc main_v73) = x
  generalize V (Proc.devRef .tc main_v75) = y
  generalize V (Proc.devRef .tc main_v71) = z
  generalize V (Proc.devRef .tc main_v46) = w
  pointwise [Rows.drive]

theorem zero4 (V : Valuation τ sig (Elt Ideal)) (b : Fin 2) (k : Fin 1280) :
    (after hostOps0_4 V (Proc.devRef .tc main_v91_3) : Vec Ideal S2x1280 .f32) (ix2 b k) = (0 : EReal) := by
  unfold hostOps0_4
  after_results
  simp only [id_eq]
  pointwise

/-- The last stretch: the gated states' projection added to the rows. -/
theorem out5 (V : Valuation τ sig (Elt Ideal)) (P : Rows.LruW) (hX : V (Proc.devRef .tc main_arg0) = P.X) (hwo : V (Proc.devRef .tc main_arg10) = P.wo)
    (hh : ∀ (s : Fin 8192) (b : Fin 2) (k : Fin 1280), (V (Proc.devRef .tc main_v91_4) : Vec Ideal S8192x2x1280 .f32) (ix3 s b k) = P.h b (s.val + 1) k)
    (hg : ∀ (b : Fin 2) (s : Fin 8192) (k : Fin 1280), (V (Proc.devRef .tc main_v14) : Vec Ideal S2x8192x1280 .f32) (ix3 b s k) = P.gate b s.val k) :
    after hostOps0_5 V (Proc.devRef .tc main_v109) = P.arr := by
  have e : after hostOps0_5 V (Proc.devRef .tc main_v109)
      = shapeCast S16384x1024 (after hostOps0_5 V (Proc.devRef .tc main_v108) : Vec Ideal S2x8192x1024 .f32) shapeCasts_S2x8192x1024_S16384x1024 := by
    unfold hostOps0_5
    after_results
    rfl
  rw [e]
  have key : ∀ (b : Fin 2) (s : Fin 8192) (j : Fin 1024), (after hostOps0_5 V (Proc.devRef .tc main_v108) : Vec Ideal S2x8192x1024 .f32) (ix3 b s j) = P.out b s.val j := by
    intro b s j
    unfold Rows.LruW.out Rows.vm
    rw [row_fin, ← hX, ← hwo]
    simp only [← hg, ← hh s]
    unfold hostOps0_5
    after_results
    generalize V (Proc.devRef .tc main_arg0) = X
    generalize V (Proc.devRef .tc main_arg10) = wo
    generalize V (Proc.devRef .tc main_v91_4) = h
    generalize V (Proc.devRef .tc main_v14) = g
    pointwise [Rows.gelu]
  generalize after hostOps0_5 V (Proc.devRef .tc main_v108) = Y at key
  funext i
  obtain ⟨n, k, rfl⟩ : ∃ (n : Fin 16384) (k : Fin 1024), i = ix2 n k := ⟨i 0, i 1, ValueIdx.eq_ix2 (n0 := 16384) (n1 := 1024) i⟩
  exact (Rows.flat_apply _ _ n k).trans (key _ _ _)

end Cert.LruRefIdeal.Row
-- ==== Proof.LruRef.lean ====
module

public import proofs.«01_k».proof.Proof.LruRefPre

@[expose] public section

set_option maxRecDepth 16384

noncomputable section

namespace Cert.LruRefIdeal.Row

open Cert.LruRefIdeal Cert.LruRefIdeal.Gen Idealize.ShloMosaic Idealize.ShloMosaic.TcCoe Idealize.SL.Sem
open Cert.LruRefIdeal.Value Idealize.ShloMosaic.StableHlo

theorem clamp0 (n : Fin 8192) (st : Fin 3 → ℤ) (h0 : st 0 = n.val) (h : S8192x2x1280.Slices (fun _ => 0) S1x2x1280) :
    Host.clampedStart S8192x2x1280 S1x2x1280 h.1 st (0 : Fin 3) = n.val :=
  Host.clampedStart_of_le h.1 st (0 : Fin 3) n.val h0 (by show n.val + 1 ≤ 8192; omega)

theorem clamp1 (st : Fin 3 → ℤ) (h1 : st 1 = 0) (h : S8192x2x1280.Slices (fun _ => 0) S1x2x1280) :
    Host.clampedStart S8192x2x1280 S1x2x1280 h.1 st (1 : Fin 3) = 0 :=
  Host.clampedStart_of_le h.1 st (1 : Fin 3) 0 h1 (by show 0 + 2 ≤ 2; omega)

theorem clamp2 (st : Fin 3 → ℤ) (h2 : st 2 = 0) (h : S8192x2x1280.Slices (fun _ => 0) S1x2x1280) :
    Host.clampedStart S8192x2x1280 S1x2x1280 h.1 st (2 : Fin 3) = 0 :=
  Host.clampedStart_of_le h.1 st (2 : Fin 3) 0 h2 (by show 0 + 1280 ≤ 1280; omega)

/-- Row `n` taken out of the stack of rows. -/
theorem slice_at (A : Vec Ideal S8192x2x1280 .f32) (st : Fin 3 → ℤ) (n : Fin 8192) (h0 : st 0 = n.val) (h1 : st 1 = 0) (h2 : st 2 = 0)
    (h : S8192x2x1280.Slices (fun _ => 0) S1x2x1280) (hc : S1x2x1280.ShapeCasts S2x1280) (b : Fin 2) (k : Fin 1280) :
    shapeCast S2x1280 (Host.dynamicSlice S1x2x1280 A st h) hc (ix2 b k) = A (ix3 n b k) := by
  pointwise
  refine congrArg A (funext fun a => Fin.ext ?_)
  match a with
  | ⟨0, _⟩ => exact clamp0 n st h0 h
  | ⟨1, _⟩ => show Host.clampedStart S8192x2x1280 S1x2x1280 h.1 st (1 : Fin 3) + b.val = b.val
              rw [clamp1 st h1 h]; omega
  | ⟨2, _⟩ => show Host.clampedStart S8192x2x1280 S1x2x1280 h.1 st (2 : Fin 3) + k.val = k.val
              rw [clamp2 st h2 h]; omega

/-- Row `n` of the stack of rows replaced. -/
theorem update_at (A : Vec Ideal S8192x2x1280 .f32) (R : Vec Ideal S2x1280 .f32) (st : Fin 3 → ℤ) (n : Fin 8192) (h0 : st 0 = n.val) (h1 : st 1 = 0) (h2 : st 2 = 0)
    (h : S8192x2x1280.Slices (fun _ => 0) S1x2x1280) (s : Fin 8192) (b : Fin 2) (k : Fin 1280) :
    Host.dynamicUpdateSlice A (broadcastInDim S1x2x1280 ![1, 2] bcast_S2x1280_S1x2x1280_1_2 R) st h (ix3 s b k) = if s = n then R (ix2 b k) else A (ix3 s b k) := by
  have c0 := clamp0 n st h0 h
  have c1 := clamp1 st h1 h
  have c2 := clamp2 st h2 h
  pointwise
  by_cases e : s = n
  · rw [if_pos e]
    refine (dif_pos ?_).trans ?_
    · rw [c0, c1, c2, e]
      omega
    · refine congrArg R (funext fun a => Fin.ext ?_)
      match a with
      | ⟨0, _⟩ => show b.val - Host.clampedStart S8192x2x1280 S1x2x1280 h.1 st (1 : Fin 3) = b.val
                  rw [c1]; omega
      | ⟨1, _⟩ => show k.val - Host.clampedStart S8192x2x1280 S1x2x1280 h.1 st (2 : Fin 3) = k.val
                  rw [c2]; omega
  · rw [if_neg e]
    refine dif_neg fun hin => e (Fin.ext ?_)
    rw [c0, c1, c2] at hin
    omega

/-- The trip counter read as an integer. -/
theorem iv_int (n : Fin 8192) : (Scf.iv 0#32 1#32 n.val).toInt = (n.val : ℤ) := by
  have e : (Scf.iv 0#32 1#32 n.val).toNat = n.val := by
    unfold Scf.iv
    simp
    omega
  rw [BitVec.toInt_eq_toNat_cond, e, if_pos (by omega)]

/-- What one trip adds: the decayed state plus the drive of its row. -/
theorem res_apply (X : Valuation τ sig (Elt Ideal)) (n : Fin 8192) (hc : X (Proc.devRef .tc main_v91_2) = fun _ => Scf.iv 0#32 1#32 n.val)
    (A B : Vec Ideal S8192x2x1280 .f32) (h : Vec Ideal S2x1280 .f32) (hA : X (Proc.devRef .tc main_v91_0) = A) (hB : X (Proc.devRef .tc main_v91_1) = B)
    (hh : X (Proc.devRef .tc main_v91_3) = h) (b : Fin 2) (k : Fin 1280) :
    (res_main_while0b_v113 X : Vec Ideal S2x1280 .f32) (ix2 b k) = (A (ix3 n b k) * h (ix2 b k) + B (ix3 n b k) : EReal) := by
  unfold res_main_while0b_v113
  rw [hc, hA, hB, hh]
  refine congrArg₂ (· + · : EReal → EReal → EReal) (congrArg (· * h (ix2 b k) : EReal → EReal) ?_) ?_
  · exact slice_at A _ n (iv_int n) rfl rfl _ _ b k
  · exact slice_at B _ n (iv_int n) rfl rfl _ _ b k

theorem step_apply (X : Valuation τ sig (Elt Ideal)) (n : Fin 8192) (hc : X (Proc.devRef .tc main_v91_2) = fun _ => Scf.iv 0#32 1#32 n.val) (s : Fin 8192) (b : Fin 2) (k : Fin 1280) :
    (step_main_v91_4 X : Vec Ideal S8192x2x1280 .f32) (ix3 s b k)
      = if s = n then (res_main_while0b_v113 X : Vec Ideal S2x1280 .f32) (ix2 b k) else (X (Proc.devRef .tc main_v91_4) : Vec Ideal S8192x2x1280 .f32) (ix3 s b k) := by
  unfold step_main_v91_4
  rw [hc]
  exact update_at _ _ _ n (iv_int n) rfl rfl _ s b k

variable (m : (ℓ : Loc nD τ sig) → Buf (Elt Ideal) ℓ) (ρ : Dev nD → PrngReg)

/-- A buffer none of the stretches between the first and the loop's last stretch writes. -/
theorem keep_pre (V : Valuation τ sig (Elt Ideal)) (r : Ref sig .tc) (h0 : r ∉ hostOps0_W) (h1 : r ∉ hostOps0_1_W) :
    after hostOps0_1 (after hostOps0 V) (Proc.devRef .tc r) = V (Proc.devRef .tc r) :=
  (after_of_writes_sub hostOps0_1 _ hostOps0_1_writes h1).trans (after_of_writes_sub hostOps0 _ hostOps0_writes h0)

/-- The contents after the first three stretches. -/
abbrev A3 (V : Valuation τ sig (Elt Ideal)) : Valuation τ sig (Elt Ideal) := after hostOps0_2 (after hostOps0_1 (after hostOps0 V))

theorem xc3 (V : Valuation τ sig (Elt Ideal)) (b : Fin 2) (s : Fin 8192) (k : Fin 1280) :
    (A3 V (Proc.devRef .tc main_v46) : Vec Ideal S2x8192x1280 .f32) (ix3 b s k) = (PW V).xc b s.val k := by
  refine conv2 _ (PW V) (keep_pre V main_arg3 (by decide +kernel) (by decide +kernel)) (keep_pre V main_arg4 (by decide +kernel) (by decide +kernel)) (fun b j k => ?_) b s k
  rw [pad1 _ (c0 V) _ rfl]
  by_cases h : j.val < 3
  · rw [dif_pos h, if_pos h]
  · rw [dif_neg h, if_neg h]
    exact u0 V b ⟨j.val - 3, by omega⟩ k

theorem ig3 (V : Valuation τ sig (Elt Ideal)) (b : Fin 2) (s : Fin 8192) (k : Fin 1280) :
    (A3 V (Proc.devRef .tc main_v71) : Vec Ideal S2x8192x1280 .f32) (ix3 b s k) = (PW V).ig b s.val k := by
  unfold A3
  rw [ig2, gateR_apply, keep_pre V main_arg7 (by decide +kernel) (by decide +kernel), keep_pre V main_arg8 (by decide +kernel) (by decide +kernel)]
  unfold Rows.LruW.ig
  rw [show (PW V).xc b s.val = _ from funext fun l => (xc3 V b s l).symm]

theorem rg3 (V : Valuation τ sig (Elt Ideal)) (b : Fin 2) (s : Fin 8192) (k : Fin 1280) :
    (A3 V (Proc.devRef .tc main_v73) : Vec Ideal S2x8192x1280 .f32) (ix3 b s k) = Ideal.ofBits .f32 0xC1000000#32 * (PW V).rg b s.val k := by
  unfold A3
  rw [rg2]
  refine congrArg (fun z : EReal => Ideal.ofBits .f32 0xC1000000#32 * z) ?_
  rw [gateR_apply, keep_pre V main_arg5 (by decide +kernel) (by decide +kernel), keep_pre V main_arg6 (by decide +kernel) (by decide +kernel)]
  unfold Rows.LruW.rg
  rw [show (PW V).xc b s.val = _ from funext fun l => (xc3 V b s l).symm]

theorem neg3 (V : Valuation τ sig (Elt Ideal)) (k : Fin 1280) :
    (A3 V (Proc.devRef .tc main_v74) : Vec Ideal S1280 .f32) (ix1 k) = (-(PW V).ap (ix1 k) : EReal) := by
  unfold A3
  rw [neg2, keep_pre V main_arg9 (by decide +kernel) (by decide +kernel)]
  rfl

/-- The contents at the loop's entry. -/
abbrev A5 (V : Valuation τ sig (Elt Ideal)) : Valuation τ sig (Elt Ideal) := after hostOps0_4 (after hostOps0_3 (A3 V))

theorem la5 (V : Valuation τ sig (Elt Ideal)) (x : Vec Ideal S2x8192x1280 .f32) (y : Vec Ideal S1280 .f32)
    (hx : after hostOps0_3 (A3 V) (Proc.devRef .tc main_v73) = x) (hy : after hostOps0_3 (A3 V) (Proc.devRef .tc main_v75) = y)
    (b : Fin 2) (s : Fin 8192) (k : Fin 1280) : (x (ix3 b s k) * y (ix1 k) : EReal) = (PW V).la b s.val k := by
  unfold Rows.LruW.la Rows.logDecay
  have e1 : x (ix3 b s k) = Ideal.ofBits .f32 0xC1000000#32 * (PW V).rg b s.val k := by
    rw [← hx, after_of_writes_sub hostOps0_3 _ hostOps0_3_writes (by decide +kernel)]
    exact rg3 V b s k
  have e2 : y (ix1 k) = Rows.softplus (-(PW V).ap (ix1 k)) := by
    rw [← hy, soft3 _ _ rfl, neg3]
  rw [e1, e2]

theorem a5 (V : Valuation τ sig (Elt Ideal)) (s : Fin 8192) (b : Fin 2) (k : Fin 1280) :
    (A5 V (Proc.devRef .tc main_v91_0) : Vec Ideal S8192x2x1280 .f32) (ix3 s b k) = (PW V).a b s.val k := by
  unfold A5 Rows.LruW.a
  rw [a4 _ _ _ rfl rfl, la5 V _ _ rfl rfl]

theorem b5 (V : Valuation τ sig (Elt Ideal)) (s : Fin 8192) (b : Fin 2) (k : Fin 1280) :
    (A5 V (Proc.devRef .tc main_v91_1) : Vec Ideal S8192x2x1280 .f32) (ix3 s b k) = (PW V).bt b s.val k := by
  unfold A5 Rows.LruW.bt
  rw [b4 _ _ _ _ _ rfl rfl rfl rfl, la5 V _ _ rfl rfl, after_of_writes_sub hostOps0_3 (A3 V) hostOps0_3_writes (r := main_v71) (by decide +kernel),
    after_of_writes_sub hostOps0_3 (A3 V) hostOps0_3_writes (r := main_v46) (by decide +kernel), ig3, xc3]

theorem keep5 (V : Valuation τ sig (Elt Ideal)) (r : Ref sig .tc) (h1 : r ∉ hostOps0_1_W) (h2 : r ∉ hostOps0_2_W) (h3 : r ∉ hostOps0_3_W) (h4 : r ∉ hostOps0_4_W) :
    A5 V (Proc.devRef .tc r) = after hostOps0 V (Proc.devRef .tc r) :=
  (after_of_writes_sub hostOps0_4 _ hostOps0_4_writes h4).trans ((after_of_writes_sub hostOps0_3 _ hostOps0_3_writes h3).trans
    ((after_of_writes_sub hostOps0_2 _ hostOps0_2_writes h2).trans (after_of_writes_sub hostOps0_1 _ hostOps0_1_writes h1)))

theorem gate5 (V : Valuation τ sig (Elt Ideal)) (b : Fin 2) (s : Fin 8192) (k : Fin 1280) :
    (A5 V (Proc.devRef .tc main_v14) : Vec Ideal S2x8192x1280 .f32) (ix3 b s k) = (PW V).gate b s.val k := by
  rw [keep5 V main_v14 (by decide +kernel) (by decide +kernel) (by decide +kernel) (by decide +kernel)]
  exact gate0 V b s k

/-- What a trip writes. -/
abbrev tripW : List (Ref sig .tc) := condOps_W ++ while0Ops0_W ++ while0Ops0_1_W ++ while0Ops0_2_W ++ while0Ops0_3_W ++ while0Ops0_4_W

/-- A buffer no trip writes is as it was at the loop's entry. -/
theorem keepK (c : Dev nD) (r : Ref sig .tc) (h : r ∉ tripW) : ∀ k, atK m k c (Proc.devRef .tc r) = entryContents preI m c (Proc.devRef .tc r)
  | 0 => rfl
  | k + 1 => by
    have h' := h
    simp only [tripW, List.mem_append, not_or] at h
    obtain ⟨⟨⟨⟨⟨hc, h0⟩, h1⟩, h2⟩, h3⟩, h4⟩ := h
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc, keepK c r h' k]
    rfl

/-- The layer's arguments on device `c`. -/
abbrev W (c : Dev nD) : Rows.LruW := PW (launchContents m c)

theorem entry_eq (c : Dev nD) : entryContents preI m c = A5 (launchContents m c) := rfl

/-- Before trip `k`: the decays and drives unchanged, the state after `k` rows, and the states stored so far. -/
theorem loop (c : Dev nD) : ∀ k, k ≤ 8192 →
    (atK m k c (Proc.devRef .tc main_v91_0) = A5 (launchContents m c) (Proc.devRef .tc main_v91_0)
      ∧ atK m k c (Proc.devRef .tc main_v91_1) = A5 (launchContents m c) (Proc.devRef .tc main_v91_1))
    ∧ (∀ (b : Fin 2) (j : Fin 1280), (atK m k c (Proc.devRef .tc main_v91_3) : Vec Ideal S2x1280 .f32) (ix2 b j) = (W m c).h b k j)
    ∧ ∀ (s : Fin 8192) (b : Fin 2) (j : Fin 1280), s.val < k → (atK m k c (Proc.devRef .tc main_v91_4) : Vec Ideal S8192x2x1280 .f32) (ix3 s b j) = (W m c).h b (s.val + 1) j
  | 0, _ => ⟨⟨rfl, rfl⟩, fun b j => zero4 _ b j, fun s b j h => absurd h (Nat.not_lt_zero _)⟩
  | k + 1, hk => by
    obtain ⟨⟨iA, iB⟩, ih, io⟩ := loop c k (by omega)
    have hc := atK_ctr m c k
    have T := trip_agree (atK m k c)
    have eA := (T main_v91_0 (by decide)).trans (STEP_main_v91_0 _)
    have eB := (T main_v91_1 (by decide)).trans (STEP_main_v91_1 _)
    have eh := (T main_v91_3 (by decide)).trans (STEP_main_v91_3 _)
    have eo := (T main_v91_4 (by decide)).trans (STEP_main_v91_4 _)
    have hr : ∀ (b : Fin 2) (j : Fin 1280), (res_main_while0b_v113 (atK m k c) : Vec Ideal S2x1280 .f32) (ix2 b j) = (W m c).h b (k + 1) j := fun b j => by
      rw [res_apply (atK m k c) ⟨k, by omega⟩ hc _ _ _ iA iB rfl, a5, b5, ih, Rows.LruW.h_succ]
    refine ⟨⟨eA.trans iA, eB.trans iB⟩, fun b j => ?_, fun s b j hs => ?_⟩
    · rw [show atK m (k + 1) c = afterL bodyI (after condOps (atK m k c)) from rfl, eh]
      exact hr b j
    · rw [show atK m (k + 1) c = afterL bodyI (after condOps (atK m k c)) from rfl, eo, step_apply (atK m k c) ⟨k, by omega⟩ hc]
      by_cases e : s = ⟨k, by omega⟩
      · rw [if_pos e, hr, e]
      · rw [if_neg e]
        exact io s b j (by
          have : s.val ≠ k := fun h => e (Fin.ext h)
          omega)

/-- The layer's result of device `c`'s arguments. -/
abbrev G (c : Dev nD) : Buf (Elt Ideal) ((c : Thread nD τ).loc main_v109) := (W m c).arr

/-- What the stretch after the loop writes. -/
abbrev postW : List (Ref sig .tc) := [main_v92, main_v93, main_v94, main_cst_11, main_v95, main_v96, main_v97, main_cst_12, main_v98, main_v99, main_v100, main_cst_13, main_v101, main_v102, main_cst_14, main_v103, main_v104, main_v105, main_v106, main_v107, main_v108, main_v109]
theorem post_writes : (hostOps0_5 : List (HloOp τ sig (Elt Ideal))).Forall fun op => op.writes ⊆ (postW.map (Proc.devRef (τ := τ) .tc)).toFinset :=
  StableHlo.forall_writes_sub_of_map rfl

/-- A buffer the program does not write ends as it began. -/
theorem keep_all (c : Dev nD) (r : Ref sig .tc) (h0 : r ∉ hostOps0_W) (h1 : r ∉ hostOps0_1_W) (h2 : r ∉ hostOps0_2_W) (h3 : r ∉ hostOps0_3_W) (h4 : r ∉ hostOps0_4_W)
    (ht : r ∉ tripW) (hc : r ∉ condOps_W) (h5 : r ∉ postW) :
    finalContents condOps preI bodyI postI 8192 m c (Proc.devRef .tc r) = m ((c : Thread nD τ).loc r) :=
  (after_of_writes_sub hostOps0_5 _ post_writes h5).trans ((after_of_writes_sub condOps _ condOps_writes hc).trans ((keepK m c r ht 8192).trans
    ((keep5 (launchContents m c) r h1 h2 h3 h4).trans (after_of_writes_sub hostOps0 _ hostOps0_writes h0))))

theorem keep_post (c : Dev nD) (r : Ref sig .tc) (h1 : r ∉ hostOps0_1_W) (h2 : r ∉ hostOps0_2_W) (h3 : r ∉ hostOps0_3_W) (h4 : r ∉ hostOps0_4_W)
    (ht : r ∉ tripW) (hc : r ∉ condOps_W) :
    after condOps (atK m 8192 c) (Proc.devRef .tc r) = after hostOps0 (launchContents m c) (Proc.devRef .tc r) :=
  (after_of_writes_sub condOps _ condOps_writes hc).trans ((keepK m c r ht 8192).trans (keep5 (launchContents m c) r h1 h2 h3 h4))

/-- The program's result is the layer of its arguments. -/
theorem final (c : Dev nD) : finalContents condOps preI bodyI postI 8192 m c (Proc.devRef .tc main_v109) = G m c := by
  refine out5 (after condOps (atK m 8192 c)) (W m c) ?_ ?_ (fun s b k => ?_) (fun b s k => ?_)
  · rw [keep_post m c main_arg0 (by decide +kernel) (by decide +kernel) (by decide +kernel) (by decide +kernel) (by decide +kernel) (by decide +kernel),
      after_of_writes_sub hostOps0 _ hostOps0_writes (by decide +kernel)]
  · rw [keep_post m c main_arg10 (by decide +kernel) (by decide +kernel) (by decide +kernel) (by decide +kernel) (by decide +kernel) (by decide +kernel),
      after_of_writes_sub hostOps0 _ hostOps0_writes (by decide +kernel)]
  · rw [cond_keeps (atK m 8192 c) main_v91_4 (by decide)]
    exact (loop m c 8192 le_rfl).2.2 s b k s.isLt
  · rw [keep_post m c main_v14 (by decide +kernel) (by decide +kernel) (by decide +kernel) (by decide +kernel) (by decide +kernel) (by decide +kernel)]
    exact gate0 _ b s k

/-- The reference's run: its result is the layer of its arguments, which it leaves unchanged. -/
theorem run : θ_run defs (onTc (τ := τ) (main (F := Ideal))) ⟨m, fun _ => 0, ρ⟩ fun r => ∀ c : Dev nD,
      r.2.mem ((c : Thread nD τ).loc main_v109) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c main_v109 (by decide +kernel)).trans (final m c),
    (h c main_arg0 (by decide +kernel)).trans (keep_all m c main_arg0 (by decide +kernel) (by decide +kernel) (by decide +kernel) (by decide +kernel) (by decide +kernel) (by decide +kernel) (by decide +kernel) (by decide +kernel)),
    (h c main_arg1 (by decide +kernel)).trans (keep_all m c main_arg1 (by decide +kernel) (by decide +kernel) (by decide +kernel) (by decide +kernel) (by decide +kernel) (by decide +kernel) (by decide +kernel) (by decide +kernel)),
    (h c main_arg2 (by decide +kernel)).trans (keep_all m c main_arg2 (by decide +kernel) (by decide +kernel) (by decide +kernel) (by decide +kernel) (by decide +kernel) (by decide +kernel) (by decide +kernel) (by decide +kernel)),
    (h c main_arg3 (by decide +kernel)).trans (keep_all m c main_arg3 (by decide +kernel) (by decide +kernel) (by decide +kernel) (by decide +kernel) (by decide +kernel) (by decide +kernel) (by decide +kernel) (by decide +kernel)),
    (h c main_arg4 (by decide +kernel)).trans (keep_all m c main_arg4 (by decide +kernel) (by decide +kernel) (by decide +kernel) (by decide +kernel) (by decide +kernel) (by decide +kernel) (by decide +kernel) (by decide +kernel)),
    (h c main_arg5 (by decide +kernel)).trans (keep_all m c main_arg5 (by decide +kernel) (by decide +kernel) (by decide +kernel) (by decide +kernel) (by decide +kernel) (by decide +kernel) (by decide +kernel) (by decide +kernel)),
    (h c main_arg6 (by decide +kernel)).trans (keep_all m c main_arg6 (by decide +kernel) (by decide +kernel) (by decide +kernel) (by decide +kernel) (by decide +kernel) (by decide +kernel) (by decide +kernel) (by decide +kernel)),
    (h c main_arg7 (by decide +kernel)).trans (keep_all m c main_arg7 (by decide +kernel) (by decide +kernel) (by decide +kernel) (by decide +kernel) (by decide +kernel) (by decide +kernel) (by decide +kernel) (by decide +kernel)),
    (h c main_arg8 (by decide +kernel)).trans (keep_all m c main_arg8 (by decide +kernel) (by decide +kernel) (by decide +kernel) (by decide +kernel) (by decide +kernel) (by decide +kernel) (by decide +kernel) (by decide +kernel)),
    (h c main_arg9 (by decide +kernel)).trans (keep_all m c main_arg9 (by decide +kernel) (by decide +kernel) (by decide +kernel) (by decide +kernel) (by decide +kernel) (by decide +kernel) (by decide +kernel) (by decide +kernel)),
    (h c main_arg10 (by decide +kernel)).trans (keep_all m c main_arg10 (by decide +kernel) (by decide +kernel) (by decide +kernel) (by decide +kernel) (by decide +kernel) (by decide +kernel) (by decide +kernel) (by decide +kernel))⟩) (run_fold m ρ)

end Cert.LruRefIdeal.Row
-- ==== Proof.LruClaim.lean ====
module

public import proofs.«01_k».proof.Defs
public import proofs.«01_k».proof.Proof.LruVal
public import proofs.«01_k».proof.Proof.LruRef
public import proofs.«01_k».proof.Proof.LruFrameP
public import Idealize.ShloMosaic.Lib.Quiescent

@[expose] public section

set_option maxRecDepth 16384

noncomputable section

namespace Cert.LruClaim

open Idealize.ShloMosaic Idealize.ShloMosaic.TcCoe Idealize.SL.Sem

/-- The kernel runs, leaves its arguments unchanged and its counters at zero. -/
theorem frame : Cert.quiescent_Lru := fun m ρ _ => Cert.Lru.Row.frame m ρ

/-- The same of its idealization. -/
theorem frameIdeal : Cert.quiescent_LruIdeal := fun m ρ _ => Cert.LruIdeal.Row.frame m ρ

/-- The same of the reference. -/
theorem frameRef : Cert.quiescent_LruRefIdeal := fun m ρ _ =>
  (θ_run Cert.LruRefIdeal.defs _ _).mono (fun r h => ⟨fun c => (h c).2, Idealize.ShloMosaic.sem_eq_zero_of_no_sems (by decide) r.2⟩)
    (Cert.LruRefIdeal.Row.run m ρ)

/-- The layer's arguments are equal when each is. -/
theorem args_eq (P Q : Rows.LruW) (hX : P.X = Q.X) (hg : P.g = Q.g) (hw : P.w = Q.w) (hcw : P.cw = Q.cw) (hcb : P.cb = Q.cb) (hwa : P.wa = Q.wa) (hba : P.ba = Q.ba) (hwx : P.wx = Q.wx) (hbx : P.bx = Q.bx) (hap : P.ap = Q.ap) (hwo : P.wo = Q.wo) : P = Q := by
  cases P; cases Q
  cases hX; cases hg; cases hw; cases hcw; cases hcb; cases hwa; cases hba; cases hwx; cases hbx; cases hap; cases hwo
  rfl

/-- Over the extended reals the kernel and the reference end with the same result on the same arguments. -/
theorem algebraic : Cert.algebraic_LruIdeal_LruRefIdeal := fun m ρ m' ρ' _ hag =>
  ⟨fun c => Cert.LruIdeal.Row.G m c, Cert.LruIdeal.Row.run m ρ,
    (θ_run _ _ _).mono (fun _ h c => ⟨(h c).1.trans (by
      obtain ⟨h0, h1, h2, h3, h4, h5, h6, h7, h8, h9, h10⟩ := hag c
      have e : Cert.LruRefIdeal.Row.W m' c = Cert.LruIdeal.Row.W m c := args_eq _ _ h0 h1 h2 h3 h4 h5 h6 h7 h8 h9 h10
      exact congrArg Rows.LruW.arr e), (h c).2⟩) (Cert.LruRefIdeal.Row.run m' ρ')⟩

end Cert.LruClaim

end
-- ==== Proof.PoolRows.lean ====
module

public import proofs.«01_k».proof.Proof.Rows

@[expose] public section

noncomputable section

namespace Cert.Rows

open Idealize.ShloMosaic

/-- The arguments of the pooling mixer: input, norm weights, four head matrices, bias, scale. -/
structure PoolW where
  X : A3 2 8192 1024
  g : A1 1024
  w : A3 4 256 256
  b : A1 1024
  s : A1 1024

/-- Channel `c` of group `q`. -/
def col (q : Fin 4) (c : Fin 256) : Fin 1024 := ⟨256 * q.val + c.val, by omega⟩

namespace PoolW

variable (P : PoolW)

/-- Row `n` of sequence `b`. -/
def row (b : Fin 2) (n : ℕ) (k : Fin 1024) : EReal := P.X (ix3 b (⟨n % 8192, Nat.mod_lt _ (by omega)⟩ : Fin 8192) k)

/-- The normalised row `n`. -/
def xf (b : Fin 2) (n : ℕ) (k : Fin 1024) : EReal := rms (P.row b n) (fun l => P.g (ix1 l)) k

/-- The normalised row `d` steps back, zero before the sequence. -/
def back (b : Fin 2) (n d : ℕ) (k : Fin 1024) : EReal := if n < d then 0 else P.xf b (n - d) k

/-- The sum of the last `w` normalised rows. -/
def win (b : Fin 2) (n w : ℕ) (k : Fin 1024) : EReal := ∑ d ∈ Finset.range w, P.back b n d k

/-- How many rows the window of `w` rows ending at row `n` holds. -/
def cnt (n w : ℕ) : EReal := (((min (n + 1) w : ℕ) : ℝ) : EReal)

/-- The window's mean less the row itself. -/
def mid (b : Fin 2) (n w : ℕ) (k : Fin 1024) : EReal := Ideal.div (P.win b n w k) (cnt n w) - P.xf b n k

/-- Row `n` of the mixer, channel `c` of group `q`, whose window holds `2 ^ (q + 1)` rows. -/
def out (b : Fin 2) (n : ℕ) (q : Fin 4) (c : Fin 256) : EReal :=
  P.row b n (col q c) + ((∑ e, P.mid b n (2 ^ (q.val + 1)) (col q e) * P.w (ix3 q e c)) + P.b (ix1 (col q c))) * P.s (ix1 (col q c))

/-- The mixer's whole result, row by row. -/
def arr : A2 16384 1024 := fun i =>
  P.out (⟨(i 0).val / 8192, by have := (i 0).isLt; change (i 0).val < 16384 at this; omega⟩ : Fin 2) ((i 0).val % 8192)
    (⟨(i 1).val / 256, by have := (i 1).isLt; change (i 1).val < 1024 at this; omega⟩ : Fin 4) (⟨(i 1).val % 256, Nat.mod_lt _ (by omega)⟩ : Fin 256)

end PoolW

/-! ## A difference of prefix sums -/

/-- Over the reals the sum of the terms up to `s` less the sum of those up to `s - w` is the sum of the last `w`. -/
theorem prefix_real (f : ℕ → ℝ) (s : ℕ) : ∀ w : ℕ, (∑ i ∈ Finset.range (s + 1), f i) - (if s < w then 0 else ∑ i ∈ Finset.range (s - w + 1), f i)
    = ∑ d ∈ Finset.range w, if s < d then 0 else f (s - d)
  | 0 => by simp
  | w + 1 => by
    rw [Finset.sum_range_succ (fun d => if s < d then 0 else f (s - d)) w, ← prefix_real f s w]
    by_cases h : s < w
    · simp [h, show s < w + 1 by omega]
    · rw [if_neg h, if_neg h, Finset.sum_range_succ (n := s - w)]
      by_cases h' : s < w + 1
      · rw [if_pos h', show s - w = 0 by omega]; simp
      · rw [if_neg h', show s - (w + 1) + 1 = s - w by omega]; ring

/-- A finite sum of reals in the extended reals. -/
theorem coe_sum (f : ℕ → ℝ) : ∀ n : ℕ, ((∑ i ∈ Finset.range n, f i : ℝ) : EReal) = ∑ i ∈ Finset.range n, (f i : EReal)
  | 0 => by simp
  | n + 1 => by rw [Finset.sum_range_succ, Finset.sum_range_succ, ← coe_sum f n, EReal.coe_add]

/-- The same of finite terms in the extended reals. -/
theorem prefix_diff (f : ℕ → EReal) (hf : ∀ n, ∃ r : ℝ, f n = r) (s w : ℕ) :
    (∑ i ∈ Finset.range (s + 1), f i) - (if s < w then 0 else ∑ i ∈ Finset.range (s - w + 1), f i)
    = ∑ d ∈ Finset.range w, if s < d then 0 else f (s - d) := by
  choose r hr using hf
  have e1 : (if s < w then (0 : EReal) else ∑ i ∈ Finset.range (s - w + 1), f i) = ((if s < w then 0 else ∑ i ∈ Finset.range (s - w + 1), r i : ℝ) : EReal) := by
    split
    · simp
    · simp only [hr]; exact (coe_sum r _).symm
  have e2 : (∑ d ∈ Finset.range w, if s < d then (0 : EReal) else f (s - d)) = ((∑ d ∈ Finset.range w, if s < d then 0 else r (s - d) : ℝ) : EReal) := by
    rw [coe_sum]
    refine Finset.sum_congr rfl fun d _ => ?_
    split
    · simp
    · rw [hr]
  rw [e1, e2]
  simp only [hr]
  rw [← coe_sum r, ← EReal.coe_sub, prefix_real]

/-! ## A normalised row of finite weights is finite -/

/-- A square is never negative. -/
theorem sq_nonneg' (x : EReal) : 0 ≤ x * x := by
  induction x using EReal.rec with
  | bot => simp
  | top => simp
  | coe r => rw [← EReal.coe_mul]; exact_mod_cast mul_self_nonneg r

theorem lit1024 : Ideal.ofBits .f32 0x44800000#32 = ((1024 : ℝ) : EReal) := by
  simp [Ideal.ofBits, Ideal.ieee, -EReal.coe_mul, -EReal.coe_neg]; norm_num

/-- The small constant under the root is a positive real. -/
theorem lit_eps : ∃ e : ℝ, 0 < e ∧ Ideal.ofBits .f32 0x358637BD#32 = (e : EReal) := by
  refine ⟨_, ?_, by simp [Ideal.ofBits, Ideal.ieee, -EReal.coe_mul, -EReal.coe_neg]; rfl⟩
  norm_num

/-- The normalised row's entry is finite where the weight is, whatever the row. -/
theorem rms_finite (x g : Fin 1024 → EReal) (k : Fin 1024) (hg : ∃ r : ℝ, g k = r) : ∃ r : ℝ, rms x g k = r := by
  obtain ⟨r, hr⟩ := hg
  obtain ⟨e, he, hE⟩ := lit_eps
  unfold rms
  rw [hr, lit1024, hE]
  have hS : 0 ≤ ∑ l, x l * x l := Finset.sum_nonneg fun l _ => sq_nonneg' (x l)
  by_cases hT : (∑ l, x l * x l) = ⊤
  · refine ⟨0, ?_⟩
    have h1 : Ideal.div ⊤ ((1024 : ℝ) : EReal) = ⊤ := by
      unfold Ideal.div
      rw [if_neg (by norm_num), ← EReal.coe_inv, EReal.top_mul_coe_of_pos (by norm_num)]
    rw [hT, h1, EReal.top_add_coe]
    have h2 : Ideal.rsqrt ⊤ = 0 := rfl
    rw [h2]; simp
  · have hx : ∀ l, ∃ y : ℝ, x l = y := by
      intro l
      have hl : x l * x l ≤ ∑ l, x l * x l := Finset.single_le_sum (f := fun l => x l * x l) (fun l _ => sq_nonneg' (x l)) (Finset.mem_univ l)
      have hl' : x l * x l ≠ ⊤ := fun h => hT (top_le_iff.mp (h ▸ hl))
      induction h : x l using EReal.rec with
      | bot => rw [h] at hl'; simp at hl'
      | top => rw [h] at hl'; simp at hl'
      | coe y => exact ⟨y, rfl⟩
    obtain ⟨S, hS'⟩ : ∃ S : ℝ, (∑ l, x l * x l) = S := by
      induction h : (∑ l, x l * x l) using EReal.rec with
      | bot => rw [h] at hS; simp at hS
      | top => exact absurd h hT
      | coe y => exact ⟨y, rfl⟩
    rw [hS'] at hS ⊢
    have hS0 : 0 ≤ S := by exact_mod_cast hS
    obtain ⟨y, hy⟩ := hx k
    have h1 : Ideal.div (S : EReal) ((1024 : ℝ) : EReal) = ((S * (1024 : ℝ)⁻¹ : ℝ) : EReal) := by
      unfold Ideal.div
      rw [if_neg (by norm_num), ← EReal.coe_inv, ← EReal.coe_mul]
    have hp : 0 < S * (1024 : ℝ)⁻¹ + e := by positivity
    have h2 : Ideal.rsqrt (((S * (1024 : ℝ)⁻¹ + e : ℝ)) : EReal) = (((Real.sqrt (S * (1024 : ℝ)⁻¹ + e))⁻¹ : ℝ) : EReal) := by
      show (if (S * (1024 : ℝ)⁻¹ + e) < 0 then _ else _) = _
      rw [if_neg (not_lt.mpr hp.le), if_neg hp.ne']
    rw [h1, ← EReal.coe_add, h2, hy, ← EReal.coe_mul, ← EReal.coe_mul]
    exact ⟨_, rfl⟩

/-- With finite norm weights a window's sum is a difference of prefix sums. -/
theorem PoolW.win_eq (P : PoolW) (hg : ∀ k, ∃ r : ℝ, P.g (ix1 k) = r) (b : Fin 2) (s w : ℕ) (k : Fin 1024) :
    (∑ i ∈ Finset.range (s + 1), P.xf b i k) - (if s < w then 0 else ∑ i ∈ Finset.range (s - w + 1), P.xf b i k) = P.win b s w k :=
  prefix_diff (fun i => P.xf b i k) (fun n => rms_finite _ _ k (hg k)) s w

end Cert.Rows

end
-- ==== Proof.PoolPay.lean ====
module

public import proofs.«01_k».proof.Proof.PoolRows
public import proofs.«01_k».proof.Proof.Gen.PoolIdeal.Value
public import Idealize.ShloMosaic.Lib.WritesUnit

@[expose] public section

set_option maxRecDepth 16384

noncomputable section

namespace Cert.PoolIdeal.Row

open Cert.PoolIdeal Cert.PoolIdeal.Gen Idealize.ShloMosaic Idealize.ShloMosaic.TcCoe Idealize.SL.Sem

/-! ## What the payloads compute -/

theorem toInt_small (n : ℕ) (h : n < 100000) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- Row `r` of a tile, plus one, capped by the window's width, as the kernel counts it: a word. -/
theorem cnt_word (n w : ℕ) (hn : n < 8192) (hw : w ≤ 16) :
    (FloatOps.sitofp (F := Ideal) FTy.f32 (IntOp.minsi (BitVec.ofNat 32 (n + 1)) (BitVec.ofNat 32 w)) : EReal) = Rows.PoolW.cnt n w := by
  have e : IntOp.minsi (BitVec.ofNat 32 (n + 1)) (BitVec.ofNat 32 w) = BitVec.ofNat 32 (min (n + 1) w) := by
    unfold IntOp.minsi
    have h1 : (BitVec.ofNat 32 (n + 1)).toInt = (n + 1 : ℕ) := toInt_small _ (by omega)
    have h2 : (BitVec.ofNat 32 w).toInt = (w : ℕ) := toInt_small _ (by omega)
    simp only [BitVec.slt, BitVec.sle, h1, h2]
    rcases le_total (n + 1) w with h | h
    · rw [min_eq_left h]; split <;> rename_i h' <;> simp at h' <;> first | rfl | (congr 1; omega)
    · rw [min_eq_right h]; split <;> rename_i h' <;> simp at h' <;> first | rfl | (congr 1; omega)
  rw [e]
  show (((BitVec.ofNat 32 (min (n + 1) w)).toInt : ℝ) : EReal) = _
  rw [toInt_small _ (by omega)]
  unfold Rows.PoolW.cnt
  norm_cast

/-- The position word of row `r` of the tile at point `i`. -/
theorem pos_word (i : grid0.Coords) (r : Fin 512) :
    IntOp.addi (IntOp.addi (Scalar.muli (BitVec.ofNat 32 (i 1).val) 512#32) (BitVec.ofNat 32 r.val)) 1#32 = BitVec.ofNat 32 (512 * (i 1).val + r.val + 1) := by
  show BitVec.ofNat 32 (i 1).val * BitVec.ofNat 32 512 + BitVec.ofNat 32 r.val + BitVec.ofNat 32 1 = _
  rw [← BitVec.ofNat_mul, ← BitVec.ofNat_add, ← BitVec.ofNat_add, Nat.mul_comm]

/-- The tile's strip of group 0: of the rows `x`, the buffer's rows `Bc` at the tile and `B` before it, and the weights. -/
def st0 (i : grid0.Coords) (x : Vec Ideal S512x1024 .f32) (Bc B : Vec Ideal S528x1024 .f32) (w : Vec Ideal S4x256x256 .bf16) (b s : Vec Ideal S1x1024 .f32) : Vec Ideal S512x256 .f32 :=
  k0_pay7 (k0_pay3 x) (k0_pay6 i (extractStridedSlice S512x256 ![16, 0] Bc ⟨rfl, by decide⟩) (extractStridedSlice S512x256 ![15, 0] B ⟨rfl, by decide⟩)) (extractStridedSlice S1x256x256 ![0, 0, 0] w ⟨rfl, by decide⟩) (extractStridedSlice S1x256 ![0, 0] b ⟨rfl, by decide⟩) (extractStridedSlice S1x256 ![0, 0] s ⟨rfl, by decide⟩)

/-- The tile's strip of group 1: of the rows `x`, the buffer's rows `Bc` at the tile and `B` before it, and the weights. -/
def st1 (i : grid0.Coords) (x : Vec Ideal S512x1024 .f32) (Bc B : Vec Ideal S528x1024 .f32) (w : Vec Ideal S4x256x256 .bf16) (b s : Vec Ideal S1x1024 .f32) : Vec Ideal S512x256 .f32 :=
  k0_pay10 (k0_pay8 (k0_pay5 i) (extractStridedSlice S512x256 ![16, 256] Bc ⟨rfl, by decide⟩) (extractStridedSlice S512x256 ![15, 256] B ⟨rfl, by decide⟩) (extractStridedSlice S512x256 ![14, 256] B ⟨rfl, by decide⟩) (extractStridedSlice S512x256 ![13, 256] B ⟨rfl, by decide⟩) (extractStridedSlice S1x256x256 ![1, 0, 0] w ⟨rfl, by decide⟩)) (k0_pay9 (k0_pay3 x)) (extractStridedSlice S1x256 ![0, 256] b ⟨rfl, by decide⟩) (extractStridedSlice S1x256 ![0, 256] s ⟨rfl, by decide⟩)

/-- The tile's strip of group 2: of the rows `x`, the buffer's rows `Bc` at the tile and `B` before it, and the weights. -/
def st2 (i : grid0.Coords) (x : Vec Ideal S512x1024 .f32) (Bc B : Vec Ideal S528x1024 .f32) (w : Vec Ideal S4x256x256 .bf16) (b s : Vec Ideal S1x1024 .f32) : Vec Ideal S512x256 .f32 :=
  k0_pay13 (k0_pay3 x) (k0_pay11 (k0_pay5 i) (extractStridedSlice S512x256 ![16, 512] Bc ⟨rfl, by decide⟩) (extractStridedSlice S512x256 ![15, 512] B ⟨rfl, by decide⟩) (extractStridedSlice S512x256 ![14, 512] B ⟨rfl, by decide⟩) (extractStridedSlice S512x256 ![13, 512] B ⟨rfl, by decide⟩) (extractStridedSlice S512x256 ![12, 512] B ⟨rfl, by decide⟩) (extractStridedSlice S512x256 ![11, 512] B ⟨rfl, by decide⟩) (extractStridedSlice S512x256 ![10, 512] B ⟨rfl, by decide⟩) (extractStridedSlice S512x256 ![9, 512] B ⟨rfl, by decide⟩)) (k0_pay12 (extractStridedSlice S1x256x256 ![2, 0, 0] w ⟨rfl, by decide⟩)) (extractStridedSlice S1x256 ![0, 512] b ⟨rfl, by decide⟩) (extractStridedSlice S1x256 ![0, 512] s ⟨rfl, by decide⟩)

/-- The tile's strip of group 3: of the rows `x`, the buffer's rows `Bc` at the tile and `B` before it, and the weights. -/
def st3 (i : grid0.Coords) (x : Vec Ideal S512x1024 .f32) (Bc B : Vec Ideal S528x1024 .f32) (w : Vec Ideal S4x256x256 .bf16) (b s : Vec Ideal S1x1024 .f32) : Vec Ideal S512x256 .f32 :=
  k0_pay15 (k0_pay3 x) (k0_pay5 i) (extractStridedSlice S512x256 ![16, 768] Bc ⟨rfl, by decide⟩) (k0_pay14 (extractStridedSlice S512x256 ![16, 768] Bc ⟨rfl, by decide⟩) (extractStridedSlice S512x256 ![15, 768] B ⟨rfl, by decide⟩) (extractStridedSlice S512x256 ![14, 768] B ⟨rfl, by decide⟩) (extractStridedSlice S512x256 ![13, 768] B ⟨rfl, by decide⟩) (extractStridedSlice S512x256 ![12, 768] B ⟨rfl, by decide⟩) (extractStridedSlice S512x256 ![11, 768] B ⟨rfl, by decide⟩) (extractStridedSlice S512x256 ![10, 768] B ⟨rfl, by decide⟩) (extractStridedSlice S512x256 ![9, 768] B ⟨rfl, by decide⟩) (extractStridedSlice S512x256 ![8, 768] B ⟨rfl, by decide⟩) (extractStridedSlice S512x256 ![7, 768] B ⟨rfl, by decide⟩)) (extractStridedSlice S512x256 ![6, 768] B ⟨rfl, by decide⟩) (extractStridedSlice S512x256 ![5, 768] B ⟨rfl, by decide⟩) (extractStridedSlice S512x256 ![4, 768] B ⟨rfl, by decide⟩) (extractStridedSlice S512x256 ![3, 768] B ⟨rfl, by decide⟩) (extractStridedSlice S512x256 ![2, 768] B ⟨rfl, by decide⟩) (extractStridedSlice S512x256 ![1, 768] B ⟨rfl, by decide⟩) (extractStridedSlice S1x256x256 ![3, 0, 0] w ⟨rfl, by decide⟩) (extractStridedSlice S1x256 ![0, 768] b ⟨rfl, by decide⟩) (extractStridedSlice S1x256 ![0, 768] s ⟨rfl, by decide⟩)

/-- What the blocks and the buffer of tile `q` of sequence `sq` hold, in the mixer's arguments. -/
structure Tile (P : Rows.PoolW) (sq : Fin 2) (i : grid0.Coords) (x : Vec Ideal S512x1024 .f32) (Bc B : Vec Ideal S528x1024 .f32) (w : Vec Ideal S4x256x256 .bf16) (b s : Vec Ideal S1x1024 .f32) : Prop where
  x : ∀ r k, x (ix2 r k) = P.row sq (512 * (i 1).val + r.val) k
  cur : ∀ (r : Fin 512) k h, Bc (ix2 (⟨16 + r.val, h⟩ : Fin 528) k) = P.xf sq (512 * (i 1).val + r.val) k
  bk : ∀ (o : ℕ) (r : Fin 512) k h, o ≤ 16 → B (ix2 (⟨o + r.val, h⟩ : Fin 528) k) = P.back sq (512 * (i 1).val + r.val) (16 - o) k
  w : ∀ q k l, w (ix3 q k l) = P.w (ix3 q k l)
  b : ∀ k, b (ix2 0 k) = P.b (ix1 k)
  s : ∀ k, s (ix2 0 k) = P.s (ix1 k)

variable {P : Rows.PoolW} {sq : Fin 2} {i : grid0.Coords} {x : Vec Ideal S512x1024 .f32} {Bc B : Vec Ideal S528x1024 .f32} {w : Vec Ideal S4x256x256 .bf16} {b s : Vec Ideal S1x1024 .f32}

/-- Strip 0 at an element: the row's own entry and the projected mean of the 2 rows ending there less the row. -/
theorem p0 (i : grid0.Coords) (x : Vec Ideal S512x1024 .f32) (Bc B : Vec Ideal S528x1024 .f32) (w : Vec Ideal S4x256x256 .bf16) (b s : Vec Ideal S1x1024 .f32) (r : Fin 512) (c : Fin 256) :
    st0 i x Bc B w b s (ix2 r c) = x (ix2 r (⟨c.val, by omega⟩ : Fin 1024)) + ((∑ e : Fin 256, (Ideal.div (Bc (ix2 (⟨16 + r.val, by omega⟩ : Fin 528) (⟨e.val, by omega⟩ : Fin 1024)) + B (ix2 (⟨15 + r.val, by omega⟩ : Fin 528) (⟨e.val, by omega⟩ : Fin 1024)))
      (FloatOps.sitofp (F := Ideal) FTy.f32 (IntOp.minsi (IntOp.addi (IntOp.addi (Scalar.muli (BitVec.ofNat 32 (i 1).val) 512#32) (BitVec.ofNat 32 r.val)) 1#32) 2#32))
      - Bc (ix2 (⟨16 + r.val, by omega⟩ : Fin 528) (⟨e.val, by omega⟩ : Fin 1024))) * w (ix3 0 e c)) + b (ix2 0 (⟨c.val, by omega⟩ : Fin 1024))) * s (ix2 0 (⟨c.val, by omega⟩ : Fin 1024)) := by
  unfold Row.st0
  pointwise [k0_pay7, k0_pay6, k0_pay3, k0_pay5]

/-- Strip 0 of the tile is the mixer's rows in group 0. -/
theorem Tile.st0 (T : Tile P sq i x Bc B w b s) (r : Fin 512) (c : Fin 256) : st0 i x Bc B w b s (ix2 r c) = P.out sq (512 * (i 1).val + r.val) 0 c := by
  have hi : (i 1).val < 16 := (i 1).isLt
  have e : ∀ c : Fin 256, (⟨c.val, by omega⟩ : Fin 1024) = Rows.col 0 c := fun c => Fin.ext (by simp [Rows.col])
  have hc : (FloatOps.sitofp (F := Ideal) FTy.f32 (IntOp.minsi (BitVec.ofNat 32 (512 * (i 1).val + r.val + 1)) 2#32) : EReal) = _ := cnt_word (512 * (i 1).val + r.val) 2 (by omega) (by omega)
  rw [p0, pos_word, hc]
  simp only [e, T.x, T.cur, T.bk 15 _ _ _ (by omega), T.w, T.b, T.s]
  unfold Rows.PoolW.out Rows.PoolW.mid Rows.PoolW.win
  show _ = P.row sq (512 * (i 1).val + r.val) (Rows.col 0 c) + ((∑ e, (Ideal.div (∑ d ∈ Finset.range 2, P.back sq (512 * (i 1).val + r.val) d (Rows.col 0 e)) _ - _) * _) + _) * _
  simp only [Finset.sum_range_succ, Finset.sum_range_zero, zero_add]
  rfl

/-- Strip 1 at an element: the row's own entry and the projected mean of the 4 rows ending there less the row. -/
theorem p1 (i : grid0.Coords) (x : Vec Ideal S512x1024 .f32) (Bc B : Vec Ideal S528x1024 .f32) (w : Vec Ideal S4x256x256 .bf16) (b s : Vec Ideal S1x1024 .f32) (r : Fin 512) (c : Fin 256) :
    st1 i x Bc B w b s (ix2 r c) = x (ix2 r (⟨256 + c.val, by omega⟩ : Fin 1024)) + ((∑ e : Fin 256, (Ideal.div (Bc (ix2 (⟨16 + r.val, by omega⟩ : Fin 528) (⟨256 + e.val, by omega⟩ : Fin 1024)) + B (ix2 (⟨15 + r.val, by omega⟩ : Fin 528) (⟨256 + e.val, by omega⟩ : Fin 1024)) + B (ix2 (⟨14 + r.val, by omega⟩ : Fin 528) (⟨256 + e.val, by omega⟩ : Fin 1024)) + B (ix2 (⟨13 + r.val, by omega⟩ : Fin 528) (⟨256 + e.val, by omega⟩ : Fin 1024)))
      (FloatOps.sitofp (F := Ideal) FTy.f32 (IntOp.minsi (IntOp.addi (IntOp.addi (Scalar.muli (BitVec.ofNat 32 (i 1).val) 512#32) (BitVec.ofNat 32 r.val)) 1#32) 4#32))
      - Bc (ix2 (⟨16 + r.val, by omega⟩ : Fin 528) (⟨256 + e.val, by omega⟩ : Fin 1024))) * w (ix3 1 e c)) + b (ix2 0 (⟨256 + c.val, by omega⟩ : Fin 1024))) * s (ix2 0 (⟨256 + c.val, by omega⟩ : Fin 1024)) := by
  unfold Row.st1
  pointwise [k0_pay10, k0_pay8, k0_pay9, k0_pay3, k0_pay5]

/-- Strip 1 of the tile is the mixer's rows in group 1. -/
theorem Tile.st1 (T : Tile P sq i x Bc B w b s) (r : Fin 512) (c : Fin 256) : st1 i x Bc B w b s (ix2 r c) = P.out sq (512 * (i 1).val + r.val) 1 c := by
  have hi : (i 1).val < 16 := (i 1).isLt
  have e : ∀ c : Fin 256, (⟨256 + c.val, by omega⟩ : Fin 1024) = Rows.col 1 c := fun c => Fin.ext (by simp [Rows.col])
  have hc : (FloatOps.sitofp (F := Ideal) FTy.f32 (IntOp.minsi (BitVec.ofNat 32 (512 * (i 1).val + r.val + 1)) 4#32) : EReal) = _ := cnt_word (512 * (i 1).val + r.val) 4 (by omega) (by omega)
  rw [p1, pos_word, hc]
  simp only [e, T.x, T.cur, T.bk 15 _ _ _ (by omega), T.bk 14 _ _ _ (by omega), T.bk 13 _ _ _ (by omega), T.w, T.b, T.s]
  unfold Rows.PoolW.out Rows.PoolW.mid Rows.PoolW.win
  show _ = P.row sq (512 * (i 1).val + r.val) (Rows.col 1 c) + ((∑ e, (Ideal.div (∑ d ∈ Finset.range 4, P.back sq (512 * (i 1).val + r.val) d (Rows.col 1 e)) _ - _) * _) + _) * _
  simp only [Finset.sum_range_succ, Finset.sum_range_zero, zero_add]
  rfl

/-- Strip 2 at an element: the row's own entry and the projected mean of the 8 rows ending there less the row. -/
theorem p2 (i : grid0.Coords) (x : Vec Ideal S512x1024 .f32) (Bc B : Vec Ideal S528x1024 .f32) (w : Vec Ideal S4x256x256 .bf16) (b s : Vec Ideal S1x1024 .f32) (r : Fin 512) (c : Fin 256) :
    st2 i x Bc B w b s (ix2 r c) = x (ix2 r (⟨512 + c.val, by omega⟩ : Fin 1024)) + ((∑ e : Fin 256, (Ideal.div (Bc (ix2 (⟨16 + r.val, by omega⟩ : Fin 528) (⟨512 + e.val, by omega⟩ : Fin 1024)) + B (ix2 (⟨15 + r.val, by omega⟩ : Fin 528) (⟨512 + e.val, by omega⟩ : Fin 1024)) + B (ix2 (⟨14 + r.val, by omega⟩ : Fin 528) (⟨512 + e.val, by omega⟩ : Fin 1024)) + B (ix2 (⟨13 + r.val, by omega⟩ : Fin 528) (⟨512 + e.val, by omega⟩ : Fin 1024)) + B (ix2 (⟨12 + r.val, by omega⟩ : Fin 528) (⟨512 + e.val, by omega⟩ : Fin 1024)) + B (ix2 (⟨11 + r.val, by omega⟩ : Fin 528) (⟨512 + e.val, by omega⟩ : Fin 1024)) + B (ix2 (⟨10 + r.val, by omega⟩ : Fin 528) (⟨512 + e.val, by omega⟩ : Fin 1024)) + B (ix2 (⟨9 + r.val, by omega⟩ : Fin 528) (⟨512 + e.val, by omega⟩ : Fin 1024)))
      (FloatOps.sitofp (F := Ideal) FTy.f32 (IntOp.minsi (IntOp.addi (IntOp.addi (Scalar.muli (BitVec.ofNat 32 (i 1).val) 512#32) (BitVec.ofNat 32 r.val)) 1#32) 8#32))
      - Bc (ix2 (⟨16 + r.val, by omega⟩ : Fin 528) (⟨512 + e.val, by omega⟩ : Fin 1024))) * w (ix3 2 e c)) + b (ix2 0 (⟨512 + c.val, by omega⟩ : Fin 1024))) * s (ix2 0 (⟨512 + c.val, by omega⟩ : Fin 1024)) := by
  unfold Row.st2
  pointwise [k0_pay13, k0_pay11, k0_pay12, k0_pay3, k0_pay5]

/-- Strip 2 of the tile is the mixer's rows in group 2. -/
theorem Tile.st2 (T : Tile P sq i x Bc B w b s) (r : Fin 512) (c : Fin 256) : st2 i x Bc B w b s (ix2 r c) = P.out sq (512 * (i 1).val + r.val) 2 c := by
  have hi : (i 1).val < 16 := (i 1).isLt
  have e : ∀ c : Fin 256, (⟨512 + c.val, by omega⟩ : Fin 1024) = Rows.col 2 c := fun c => Fin.ext (by simp [Rows.col])
  have hc : (FloatOps.sitofp (F := Ideal) FTy.f32 (IntOp.minsi (BitVec.ofNat 32 (512 * (i 1).val + r.val + 1)) 8#32) : EReal) = _ := cnt_word (512 * (i 1).val + r.val) 8 (by omega) (by omega)
  rw [p2, pos_word, hc]
  simp only [e, T.x, T.cur, T.bk 15 _ _ _ (by omega), T.bk 14 _ _ _ (by omega), T.bk 13 _ _ _ (by omega), T.bk 12 _ _ _ (by omega), T.bk 11 _ _ _ (by omega), T.bk 10 _ _ _ (by omega), T.bk 9 _ _ _ (by omega), T.w, T.b, T.s]
  unfold Rows.PoolW.out Rows.PoolW.mid Rows.PoolW.win
  show _ = P.row sq (512 * (i 1).val + r.val) (Rows.col 2 c) + ((∑ e, (Ideal.div (∑ d ∈ Finset.range 8, P.back sq (512 * (i 1).val + r.val) d (Rows.col 2 e)) _ - _) * _) + _) * _
  simp only [Finset.sum_range_succ, Finset.sum_range_zero, zero_add]
  rfl

/-- Strip 3 at an element: the row's own entry and the projected mean of the 16 rows ending there less the row. -/
theorem p3 (i : grid0.Coords) (x : Vec Ideal S512x1024 .f32) (Bc B : Vec Ideal S528x1024 .f32) (w : Vec Ideal S4x256x256 .bf16) (b s : Vec Ideal S1x1024 .f32) (r : Fin 512) (c : Fin 256) :
    st3 i x Bc B w b s (ix2 r c) = x (ix2 r (⟨768 + c.val, by omega⟩ : Fin 1024)) + ((∑ e : Fin 256, (Ideal.div (Bc (ix2 (⟨16 + r.val, by omega⟩ : Fin 528) (⟨768 + e.val, by omega⟩ : Fin 1024)) + B (ix2 (⟨15 + r.val, by omega⟩ : Fin 528) (⟨768 + e.val, by omega⟩ : Fin 1024)) + B (ix2 (⟨14 + r.val, by omega⟩ : Fin 528) (⟨768 + e.val, by omega⟩ : Fin 1024)) + B (ix2 (⟨13 + r.val, by omega⟩ : Fin 528) (⟨768 + e.val, by omega⟩ : Fin 1024)) + B (ix2 (⟨12 + r.val, by omega⟩ : Fin 528) (⟨768 + e.val, by omega⟩ : Fin 1024)) + B (ix2 (⟨11 + r.val, by omega⟩ : Fin 528) (⟨768 + e.val, by omega⟩ : Fin 1024)) + B (ix2 (⟨10 + r.val, by omega⟩ : Fin 528) (⟨768 + e.val, by omega⟩ : Fin 1024)) + B (ix2 (⟨9 + r.val, by omega⟩ : Fin 528) (⟨768 + e.val, by omega⟩ : Fin 1024)) + B (ix2 (⟨8 + r.val, by omega⟩ : Fin 528) (⟨768 + e.val, by omega⟩ : Fin 1024)) + B (ix2 (⟨7 + r.val, by omega⟩ : Fin 528) (⟨768 + e.val, by omega⟩ : Fin 1024)) + B (ix2 (⟨6 + r.val, by omega⟩ : Fin 528) (⟨768 + e.val, by omega⟩ : Fin 1024)) + B (ix2 (⟨5 + r.val, by omega⟩ : Fin 528) (⟨768 + e.val, by omega⟩ : Fin 1024)) + B (ix2 (⟨4 + r.val, by omega⟩ : Fin 528) (⟨768 + e.val, by omega⟩ : Fin 1024)) + B (ix2 (⟨3 + r.val, by omega⟩ : Fin 528) (⟨768 + e.val, by omega⟩ : Fin 1024)) + B (ix2 (⟨2 + r.val, by omega⟩ : Fin 528) (⟨768 + e.val, by omega⟩ : Fin 1024)) + B (ix2 (⟨1 + r.val, by omega⟩ : Fin 528) (⟨768 + e.val, by omega⟩ : Fin 1024)))
      (FloatOps.sitofp (F := Ideal) FTy.f32 (IntOp.minsi (IntOp.addi (IntOp.addi (Scalar.muli (BitVec.ofNat 32 (i 1).val) 512#32) (BitVec.ofNat 32 r.val)) 1#32) 16#32))
      - Bc (ix2 (⟨16 + r.val, by omega⟩ : Fin 528) (⟨768 + e.val, by omega⟩ : Fin 1024))) * w (ix3 3 e c)) + b (ix2 0 (⟨768 + c.val, by omega⟩ : Fin 1024))) * s (ix2 0 (⟨768 + c.val, by omega⟩ : Fin 1024)) := by
  unfold Row.st3
  pointwise [k0_pay15, k0_pay14, k0_pay3, k0_pay5]

/-- Strip 3 of the tile is the mixer's rows in group 3. -/
theorem Tile.st3 (T : Tile P sq i x Bc B w b s) (r : Fin 512) (c : Fin 256) : st3 i x Bc B w b s (ix2 r c) = P.out sq (512 * (i 1).val + r.val) 3 c := by
  have hi : (i 1).val < 16 := (i 1).isLt
  have e : ∀ c : Fin 256, (⟨768 + c.val, by omega⟩ : Fin 1024) = Rows.col 3 c := fun c => Fin.ext (by simp [Rows.col])
  have hc : (FloatOps.sitofp (F := Ideal) FTy.f32 (IntOp.minsi (BitVec.ofNat 32 (512 * (i 1).val + r.val + 1)) 16#32) : EReal) = _ := cnt_word (512 * (i 1).val + r.val) 16 (by omega) (by omega)
  rw [p3, pos_word, hc]
  simp only [e, T.x, T.cur, T.bk 15 _ _ _ (by omega), T.bk 14 _ _ _ (by omega), T.bk 13 _ _ _ (by omega), T.bk 12 _ _ _ (by omega), T.bk 11 _ _ _ (by omega), T.bk 10 _ _ _ (by omega), T.bk 9 _ _ _ (by omega), T.bk 8 _ _ _ (by omega), T.bk 7 _ _ _ (by omega), T.bk 6 _ _ _ (by omega), T.bk 5 _ _ _ (by omega), T.bk 4 _ _ _ (by omega), T.bk 3 _ _ _ (by omega), T.bk 2 _ _ _ (by omega), T.bk 1 _ _ _ (by omega), T.w, T.b, T.s]
  unfold Rows.PoolW.out Rows.PoolW.mid Rows.PoolW.win
  show _ = P.row sq (512 * (i 1).val + r.val) (Rows.col 3 c) + ((∑ e, (Ideal.div (∑ d ∈ Finset.range 16, P.back sq (512 * (i 1).val + r.val) d (Rows.col 3 e)) _ - _) * _) + _) * _
  simp only [Finset.sum_range_succ, Finset.sum_range_zero, zero_add]
  rfl

end Cert.PoolIdeal.Row

end
-- ==== Proof.PoolRun.lean ====
module

public import proofs.«01_k».proof.Proof.PoolPay

@[expose] public section

set_option maxRecDepth 16384

noncomputable section

namespace Cert.PoolIdeal.Row

open Cert.PoolIdeal Cert.PoolIdeal.Gen Idealize.ShloMosaic Idealize.ShloMosaic.TcCoe Idealize.SL.Sem

/-! ## The four strips a point stores, and its buffer -/

theorem zero2 : (![0, 0] : Fin 2 → ℕ) = fun _ => 0 := by funext a; match a with | ⟨0, _⟩ => rfl | ⟨1, _⟩ => rfl

/-- A whole block read is the block. -/
theorem ldx (X : S512x1024.Idx → Elt Ideal .f32) (inb) : View.ld (Val := Elt Ideal) (e' := .f32) X (Rect.unit ![0, 0] ![512, 1024] inb) = X :=
  View.ld_unit_zero (S := S512x1024) zero2 inb X
theorem ldg (X : S1x1024.Idx → Elt Ideal .f32) (inb) : View.ld (Val := Elt Ideal) (e' := .f32) X (Rect.unit ![0, 0] ![1, 1024] inb) = X :=
  View.ld_unit_zero (S := S1x1024) zero2 inb X

/-- Four stored strips of 256 channels read back at an element. -/
theorem strips (v : View sig .tc .vmem S512x1024 .f32) (f : v.ty.Contents (Elt Ideal)) (s3 s2 s1 s0 : Vec Ideal S512x256 .f32) (G : Fin 4 → Fin 512 → Fin 256 → EReal)
    (h0 : ∀ r c, s0 (ix2 r c) = G 0 r c) (h1 : ∀ r c, s1 (ix2 r c) = G 1 r c) (h2 : ∀ r c, s2 (ix2 r c) = G 2 r c) (h3 : ∀ r c, s3 (ix2 r c) = G 3 r c)
    (q : Fin 4) (r : Fin 512) (c : Fin 256) :
    v.read (Elt Ideal) (v.writes (Elt Ideal) f [⟨Rect.unit ![0, 768] ![512, 256] inb_S512x1024_S512x256_0_768, s3⟩, ⟨Rect.unit ![0, 512] ![512, 256] inb_S512x1024_S512x256_0_512, s2⟩,
      ⟨Rect.unit ![0, 256] ![512, 256] inb_S512x1024_S512x256_0_256, s1⟩, ⟨Rect.unit ![0, 0] ![512, 256] inb_S512x1024_S512x256_0_0, s0⟩]) (ix2 r (Rows.col q c)) = G q r c := by
  have hin : ∀ (o : ℕ) (ho : o = 256 * q.val), ∀ a, ((ix2 r (Rows.col q c) : S512x1024.Idx) a).val = (![0, o] : Fin 2 → ℕ) a + ((ix2 r c : S512x256.Idx) a).val := by
    intro o ho a
    match a with
    | ⟨0, _⟩ => show r.val = 0 + r.val; omega
    | ⟨1, _⟩ => show 256 * q.val + c.val = o + c.val; omega
  have hout : ∀ (o : ℕ), 256 * q.val + 256 ≤ o → ((ix2 r (Rows.col q c) : S512x1024.Idx) 1).val < (![0, o] : Fin 2 → ℕ) 1 ∨ (![0, o] : Fin 2 → ℕ) 1 + (![512, 256] : Fin 2 → ℕ) 1 ≤ ((ix2 r (Rows.col q c) : S512x1024.Idx) 1).val := by
    intro o ho
    left
    show 256 * q.val + c.val < o
    omega
  match q, hin, hout with
  | 3, hin, _ => exact (View.read_writes_cons_unit_of_mem v f _ _ _ _ (ix2 r c) rfl (hin _ (by decide))).trans (h3 r c)
  | 2, hin, hout =>
    refine (View.read_writes_cons_unit_of_not_mem v f _ _ _ _ rfl 1 (hout _ (by decide))).trans ?_
    exact (View.read_writes_cons_unit_of_mem v f _ _ _ _ (ix2 r c) rfl (hin _ (by decide))).trans (h2 r c)
  | 1, hin, hout =>
    refine (View.read_writes_cons_unit_of_not_mem v f _ _ _ _ rfl 1 (hout _ (by decide))).trans ?_
    refine (View.read_writes_cons_unit_of_not_mem v f _ _ _ _ rfl 1 (hout _ (by decide))).trans ?_
    exact (View.read_writes_cons_unit_of_mem v f _ _ _ _ (ix2 r c) rfl (hin _ (by decide))).trans (h1 r c)
  | 0, hin, hout =>
    refine (View.read_writes_cons_unit_of_not_mem v f _ _ _ _ rfl 1 (hout _ (by decide))).trans ?_
    refine (View.read_writes_cons_unit_of_not_mem v f _ _ _ _ rfl 1 (hout _ (by decide))).trans ?_
    refine (View.read_writes_cons_unit_of_not_mem v f _ _ _ _ rfl 1 (hout _ (by decide))).trans ?_
    exact (View.read_writes_cons_unit_of_mem v f _ _ _ _ (ix2 r c) rfl (hin _ (by decide))).trans (h0 r c)

/-- Rows 16 to 527 of the buffer, once stored. -/
theorem buf_cur (v : View sig .tc .vmem S528x1024 .f32) (f : v.ty.Contents (Elt Ideal)) (R : Vec Ideal S512x1024 .f32) (L : List (View.Piece (Elt Ideal) S528x1024 .f32)) (r : Fin 512) (k : Fin 1024) (h : 16 + r.val < 528) :
    v.read (Elt Ideal) (v.writes (Elt Ideal) f (⟨Rect.unit ![16, 0] ![512, 1024] inb_S528x1024_S512x1024_16_0, R⟩ :: L)) (ix2 (⟨16 + r.val, h⟩ : Fin 528) k) = R (ix2 r k) :=
  View.read_writes_cons_unit_of_mem v f _ _ _ _ (ix2 r k) rfl fun a => by
    match a with
    | ⟨0, _⟩ => rfl
    | ⟨1, _⟩ => show k.val = 0 + k.val; omega

/-- The rows before them keep what they held. -/
theorem buf_old (v : View sig .tc .vmem S528x1024 .f32) (f : v.ty.Contents (Elt Ideal)) (R : Vec Ideal S512x1024 .f32) (L : List (View.Piece (Elt Ideal) S528x1024 .f32)) (j : Fin 528) (hj : j.val < 16) (k : Fin 1024) :
    v.read (Elt Ideal) (v.writes (Elt Ideal) f (⟨Rect.unit ![16, 0] ![512, 1024] inb_S528x1024_S512x1024_16_0, R⟩ :: L)) (ix2 j k) = v.read (Elt Ideal) (v.writes (Elt Ideal) f L) (ix2 j k) :=
  View.read_writes_cons_unit_of_not_mem v f _ _ _ _ rfl 0 (Or.inl hj)

/-- Sixteen stored rows at the top. -/
theorem buf_top (v : View sig .tc .vmem S528x1024 .f32) (f : v.ty.Contents (Elt Ideal)) (R : Vec Ideal S16x1024 .f32) (L : List (View.Piece (Elt Ideal) S528x1024 .f32)) (j : Fin 528) (hj : j.val < 16) (k : Fin 1024) :
    v.read (Elt Ideal) (v.writes (Elt Ideal) f (⟨Rect.unit ![0, 0] ![16, 1024] inb_S528x1024_S16x1024_0_0, R⟩ :: L)) (ix2 j k) = R (ix2 (⟨j.val, hj⟩ : Fin 16) k) :=
  View.read_writes_cons_unit_of_mem v f _ _ _ _ (ix2 (⟨j.val, hj⟩ : Fin 16) k) rfl fun a => by
    match a with
    | ⟨0, _⟩ => show j.val = 0 + j.val; omega
    | ⟨1, _⟩ => show k.val = 0 + k.val; omega

/-- The sixteen rows before tile `q`, zero before the sequence. -/
def haloR (P : Rows.PoolW) (sq : Fin 2) (q j : ℕ) (k : Fin 1024) : EReal := if 512 * q + j < 16 then 0 else P.xf sq (512 * q + j - 16) k

/-- What a point's blocks hold, in the mixer's arguments. -/
structure Blk (P : Rows.PoolW) (sq : Fin 2) (q : ℕ) (x0 : Vec Ideal S512x1024 .f32) (x1 : Vec Ideal S1x1024 .f32) (x2 : Vec Ideal S4x256x256 .bf16) (x3 x4 : Vec Ideal S1x1024 .f32) : Prop where
  x : ∀ r k, x0 (ix2 r k) = P.row sq (512 * q + r.val) k
  g : ∀ k, x1 (ix2 0 k) = P.g (ix1 k)
  w : ∀ q k l, x2 (ix3 q k l) = P.w (ix3 q k l)
  b : ∀ k, x3 (ix2 0 k) = P.b (ix1 k)
  s : ∀ k, x4 (ix2 0 k) = P.s (ix1 k)

/-- The stored rows are the tile's normalised rows. -/
theorem Blk.pay4 {P : Rows.PoolW} {sq : Fin 2} {q : ℕ} {x0 : Vec Ideal S512x1024 .f32} {x1 : Vec Ideal S1x1024 .f32} {x2 : Vec Ideal S4x256x256 .bf16} {x3 x4 : Vec Ideal S1x1024 .f32}
    (T : Blk P sq q x0 x1 x2 x3 x4) (r : Fin 512) (k : Fin 1024) : k0_pay4 (F := Ideal) x0 x1 (ix2 r k) = P.xf sq (512 * q + r.val) k := by
  have e : k0_pay4 (F := Ideal) x0 x1 (ix2 r k) = Rows.rms (fun l => x0 (ix2 r l)) (fun l => x1 (ix2 0 l)) k := by
    pointwise [k0_pay4, k0_pay3, Rows.rms]
  rw [e]
  simp only [T.x, T.g]
  rfl

/-- A buffer whose top rows are the sixteen before the tile and whose others are the tile's. -/
theorem Blk.tile {P : Rows.PoolW} {sq : Fin 2} {i : grid0.Coords} {x0 : Vec Ideal S512x1024 .f32} {x1 : Vec Ideal S1x1024 .f32} {x2 : Vec Ideal S4x256x256 .bf16} {x3 x4 : Vec Ideal S1x1024 .f32}
    (T : Blk P sq (i 1).val x0 x1 x2 x3 x4) (v v' : View sig .tc .vmem S528x1024 .f32) (f : v.ty.Contents (Elt Ideal)) (f' : v'.ty.Contents (Elt Ideal)) (L L' : List (View.Piece (Elt Ideal) S528x1024 .f32))
    (hL : ∀ (j : Fin 528), j.val < 16 → ∀ k, v.read (Elt Ideal) (v.writes (Elt Ideal) f L) (ix2 j k) = haloR P sq (i 1).val j.val k) :
    Tile P sq i x0 (v'.read (Elt Ideal) (v'.writes (Elt Ideal) f' (⟨Rect.unit ![16, 0] ![512, 1024] inb_S528x1024_S512x1024_16_0, k0_pay4 x0 x1⟩ :: L')))
      (v.read (Elt Ideal) (v.writes (Elt Ideal) f (⟨Rect.unit ![16, 0] ![512, 1024] inb_S528x1024_S512x1024_16_0, k0_pay4 x0 x1⟩ :: L))) x2 x3 x4 where
  x := T.x
  cur := fun r k h => (buf_cur _ _ _ _ r k h).trans (T.pay4 r k)
  bk := fun o r k h ho => by
    unfold Rows.PoolW.back
    by_cases hj : o + r.val < 16
    · rw [buf_old _ _ _ _ _ hj, hL _ hj]
      unfold haloR
      show (if 512 * (i 1).val + (o + r.val) < 16 then 0 else P.xf sq (512 * (i 1).val + (o + r.val) - 16) k) = _
      by_cases hz : 512 * (i 1).val + (o + r.val) < 16
      · rw [if_pos hz, if_pos (by omega)]
      · rw [if_neg hz, if_neg (by omega), show 512 * (i 1).val + (o + r.val) - 16 = 512 * (i 1).val + r.val - (16 - o) by omega]
    · rw [if_neg (by omega)]
      have e : (⟨o + r.val, h⟩ : Fin 528) = ⟨16 + (⟨o + r.val - 16, by omega⟩ : Fin 512).val, by show 16 + (o + r.val - 16) < 528; omega⟩ := Fin.ext (by show o + r.val = 16 + (o + r.val - 16); omega)
      rw [e]
      refine (buf_cur _ _ _ _ ⟨o + r.val - 16, by omega⟩ k _).trans ((T.pay4 _ k).trans ?_)
      show P.xf sq (512 * (i 1).val + (o + r.val - 16)) k = _
      rw [show 512 * (i 1).val + (o + r.val - 16) = 512 * (i 1).val + r.val - (16 - o) by omega]
  w := T.w
  b := T.b
  s := T.s

/-- The block a later point stores is the mixer's rows of its tile. -/
theorem outB (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S528x1024 .f32) (harg8 : arg8.IsWhole) (hc0 : ¬ cond0_0 i)
    (x0 : Vec Ideal S512x1024 .f32) (x1 : Vec Ideal S1x1024 .f32) (x2 : Vec Ideal S4x256x256 .bf16) (x3 : Vec Ideal S1x1024 .f32) (x4 : Vec Ideal S1x1024 .f32) (xs0 : Vec Ideal S528x1024 .f32) (P : Rows.PoolW) (sq : Fin 2) (T : Blk P sq (i 1).val x0 x1 x2 x3 x4) (hh : ∀ (j : Fin 528), j.val < 16 → ∀ k, xs0 (ix2 j k) = haloR P sq (i 1).val j.val k) (r : Fin 512) (q : Fin 4) (e : Fin 256) :
    out0_B_5 c i arg2 harg2 arg3 harg3 arg4 harg4 arg5 harg5 arg6 harg6 arg7 harg7 arg8 harg8 hc0 x0 x1 x2 x3 x4 xs0 (ix2 r (Rows.col q e)) = P.out sq (512 * (i 1).val + r.val) q e := by
  unfold out0_B_5 kernelRun0_B
  dsimp only
  try unfold kernelRun0_B.sl.r
  try unfold kernelRun0_B.sl.r_1
  try unfold kernelRun0_B.sl.r_2
  try unfold kernelRun0_B.sl.r_3
  try unfold kernelRun0_B.sl.r_4
  try unfold kernelRun0_B.sl.r_5
  try unfold kernelRun0_B.sl.r_6
  try unfold kernelRun0_B.sl.r_7
  try unfold kernelRun0_B.sl.v170
  try unfold kernelRun0_B.sl.v26
  try unfold kernelRun0_B.sl.v27
  try unfold kernelRun0_B.sl.v51
  try unfold kernelRun0_B.sl.v52
  try unfold kernelRun0_B.sl.v54
  try unfold kernelRun0_B.sl.v56
  try unfold kernelRun0_B.sl.v80
  try unfold kernelRun0_B.sl.v81
  try unfold kernelRun0_B.sl.v83
  try unfold kernelRun0_B.sl.v85
  try unfold kernelRun0_B.sl.v87
  try unfold kernelRun0_B.sl.v89
  try unfold kernelRun0_B.sl.v91
  try unfold kernelRun0_B.sl.v93
  try unfold kernelRun0_B.sl.v117
  try unfold kernelRun0_B.sl.v118
  try unfold kernelRun0_B.sl.v120
  try unfold kernelRun0_B.sl.v122
  try unfold kernelRun0_B.sl.v124
  try unfold kernelRun0_B.sl.v126
  try unfold kernelRun0_B.sl.v128
  try unfold kernelRun0_B.sl.v130
  try unfold kernelRun0_B.sl.v132
  try unfold kernelRun0_B.sl.v134
  try unfold kernelRun0_B.sl.v136
  try unfold kernelRun0_B.sl.v138
  try unfold kernelRun0_B.sl.v140
  try unfold kernelRun0_B.sl.v142
  try unfold kernelRun0_B.sl.v144
  try unfold kernelRun0_B.sl.v146
  try unfold kernelRun0_B.sl.HS0_1
  try unfold kernelRun0_B.sl.r
  simp only [View.readCov, View.readAt_eq_ld, harg2.read_unread, harg3.read_unread, harg4.read_unread, harg5.read_unread, harg6.read_unread]
  simp only [ldx, ldg]
  simp only [View.ld_unit]
  have U := T.tile arg8.view arg8.view (harg8.unread xs0) arg8.view.junk [] [] (fun j hj k => (congrFun (harg8.read_unread xs0) (ix2 j k)).trans (hh j hj k))
  exact strips _ _ _ _ _ _ (fun q r c => P.out sq (512 * (i 1).val + r.val) q c) U.st0 U.st1 U.st2 U.st3 q r e

/-- What a later point leaves at the top of the buffer: the next tile's sixteen rows before it. -/
theorem soutB (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S528x1024 .f32) (harg8 : arg8.IsWhole) (hc0 : ¬ cond0_0 i)
    (x0 : Vec Ideal S512x1024 .f32) (x1 : Vec Ideal S1x1024 .f32) (x2 : Vec Ideal S4x256x256 .bf16) (x3 : Vec Ideal S1x1024 .f32) (x4 : Vec Ideal S1x1024 .f32) (xs0 : Vec Ideal S528x1024 .f32) (P : Rows.PoolW) (sq : Fin 2) (T : Blk P sq (i 1).val x0 x1 x2 x3 x4) (j : Fin 528) (hj : j.val < 16) (k : Fin 1024) :
    sout0_B_0 c i arg2 harg2 arg3 harg3 arg4 harg4 arg5 harg5 arg6 harg6 arg7 harg7 arg8 harg8 hc0 x0 x1 x2 x3 x4 xs0 (ix2 j k) = haloR P sq ((i 1).val + 1) j.val k := by
  unfold sout0_B_0 kernelRun0_B
  dsimp only
  try unfold kernelRun0_B.sl.r
  try unfold kernelRun0_B.sl.r_1
  try unfold kernelRun0_B.sl.r_2
  try unfold kernelRun0_B.sl.r_3
  try unfold kernelRun0_B.sl.r_4
  try unfold kernelRun0_B.sl.r_5
  try unfold kernelRun0_B.sl.r_6
  try unfold kernelRun0_B.sl.r_7
  try unfold kernelRun0_B.sl.v170
  try unfold kernelRun0_B.sl.v26
  try unfold kernelRun0_B.sl.v27
  try unfold kernelRun0_B.sl.v51
  try unfold kernelRun0_B.sl.v52
  try unfold kernelRun0_B.sl.v54
  try unfold kernelRun0_B.sl.v56
  try unfold kernelRun0_B.sl.v80
  try unfold kernelRun0_B.sl.v81
  try unfold kernelRun0_B.sl.v83
  try unfold kernelRun0_B.sl.v85
  try unfold kernelRun0_B.sl.v87
  try unfold kernelRun0_B.sl.v89
  try unfold kernelRun0_B.sl.v91
  try unfold kernelRun0_B.sl.v93
  try unfold kernelRun0_B.sl.v117
  try unfold kernelRun0_B.sl.v118
  try unfold kernelRun0_B.sl.v120
  try unfold kernelRun0_B.sl.v122
  try unfold kernelRun0_B.sl.v124
  try unfold kernelRun0_B.sl.v126
  try unfold kernelRun0_B.sl.v128
  try unfold kernelRun0_B.sl.v130
  try unfold kernelRun0_B.sl.v132
  try unfold kernelRun0_B.sl.v134
  try unfold kernelRun0_B.sl.v136
  try unfold kernelRun0_B.sl.v138
  try unfold kernelRun0_B.sl.v140
  try unfold kernelRun0_B.sl.v142
  try unfold kernelRun0_B.sl.v144
  try unfold kernelRun0_B.sl.v146
  try unfold kernelRun0_B.sl.HS0_1
  try unfold kernelRun0_B.sl.r
  simp only [View.readCov, View.readAt_eq_ld, harg2.read_unread, harg3.read_unread, harg4.read_unread, harg5.read_unread, harg6.read_unread]
  simp only [ldx, ldg]
  simp only [View.ld_unit]
  refine (buf_top _ _ _ _ j hj k).trans ?_
  refine Eq.trans (b := k0_pay4 (F := Ideal) x0 x1 (ix2 (⟨496 + j.val, by omega⟩ : Fin 512) k)) ?_ ((T.pay4 _ k).trans ?_)
  · refine Eq.trans ?_ (buf_cur arg8.view arg8.view.junk _ [] (⟨496 + j.val, by omega⟩ : Fin 512) k (by show 16 + (496 + j.val) < 528; omega))
    have e : (⟨16 + (496 + j.val), by omega⟩ : Fin 528) = ⟨512 + j.val, by omega⟩ := Fin.ext (by show 16 + (496 + j.val) = 512 + j.val; omega)
    rw [e]
    pointwise [k0_pay1]
  · unfold haloR
    rw [if_neg (by omega)]
    show P.xf sq (512 * (i 1).val + (496 + j.val)) k = _
    rw [show 512 * (i 1).val + (496 + j.val) = 512 * ((i 1).val + 1) + j.val - 16 by omega]

/-- The block a sequence's first point stores is the mixer's rows of its tile. -/
theorem outA (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S528x1024 .f32) (harg8 : arg8.IsWhole) (hc0 : cond0_0 i)
    (x0 : Vec Ideal S512x1024 .f32) (x1 : Vec Ideal S1x1024 .f32) (x2 : Vec Ideal S4x256x256 .bf16) (x3 : Vec Ideal S1x1024 .f32) (x4 : Vec Ideal S1x1024 .f32) (P : Rows.PoolW) (sq : Fin 2) (T : Blk P sq (i 1).val x0 x1 x2 x3 x4) (hi : (i 1).val = 0) (r : Fin 512) (q : Fin 4) (e : Fin 256) :
    out0_A_5 c i arg2 harg2 arg3 harg3 arg4 harg4 arg5 harg5 arg6 harg6 arg7 harg7 arg8 harg8 hc0 x0 x1 x2 x3 x4 (ix2 r (Rows.col q e)) = P.out sq (512 * (i 1).val + r.val) q e := by
  unfold out0_A_5 kernelRun0_A
  dsimp only
  try unfold kernelRun0_A.sl.r
  try unfold kernelRun0_A.sl.r_1
  try unfold kernelRun0_A.sl.r_2
  try unfold kernelRun0_A.sl.r_3
  try unfold kernelRun0_A.sl.r_4
  try unfold kernelRun0_A.sl.r_5
  try unfold kernelRun0_A.sl.r_6
  try unfold kernelRun0_A.sl.r_7
  try unfold kernelRun0_A.sl.v170
  try unfold kernelRun0_A.sl.v26
  try unfold kernelRun0_A.sl.v27
  try unfold kernelRun0_A.sl.v51
  try unfold kernelRun0_A.sl.v52
  try unfold kernelRun0_A.sl.v54
  try unfold kernelRun0_A.sl.v56
  try unfold kernelRun0_A.sl.v80
  try unfold kernelRun0_A.sl.v81
  try unfold kernelRun0_A.sl.v83
  try unfold kernelRun0_A.sl.v85
  try unfold kernelRun0_A.sl.v87
  try unfold kernelRun0_A.sl.v89
  try unfold kernelRun0_A.sl.v91
  try unfold kernelRun0_A.sl.v93
  try unfold kernelRun0_A.sl.v117
  try unfold kernelRun0_A.sl.v118
  try unfold kernelRun0_A.sl.v120
  try unfold kernelRun0_A.sl.v122
  try unfold kernelRun0_A.sl.v124
  try unfold kernelRun0_A.sl.v126
  try unfold kernelRun0_A.sl.v128
  try unfold kernelRun0_A.sl.v130
  try unfold kernelRun0_A.sl.v132
  try unfold kernelRun0_A.sl.v134
  try unfold kernelRun0_A.sl.v136
  try unfold kernelRun0_A.sl.v138
  try unfold kernelRun0_A.sl.v140
  try unfold kernelRun0_A.sl.v142
  try unfold kernelRun0_A.sl.v144
  try unfold kernelRun0_A.sl.v146
  try unfold kernelRun0_A.sl.HS0_2
  try unfold kernelRun0_A.sl.HS0_1
  try unfold kernelRun0_A.sl.r
  simp only [View.readCov, View.readAt_eq_ld, harg2.read_unread, harg3.read_unread, harg4.read_unread, harg5.read_unread, harg6.read_unread]
  simp only [ldx, ldg]
  simp only [View.ld_unit]
  have U := T.tile arg8.view arg8.view arg8.view.junk arg8.view.junk [⟨Rect.unit ![0, 0] ![16, 1024] inb_S528x1024_S16x1024_0_0, k0_pay2 (F := Ideal)⟩] [⟨Rect.unit ![0, 0] ![16, 1024] inb_S528x1024_S16x1024_0_0, k0_pay2 (F := Ideal)⟩] (fun j hj k => (buf_top _ _ _ _ j hj k).trans (by
    unfold haloR
    rw [if_pos (by omega)]
    pointwise [k0_pay2]))
  exact strips _ _ _ _ _ _ (fun q r c => P.out sq (512 * (i 1).val + r.val) q c) U.st0 U.st1 U.st2 U.st3 q r e

/-- What a sequence's first point leaves at the top of the buffer: the next tile's sixteen rows before it. -/
theorem soutA (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S528x1024 .f32) (harg8 : arg8.IsWhole) (hc0 : cond0_0 i)
    (x0 : Vec Ideal S512x1024 .f32) (x1 : Vec Ideal S1x1024 .f32) (x2 : Vec Ideal S4x256x256 .bf16) (x3 : Vec Ideal S1x1024 .f32) (x4 : Vec Ideal S1x1024 .f32) (P : Rows.PoolW) (sq : Fin 2) (T : Blk P sq (i 1).val x0 x1 x2 x3 x4) (j : Fin 528) (hj : j.val < 16) (k : Fin 1024) :
    sout0_A_0 c i arg2 harg2 arg3 harg3 arg4 harg4 arg5 harg5 arg6 harg6 arg7 harg7 arg8 harg8 hc0 x0 x1 x2 x3 x4 (ix2 j k) = haloR P sq ((i 1).val + 1) j.val k := by
  unfold sout0_A_0 kernelRun0_A
  dsimp only
  try unfold kernelRun0_A.sl.r
  try unfold kernelRun0_A.sl.r_1
  try unfold kernelRun0_A.sl.r_2
  try unfold kernelRun0_A.sl.r_3
  try unfold kernelRun0_A.sl.r_4
  try unfold kernelRun0_A.sl.r_5
  try unfold kernelRun0_A.sl.r_6
  try unfold kernelRun0_A.sl.r_7
  try unfold kernelRun0_A.sl.v170
  try unfold kernelRun0_A.sl.v26
  try unfold kernelRun0_A.sl.v27
  try unfold kernelRun0_A.sl.v51
  try unfold kernelRun0_A.sl.v52
  try unfold kernelRun0_A.sl.v54
  try unfold kernelRun0_A.sl.v56
  try unfold kernelRun0_A.sl.v80
  try unfold kernelRun0_A.sl.v81
  try unfold kernelRun0_A.sl.v83
  try unfold kernelRun0_A.sl.v85
  try unfold kernelRun0_A.sl.v87
  try unfold kernelRun0_A.sl.v89
  try unfold kernelRun0_A.sl.v91
  try unfold kernelRun0_A.sl.v93
  try unfold kernelRun0_A.sl.v117
  try unfold kernelRun0_A.sl.v118
  try unfold kernelRun0_A.sl.v120
  try unfold kernelRun0_A.sl.v122
  try unfold kernelRun0_A.sl.v124
  try unfold kernelRun0_A.sl.v126
  try unfold kernelRun0_A.sl.v128
  try unfold kernelRun0_A.sl.v130
  try unfold kernelRun0_A.sl.v132
  try unfold kernelRun0_A.sl.v134
  try unfold kernelRun0_A.sl.v136
  try unfold kernelRun0_A.sl.v138
  try unfold kernelRun0_A.sl.v140
  try unfold kernelRun0_A.sl.v142
  try unfold kernelRun0_A.sl.v144
  try unfold kernelRun0_A.sl.v146
  try unfold kernelRun0_A.sl.HS0_2
  try unfold kernelRun0_A.sl.HS0_1
  try unfold kernelRun0_A.sl.r
  simp only [View.readCov, View.readAt_eq_ld, harg2.read_unread, harg3.read_unread, harg4.read_unread, harg5.read_unread, harg6.read_unread]
  simp only [ldx, ldg]
  simp only [View.ld_unit]
  refine (buf_top _ _ _ _ j hj k).trans ?_
  refine Eq.trans (b := k0_pay4 (F := Ideal) x0 x1 (ix2 (⟨496 + j.val, by omega⟩ : Fin 512) k)) ?_ ((T.pay4 _ k).trans ?_)
  · refine Eq.trans ?_ (buf_cur arg8.view arg8.view.junk _ [⟨Rect.unit ![0, 0] ![16, 1024] inb_S528x1024_S16x1024_0_0, k0_pay2 (F := Ideal)⟩] (⟨496 + j.val, by omega⟩ : Fin 512) k (by show 16 + (496 + j.val) < 528; omega))
    have e : (⟨16 + (496 + j.val), by omega⟩ : Fin 528) = ⟨512 + j.val, by omega⟩ := Fin.ext (by show 16 + (496 + j.val) = 512 + j.val; omega)
    rw [e]
    pointwise [k0_pay1]
  · unfold haloR
    rw [if_neg (by omega)]
    show P.xf sq (512 * (i 1).val + (496 + j.val)) k = _
    rw [show 512 * (i 1).val + (496 + j.val) = 512 * ((i 1).val + 1) + j.val - 16 by omega]

end Cert.PoolIdeal.Row

end
-- ==== Proof.PoolVal.lean ====
module

public import proofs.«01_k».proof.Proof.PoolRun

@[expose] public section

set_option maxRecDepth 16384

noncomputable section

namespace Cert.PoolIdeal.Row

open Cert.PoolIdeal Cert.PoolIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem V0 (c : Dev nD) : V m c main_v0 = shapeCast S16384x1024 (m ((c : Thread nD τ).loc main_arg0)) shapeCasts_S2x8192x1024_S16384x1024 := by
  unfold V hostOps0; after_results; rfl
theorem V1 (c : Dev nD) : V m c main_v1 = shapeCast S1x1024 (m ((c : Thread nD τ).loc main_arg1)) shapeCasts_S1024_S1x1024 := by
  unfold V hostOps0; after_results; rfl
theorem V2 (c : Dev nD) : V m c main_v2 = m ((c : Thread nD τ).loc main_arg2) := by
  unfold V hostOps0; after_results; rfl
theorem V3 (c : Dev nD) : V m c main_v3 = shapeCast S1x1024 (m ((c : Thread nD τ).loc main_arg3)) shapeCasts_S1024_S1x1024 := by
  unfold V hostOps0; after_results; rfl
theorem V4 (c : Dev nD) : V m c main_v4 = shapeCast S1x1024 (m ((c : Thread nD τ).loc main_arg4)) shapeCasts_S1024_S1x1024 := by
  unfold V hostOps0; after_results; rfl

/-- Where the grid's windows stand at point `t`, and which tile of its sequence the point is. -/
theorem idx (t : Fin cfg0.N) : win0_0.index t 0 = t.val ∧ win0_0.index t 1 = 0 ∧ win0_1.index t 0 = 0 ∧ win0_1.index t 1 = 0 ∧ win0_2.index t 0 = 0 ∧ win0_2.index t 1 = 0 ∧ win0_2.index t 2 = 0 ∧ win0_3.index t 0 = 0 ∧ win0_3.index t 1 = 0 ∧ win0_4.index t 0 = 0 ∧ win0_4.index t 1 = 0 ∧ win0_5.index t 0 = t.val ∧ win0_5.index t 1 = 0 ∧ (grid0.coords t 1).val = t.val % 16 :=
  (by decide +kernel : ∀ t : Fin grid0.N, win0_0.index t 0 = t.val ∧ win0_0.index t 1 = 0 ∧ win0_1.index t 0 = 0 ∧ win0_1.index t 1 = 0 ∧ win0_2.index t 0 = 0 ∧ win0_2.index t 1 = 0 ∧ win0_2.index t 2 = 0 ∧ win0_3.index t 0 = 0 ∧ win0_3.index t 1 = 0 ∧ win0_4.index t 0 = 0 ∧ win0_4.index t 1 = 0 ∧ win0_5.index t 0 = t.val ∧ win0_5.index t 1 = 0 ∧ (grid0.coords t 1).val = t.val % 16) t

theorem N32 : cfg0.N = 32 := N_0

theorem iblk0 (c : Dev nD) (t : Fin cfg0.N) (r : Fin 512) (k : Fin 1024) :
    (iblk m c 0 t : Vec Ideal S512x1024 .f32) (ix2 r k) = Rows.tok (m ((c : Thread nD τ).loc main_arg0)) (⟨512 * t.val + r.val, by have := t.isLt; have := N32; omega⟩ : Fin 16384) k := by
  unfold iblk
  rw [View.read_apply]
  refine Eq.trans (b := V m c main_v0 (ix2 (⟨512 * t.val + r.val, by have := t.isLt; have := N32; omega⟩ : Fin 16384) k)) ?_ (by rw [V0]; exact Rows.flat_apply _ _ _ _)
  show V m c main_v0 _ = V m c main_v0 _
  congr 1
  funext a
  apply Fin.ext
  match a with
  | ⟨0, _⟩ => show win0_0.index t 0 * 512 + 1 * r.val = 512 * t.val + r.val; rw [(idx t).1]; omega
  | ⟨1, _⟩ => show win0_0.index t 1 * 1024 + 1 * k.val = k.val; rw [(idx t).2.1]; omega

theorem iblk1 (c : Dev nD) (t : Fin cfg0.N) (r : Fin 1) (k : Fin 1024) :
    (iblk m c 1 t : Vec Ideal S1x1024 .f32) (ix2 r k) = m ((c : Thread nD τ).loc main_arg1) (ix1 k) := by
  unfold iblk
  rw [View.read_apply]
  refine Eq.trans (b := V m c main_v1 (ix2 r k)) ?_ (by rw [V1]; pointwise)
  show V m c main_v1 _ = V m c main_v1 _
  congr 1
  funext a
  apply Fin.ext
  match a with
  | ⟨0, _⟩ => show win0_1.index t 0 * 1 + 1 * r.val = r.val; rw [(idx t).2.2.1]; omega
  | ⟨1, _⟩ => show win0_1.index t 1 * 1024 + 1 * k.val = k.val; rw [(idx t).2.2.2.1]; omega

theorem iblk3 (c : Dev nD) (t : Fin cfg0.N) (r : Fin 1) (k : Fin 1024) :
    (iblk m c 3 t : Vec Ideal S1x1024 .f32) (ix2 r k) = m ((c : Thread nD τ).loc main_arg3) (ix1 k) := by
  unfold iblk
  rw [View.read_apply]
  refine Eq.trans (b := V m c main_v3 (ix2 r k)) ?_ (by rw [V3]; pointwise)
  show V m c main_v3 _ = V m c main_v3 _
  congr 1
  funext a
  apply Fin.ext
  match a with
  | ⟨0, _⟩ => show win0_3.index t 0 * 1 + 1 * r.val = r.val; rw [(idx t).2.2.2.2.2.2.2.1]; omega
  | ⟨1, _⟩ => show win0_3.index t 1 * 1024 + 1 * k.val = k.val; rw [(idx t).2.2.2.2.2.2.2.2.1]; omega

theorem iblk4 (c : Dev nD) (t : Fin cfg0.N) (r : Fin 1) (k : Fin 1024) :
    (iblk m c 4 t : Vec Ideal S1x1024 .f32) (ix2 r k) = m ((c : Thread nD τ).loc main_arg4) (ix1 k) := by
  unfold iblk
  rw [View.read_apply]
  refine Eq.trans (b := V m c main_v4 (ix2 r k)) ?_ (by rw [V4]; pointwise)
  show V m c main_v4 _ = V m c main_v4 _
  congr 1
  funext a
  apply Fin.ext
  match a with
  | ⟨0, _⟩ => show win0_4.index t 0 * 1 + 1 * r.val = r.val; rw [(idx t).2.2.2.2.2.2.2.2.2.1]; omega
  | ⟨1, _⟩ => show win0_4.index t 1 * 1024 + 1 * k.val = k.val; rw [(idx t).2.2.2.2.2.2.2.2.2.2.1]; omega

theorem iblk2 (c : Dev nD) (t : Fin cfg0.N) (q : Fin 4) (k l : Fin 256) :
    (iblk m c 2 t : Vec Ideal S4x256x256 .bf16) (ix3 q k l) = m ((c : Thread nD τ).loc main_arg2) (ix3 q k l) := by
  unfold iblk
  rw [View.read_apply]
  refine Eq.trans (b := V m c main_v2 (ix3 q k l)) ?_ (by rw [V2])
  show V m c main_v2 _ = V m c main_v2 _
  congr 1
  funext a
  apply Fin.ext
  match a with
  | ⟨0, _⟩ => show win0_2.index t 0 * 4 + 1 * q.val = q.val; rw [(idx t).2.2.2.2.1]; omega
  | ⟨1, _⟩ => show win0_2.index t 1 * 256 + 1 * k.val = k.val; rw [(idx t).2.2.2.2.2.1]; omega
  | ⟨2, _⟩ => show win0_2.index t 2 * 256 + 1 * l.val = l.val; rw [(idx t).2.2.2.2.2.2.1]; omega

/-- The mixer's arguments on device `c`. -/
abbrev W (c : Dev nD) : Rows.PoolW where
  X := m ((c : Thread nD τ).loc main_arg0)
  g := m ((c : Thread nD τ).loc main_arg1)
  w := m ((c : Thread nD τ).loc main_arg2)
  b := m ((c : Thread nD τ).loc main_arg3)
  s := m ((c : Thread nD τ).loc main_arg4)

/-- The sequence point `n` works on. -/
def seqOf (n : ℕ) : Fin 2 := ⟨n / 16 % 2, Nat.mod_lt _ (by omega)⟩

/-- What point `t`'s blocks hold. -/
theorem blk_of (c : Dev nD) (t : Fin cfg0.N) : Blk (W m c) (seqOf t.val) (grid0.coords t 1).val (iblk m c 0 t) (iblk m c 1 t) (iblk m c 2 t) (iblk m c 3 t) (iblk m c 4 t) where
  x := fun r k => by
    have ht : (grid0.coords t 1).val = t.val % 16 := (idx t).2.2.2.2.2.2.2.2.2.2.2.2.2
    rw [iblk0, ht]
    unfold Rows.tok Rows.PoolW.row
    have := N32
    have := t.isLt
    congr 2
    · exact Fin.ext (by show (512 * t.val + r.val) / 8192 = t.val / 16 % 2; omega)
    · exact Fin.ext (by show (512 * t.val + r.val) % 8192 = (512 * (t.val % 16) + r.val) % 8192; omega)
  g := fun k => iblk1 m c t 0 k
  w := fun q k l => iblk2 m c t q k l
  b := fun k => iblk3 m c t 0 k
  s := fun k => iblk4 m c t 0 k

theorem tileNo (t : Fin cfg0.N) : (grid0.coords t 1).val = t.val % 16 := (idx t).2.2.2.2.2.2.2.2.2.2.2.2.2

theorem ptA (c : Dev nD) (t : Fin cfg0.N) (h0 : t.val % 16 = 0) (x0 : Vec Ideal S512x1024 .f32) (x1 : Vec Ideal S1x1024 .f32) (x2 : Vec Ideal S4x256x256 .bf16) (x3 : Vec Ideal S1x1024 .f32) (x4 : Vec Ideal S1x1024 .f32) (P : Rows.PoolW) (sq : Fin 2) (T : Blk P sq (grid0.coords t 1).val x0 x1 x2 x3 x4) (r : Fin 512) (q : Fin 4) (e : Fin 256) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) x0 x1 x2 x3 x4 (ix2 r (Rows.col q e)) = P.out sq (512 * (t.val % 16) + r.val) q e :=
  (outA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) x0 x1 x2 x3 x4 P sq T ((tileNo t).trans h0) r q e).trans (congrArg (fun n => P.out sq (512 * n + r.val) q e) (tileNo t))

theorem ptSA (c : Dev nD) (t : Fin cfg0.N) (h0 : t.val % 16 = 0) (x0 : Vec Ideal S512x1024 .f32) (x1 : Vec Ideal S1x1024 .f32) (x2 : Vec Ideal S4x256x256 .bf16) (x3 : Vec Ideal S1x1024 .f32) (x4 : Vec Ideal S1x1024 .f32) (P : Rows.PoolW) (sq : Fin 2) (T : Blk P sq (grid0.coords t 1).val x0 x1 x2 x3 x4) (j : Fin 528) (hj : j.val < 16) (k : Fin 1024) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) x0 x1 x2 x3 x4 (ix2 j k) = haloR P sq (t.val % 16 + 1) j.val k :=
  (soutA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) x0 x1 x2 x3 x4 P sq T  j hj k).trans (congrArg (fun n => haloR P sq (n + 1) j.val k) (tileNo t))

theorem ptB (c : Dev nD) (t : Fin cfg0.N) (h0 : ¬ t.val % 16 = 0) (x0 : Vec Ideal S512x1024 .f32) (x1 : Vec Ideal S1x1024 .f32) (x2 : Vec Ideal S4x256x256 .bf16) (x3 : Vec Ideal S1x1024 .f32) (x4 : Vec Ideal S1x1024 .f32) (y : Vec Ideal S528x1024 .f32) (P : Rows.PoolW) (sq : Fin 2) (T : Blk P sq (grid0.coords t 1).val x0 x1 x2 x3 x4) (hy : ∀ (j : Fin 528), j.val < 16 → ∀ k, y (ix2 j k) = haloR P sq (grid0.coords t 1).val j.val k) (r : Fin 512) (q : Fin 4) (e : Fin 256) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) x0 x1 x2 x3 x4 y (ix2 r (Rows.col q e)) = P.out sq (512 * (t.val % 16) + r.val) q e :=
  (outB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) x0 x1 x2 x3 x4 y P sq T hy r q e).trans (congrArg (fun n => P.out sq (512 * n + r.val) q e) (tileNo t))

theorem ptSB (c : Dev nD) (t : Fin cfg0.N) (h0 : ¬ t.val % 16 = 0) (x0 : Vec Ideal S512x1024 .f32) (x1 : Vec Ideal S1x1024 .f32) (x2 : Vec Ideal S4x256x256 .bf16) (x3 : Vec Ideal S1x1024 .f32) (x4 : Vec Ideal S1x1024 .f32) (y : Vec Ideal S528x1024 .f32) (P : Rows.PoolW) (sq : Fin 2) (T : Blk P sq (grid0.coords t 1).val x0 x1 x2 x3 x4) (j : Fin 528) (hj : j.val < 16) (k : Fin 1024) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) x0 x1 x2 x3 x4 y (ix2 j k) = haloR P sq (t.val % 16 + 1) j.val k :=
  (soutB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) x0 x1 x2 x3 x4 y P sq T  j hj k).trans (congrArg (fun n => haloR P sq (n + 1) j.val k) (tileNo t))

theorem eA (c : Dev nD) (t : Fin cfg0.N) (h0 : t.val % 16 = 0) : (outsAt0 m c t.val t.isLt).1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t) := by
  rw [outsAt0_A m c t h0]

theorem eSA (c : Dev nD) (t : Fin cfg0.N) (h0 : t.val % 16 = 0) : (outsAt0 m c t.val t.isLt).2 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t) := by
  rw [outsAt0_A m c t h0]

theorem eB (c : Dev nD) (t : Fin cfg0.N) (h0 : ¬ t.val % 16 = 0) : (outsAt0 m c t.val t.isLt).1 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2 := by
  rw [outsAt0_B m c t h0]

theorem eSB (c : Dev nD) (t : Fin cfg0.N) (h0 : ¬ t.val % 16 = 0) : (outsAt0 m c t.val t.isLt).2 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2 := by
  rw [outsAt0_B m c t h0]

/-- What every point leaves: its block is the mixer's rows, its buffer's top the next tile's rows before it. -/
theorem key (c : Dev nD) (t : Fin cfg0.N)
      (ih : ¬ t.val % 16 = 0 → ∀ (j : Fin 528), j.val < 16 → ∀ k, (outsAt0 m c (t.val - 1) (Nat.lt_of_le_of_lt (Nat.sub_le _ _) t.isLt)).2 (ix2 j k) = haloR (W m c) (seqOf (t.val - 1)) ((t.val - 1) % 16 + 1) j.val k) :
      (∀ (r : Fin 512) (q : Fin 4) (e : Fin 256), (outsAt0 m c t.val t.isLt).1 (ix2 r (Rows.col q e)) = (W m c).out (seqOf t.val) (512 * (t.val % 16) + r.val) q e)
      ∧ ∀ (j : Fin 528), j.val < 16 → ∀ k, (outsAt0 m c t.val t.isLt).2 (ix2 j k) = haloR (W m c) (seqOf t.val) (t.val % 16 + 1) j.val k := by
    have T := blk_of m c t
    by_cases h0 : t.val % 16 = 0
    · exact ⟨fun r q e => (congrFun (eA m c t h0) _).trans (ptA c t h0 (iblk m c 0 t) (iblk m c 1 t) (iblk m c 2 t) (iblk m c 3 t) (iblk m c 4 t) (W m c) (seqOf t.val) T r q e),
        fun j hj k => (congrFun (eSA m c t h0) _).trans (ptSA c t h0 (iblk m c 0 t) (iblk m c 1 t) (iblk m c 2 t) (iblk m c 3 t) (iblk m c 4 t) (W m c) (seqOf t.val) T j hj k)⟩
    · have hs : seqOf (t.val - 1) = seqOf t.val := Fin.ext (by show (t.val - 1) / 16 % 2 = t.val / 16 % 2; omega)
      have hq : (t.val - 1) % 16 + 1 = (grid0.coords t 1).val := by rw [tileNo]; omega
      have ih' := ih h0
      rw [hs, hq] at ih'
      exact ⟨fun r q e => (congrFun (eB m c t h0) _).trans (ptB c t h0 (iblk m c 0 t) (iblk m c 1 t) (iblk m c 2 t) (iblk m c 3 t) (iblk m c 4 t) (outsAt0 m c (t.val - 1) (Nat.lt_of_le_of_lt (Nat.sub_le _ _) t.isLt)).2 (W m c) (seqOf t.val) T ih' r q e),
        fun j hj k => (congrFun (eSB m c t h0) _).trans (ptSB c t h0 (iblk m c 0 t) (iblk m c 1 t) (iblk m c 2 t) (iblk m c 3 t) (iblk m c 4 t) (outsAt0 m c (t.val - 1) (Nat.lt_of_le_of_lt (Nat.sub_le _ _) t.isLt)).2 (W m c) (seqOf t.val) T j hj k)⟩

theorem outs_ok (c : Dev nD) : ∀ (n : ℕ) (hn : n < cfg0.N),
    (∀ (r : Fin 512) (q : Fin 4) (e : Fin 256), (outsAt0 m c n hn).1 (ix2 r (Rows.col q e)) = (W m c).out (seqOf n) (512 * (n % 16) + r.val) q e)
    ∧ ∀ (j : Fin 528), j.val < 16 → ∀ k, (outsAt0 m c n hn).2 (ix2 j k) = haloR (W m c) (seqOf n) (n % 16 + 1) j.val k := by
  intro n
  induction n with
  | zero => intro hn; exact key m c ⟨0, hn⟩ (fun h => absurd rfl h)
  | succ n ih => intro hn; exact key m c ⟨n + 1, hn⟩ (fun _ => (ih (by omega)).2)

/-- The mixer's result of device `c`'s arguments. -/
abbrev G (c : Dev nD) : Buf (Elt Ideal) ((c : Thread nD τ).loc main_v5) := (W m c).arr

theorem flushed_eq (c : Dev nD) (t : Fin cfg0.N) :
    (dats m 0 c).flushed 5 t = ((cfg0.win 5).blk t).view.read (Elt Ideal) (G m c) := by
  rw [Value.flushed5]
  funext j
  rw [View.read_apply]
  obtain ⟨r, k, rfl⟩ : ∃ (r : Fin 512) (k : Fin 1024), j = ix2 r k := ⟨j 0, j 1, ValueIdx.eq_ix2 (n0 := 512) (n1 := 1024) j⟩
  have e : ((cfg0.win 5).blk t).view.emb (ix2 r k) = (ix2 (⟨512 * t.val + r.val, by have := t.isLt; have := N32; omega⟩ : Fin 16384) k) := by
    funext a
    apply Fin.ext
    match a with
    | ⟨0, _⟩ => show win0_5.index t 0 * 512 + 1 * r.val = 512 * t.val + r.val; rw [(idx t).2.2.2.2.2.2.2.2.2.2.2.1]; omega
    | ⟨1, _⟩ => show win0_5.index t 1 * 1024 + 1 * k.val = k.val; rw [(idx t).2.2.2.2.2.2.2.2.2.2.2.2.1]; omega
  rw [e]
  obtain ⟨q, l, rfl⟩ : ∃ (q : Fin 4) (l : Fin 256), k = Rows.col q l := ⟨⟨k.val / 256, by omega⟩, ⟨k.val % 256, by omega⟩, Fin.ext (by show k.val = 256 * (k.val / 256) + k.val % 256; omega)⟩
  show (outsAt0 m c t.val t.isLt).1 (ix2 r (Rows.col q l)) = _
  refine ((outs_ok m c t.val t.isLt).1 r q l).trans ?_
  have := t.isLt
  have := N32
  show (W m c).out (seqOf t.val) (512 * (t.val % 16) + r.val) q l = (W m c).out ⟨(512 * t.val + r.val) / 8192, _⟩ ((512 * t.val + r.val) % 8192) ⟨(256 * q.val + l.val) / 256, _⟩ ⟨(256 * q.val + l.val) % 256, _⟩
  congr 1
  · exact Fin.ext (by show t.val / 16 % 2 = (512 * t.val + r.val) / 8192; omega)
  · omega
  · exact Fin.ext (by show q.val = (256 * q.val + l.val) / 256; omega)
  · exact Fin.ext (by show l.val = (256 * q.val + l.val) % 256; omega)

/-- Every element of the result lies in the block of its 512 rows. -/
theorem cover (i : S16384x1024.Idx) : ∃ t : Fin cfg0.N, (cfg0.win 5).flush t = true ∧ i ∈ ((cfg0.win 5).blk t).view.set := by
  have h0 : (i 0 : Nat) < 16384 := (i 0).isLt
  have h1 : (i 1 : Nat) < 1024 := (i 1).isLt
  let t : Fin cfg0.N := ⟨(i 0 : Nat) / 512, by rw [N32]; omega⟩
  have ht : t.val = (i 0 : Nat) / 512 := rfl
  refine ⟨t, flush0_5 t, ?_⟩
  show i ∈ ((View.whole main_v5).slice (win0_5.rect t)).set
  rw [View.set_slice_whole, Rect.mem_set_unit]
  have e0 : win0_5.index t 0 = t.val := (idx t).2.2.2.2.2.2.2.2.2.2.2.1
  have e1 : win0_5.index t 1 = 0 := (idx t).2.2.2.2.2.2.2.2.2.2.2.2.1
  intro a
  match a with
  | ⟨0, _⟩ => show win0_5.index t 0 * 512 ≤ (i 0 : Nat) ∧ (i 0 : Nat) < win0_5.index t 0 * 512 + 512
              rw [e0, ht]; omega
  | ⟨1, _⟩ => show win0_5.index t 1 * 1024 ≤ (i 1 : Nat) ∧ (i 1 : Nat) < win0_5.index t 1 * 1024 + 1024
              rw [e1]; omega

/-- After the run the result array is the mixer of the arguments. -/
theorem final (c : Dev nD) : (dats m 0 c).arrAt 5 cfg0.N = G m c :=
  (dats m 0 c).arrAt_eq_of_cover 5 (G m c) (fun t _ => flushed_eq m c t) cover

/-- The kernel's run: its result is the mixer of its arguments, which it leaves unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.PoolIdeal.Row

end
-- ==== Proof.PoolRef.lean ====
module

public import proofs.«01_k».proof.Proof.Gen.PoolRefIdeal.Run
public import proofs.«01_k».proof.Proof.PoolPay
public import Idealize.ShloMosaic.Lib.KernelVsHost

@[expose] public section

set_option maxRecDepth 16384

noncomputable section

namespace Cert.PoolRefIdeal.Row

open Cert.PoolRefIdeal Cert.PoolRefIdeal.Gen Idealize.ShloMosaic Idealize.ShloMosaic.TcCoe Idealize.SL.Sem
open Cert.PoolRefIdeal.Value Idealize.ShloMosaic.StableHlo

/-- A left fold that adds is the start plus the sum. -/
theorem fold_add {ι : Type} (g : ι → EReal) (l : List ι) : ∀ v : EReal, l.foldl (fun r n => r + g n) v = v + (l.map g).sum := by
  induction l with
  | nil => intro v; simp
  | cons a l ih => intro v; rw [List.foldl_cons, ih, List.map_cons, List.sum_cons, add_assoc]

/-- Positions of a window of `M + 1` that ends at `s`, those before the sequence counting nothing: the entries up to `s`. -/
theorem window_sum (f : ℕ → EReal) (M s : ℕ) (hs : s ≤ M) :
    ∑ n ∈ Finset.range (M + 1), (if M ≤ s + n then f (s + n - M) else 0) = ∑ i ∈ Finset.range (s + 1), f i := by
  obtain ⟨d, rfl⟩ : ∃ d, M = d + s := ⟨M - s, by omega⟩
  rw [show d + s + 1 = d + (s + 1) from by omega, Finset.sum_range_add (fun n => if d + s ≤ s + n then f (s + n - (d + s)) else 0)]
  rw [Finset.sum_eq_zero (s := Finset.range d) (fun n hn => if_neg (by have := Finset.mem_range.mp hn; omega)), zero_add]
  refine Finset.sum_congr rfl fun i _ => ?_
  rw [if_pos (by omega)]
  exact congrArg f (by omega)

/-- The running sum along the middle axis, as the window of every position up to one: entry `s` is the sum of the entries up to and including `s`. -/
theorem cumsum_mid {B N M K : ℕ} (hN : M + 1 = N) (x : (⟨3, ![B, N, K]⟩ : Shape).Idx → EReal) {u : Shape} (init : u.Idx → EReal) (hu : 0 < u.numel)
    (hi : init (Shape.Idx.first hu) = 0)
    (h : (⟨3, ![B, N, K]⟩ : Shape).ReduceWindows (![1, N, 1] : Fin 3 → ℕ) ![1, 1, 1] ![0, M, 0] ![0, 0, 0] ⟨3, ![B, N, K]⟩)
    (b : Fin B) (s : Fin N) (k : Fin K) (f : ℕ → EReal) (hf : ∀ i : Fin N, x (ix3 b i k) = f i.val) :
    Host.reduceWindow (· + · : EReal → EReal → EReal) ![1, N, 1] ![1, 1, 1] ![0, M, 0] ![0, 0, 0] x init h hu (ix3 b s k) = ∑ i ∈ Finset.range (s.val + 1), f i := by
  subst hN
  have hs := s.isLt
  have hb := b.isLt
  have hk := k.isLt
  unfold Host.reduceWindow
  dsimp only
  rw [hi, fold_add, zero_add]
  refine (Fin.sum_univ_def _).symm.trans ?_
  refine (Equiv.sum_comp (Shape.rowMajor (⟨3, ![1, M + 1, 1]⟩ : Shape)).symm (fun w => @dite EReal (∀ a : Fin 3, (![0, M, 0] : Fin 3 → ℕ) a ≤ (ix3 b s k (a.cast h.1.symm)).val * (![1, 1, 1] : Fin 3 → ℕ) a + (w a).val
      ∧ (ix3 b s k (a.cast h.1.symm)).val * (![1, 1, 1] : Fin 3 → ℕ) a + (w a).val - (![0, M, 0] : Fin 3 → ℕ) a < (⟨3, ![B, M + 1, K]⟩ : Shape).size a)
      (Nat.decidableForallFin _)
      (fun hin => x (fun a => ⟨(ix3 b s k (a.cast h.1.symm)).val * (![1, 1, 1] : Fin 3 → ℕ) a + (w a).val - (![0, M, 0] : Fin 3 → ℕ) a, (hin a).2⟩)) (fun _ => 0))).trans ?_
  refine Eq.trans ?_ (window_sum f M s.val (by omega))
  refine Eq.trans ?_ (Fin.sum_univ_eq_sum_range (fun n => if M ≤ s.val + n then f (s.val + n - M) else 0) (M + 1))
  refine Fintype.sum_equiv (⟨fun w => w 1, fun n => ix3 0 n 0, fun w => ?_, fun n => rfl⟩ : (⟨3, ![1, M + 1, 1]⟩ : Shape).Idx ≃ Fin (M + 1)) _ _ fun w => ?_
  · funext a
    apply Fin.ext
    match a with
    | ⟨0, _⟩ => show 0 = (w 0).val; have : (w 0).val < 1 := (w 0).isLt; omega
    | ⟨1, _⟩ => rfl
    | ⟨2, _⟩ => show 0 = (w 2).val; have : (w 2).val < 1 := (w 2).isLt; omega
  · have w0 : (w 0).val < 1 := (w 0).isLt
    have w1 : (w 1).val < M + 1 := (w 1).isLt
    have w2 : (w 2).val < 1 := (w 2).isLt
    show _ = if M ≤ s.val + (w 1).val then f (s.val + (w 1).val - M) else 0
    by_cases hm : M ≤ s.val + (w 1).val
    · rw [if_pos hm, dif_pos (fun a => by
        match a with
        | ⟨0, _⟩ => show 0 ≤ b.val * 1 + (w 0).val ∧ b.val * 1 + (w 0).val - 0 < B; omega
        | ⟨1, _⟩ => show M ≤ s.val * 1 + (w 1).val ∧ s.val * 1 + (w 1).val - M < M + 1; omega
        | ⟨2, _⟩ => show 0 ≤ k.val * 1 + (w 2).val ∧ k.val * 1 + (w 2).val - 0 < K; omega)]
      refine (congrArg x (funext fun a => Fin.ext ?_)).trans (hf ⟨s.val + (w 1).val - M, by omega⟩)
      match a with
      | ⟨0, _⟩ => show b.val * 1 + (w 0).val - 0 = b.val; omega
      | ⟨1, _⟩ => show s.val * 1 + (w 1).val - M = s.val + (w 1).val - M; omega
      | ⟨2, _⟩ => show k.val * 1 + (w 2).val - 0 = k.val; omega
    · rw [if_neg hm, dif_neg (fun hin => hm (by
        have h1 : M ≤ s.val * 1 + (w 1).val := (hin 1).1
        omega))]

/-- The normalised rows, as the reference computes them. -/
def xn (X : FVec Ideal S2x8192x1024 .f32) (g : FVec Ideal S1024 .f32) : FVec Ideal S2x8192x1024 .f32 :=
  (mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g)))

theorem xn_apply (X : FVec Ideal S2x8192x1024 .f32) (g : FVec Ideal S1024 .f32) (b : Fin 2) (s : Fin 8192) (k : Fin 1024) :
    xn X g (ix3 b s k) = Rows.rms (fun l => X (ix3 b s l)) (fun l => g (ix1 l)) k := by
  pointwise [xn, Rows.rms]

/-- The running sums, as the reference computes them. -/
def cs (x : FVec Ideal S2x8192x1024 .f32) : FVec Ideal S2x8192x1024 .f32 :=
  Host.reduceWindowAdd ![1, 8192, 1] ![1, 1, 1] ![0, 8191, 0] ![0, 0, 0] x (broadcastInDim S_ ![] bcast_S_S_ (constant S_ .f32 0x00000000#32) : FVec Ideal S_ .f32) reduceWindows_S2x8192x1024_S2x8192x1024_w1s1p0_0_w8192s1p8191_0_w1s1p0_0 h_S_

theorem zero_lit : Ideal.ofBits .f32 0x00000000#32 = 0 := by
  show Ideal.ieee 8 23 0x00000000#32 = 0
  simp [Ideal.ieee]

theorem cs_apply (x : FVec Ideal S2x8192x1024 .f32) (b : Fin 2) (s : Fin 8192) (k : Fin 1024) (f : ℕ → EReal) (hf : ∀ i : Fin 8192, x (ix3 b i k) = f i.val) :
    cs x (ix3 b s k) = ∑ i ∈ Finset.range (s.val + 1), f i := by
  unfold cs
  unfold Host.reduceWindowAdd
  rw [Ideal.hostReduceWindowAdd_def]
  unfold Ideal.hostReduceWindowAdd
  exact cumsum_mid (B := 2) (N := 8192) (M := 8191) (K := 1024) (by norm_num) x (fun _ : (⟨0, ![]⟩ : Shape).Idx => _) _ zero_lit _ b s k f hf

/-- How many positions each window counts, as the reference computes it. -/
def ct (w : BitVec 32) : FVec Ideal S2x8192x256 .f32 :=
  broadcastInDim S2x8192x256 ![0, 1, 2] bcast_S1x8192x1_S2x8192x256_0_1_2 (broadcastInDim S1x8192x1 ![1] bcast_S8192_S1x8192x1_1 (sitofp (F := Ideal) .f32 (minsi (addi (iotaInDim S8192 32 0) (broadcastInDim S8192 ![] bcast_S_S8192 (constantI S_ 32 1#32))) (broadcastInDim S8192 ![] bcast_S_S8192 (constantI S_ 32 w)))))

theorem ct_apply (w : ℕ) (hw : w ≤ 16) (b : Fin 2) (s : Fin 8192) (l : Fin 256) :
    ct (BitVec.ofNat 32 w) (ix3 b s l) = Rows.PoolW.cnt s.val w := by
  refine Eq.trans ?_ (PoolIdeal.Row.cnt_word s.val w s.isLt hw)
  have e : BitVec.ofNat 32 (s.val + 1) = IntOp.addi (BitVec.ofNat 32 s.val) 1#32 := BitVec.ofNat_add _ _
  rw [e]
  rfl

/-- Group 0's difference of running sums over the count, minus the rows. -/
def md0 (c x : FVec Ideal S2x8192x1024 .f32) : FVec Ideal S2x8192x256 .f32 :=
  subf (Host.divf (subf (extractStridedSlice S2x8192x256 ![0, 0, 0] c slices_S2x8192x1024_S2x8192x256_0_0_0) (pad S2x8192x256 ![0, 2, 0] ![0, 0, 0] ![0, 0, 0] (extractStridedSlice S2x8190x256 ![0, 0, 0] (extractStridedSlice S2x8192x256 ![0, 0, 0] c slices_S2x8192x1024_S2x8192x256_0_0_0) slices_S2x8192x256_S2x8190x256_0_0_0) (sitofp (F := Ideal) .f32 (constantI S_ 32 0#32)) pads_S2x8190x256_S2x8192x256_000_200_000 h_S_)) (ct 2#32)) (extractStridedSlice S2x8192x256 ![0, 0, 0] x slices_S2x8192x1024_S2x8192x256_0_0_0)

theorem pd0 (c : FVec Ideal S2x8192x256 .f32) (b : Fin 2) (s : Fin 8192) (l : Fin 256) :
    (pad S2x8192x256 ![0, 2, 0] ![0, 0, 0] ![0, 0, 0] (extractStridedSlice S2x8190x256 ![0, 0, 0] c slices_S2x8192x256_S2x8190x256_0_0_0) (sitofp (F := Ideal) .f32 (constantI S_ 32 0#32 : Vec Ideal S_ .i32)) pads_S2x8190x256_S2x8192x256_000_200_000 h_S_ : FVec Ideal S2x8192x256 .f32) (ix3 b s l)
      = if s.val < 2 then (0 : EReal) else c (ix3 b ⟨s.val - 2, by omega⟩ l) := by
  by_cases h : s.val < 2
  · rw [if_pos h, pad_apply_of_not_inside (s := S2x8190x256) (t := S2x8192x256) ![0, 2, 0] ![0, 0, 0] ![0, 0, 0] _ _ _ _ (ix3 b s l) (1 : Fin 3) (fun hh => by
      have h2 : 2 ≤ s.val := hh.1
      omega)]
    show (((0#32 : BitVec 32).toInt : ℝ) : EReal) = 0
    simp
  · rw [if_neg h]
    refine (pad_apply_of_inside (s := S2x8190x256) (t := S2x8192x256) ![0, 2, 0] ![0, 0, 0] ![0, 0, 0] _ _ _ _ (ix3 b s l) (ix3 b ⟨s.val - 2, by omega⟩ l) fun a => ?_).trans ?_
    · match a with
      | ⟨0, _⟩ => show b.val = 0 + b.val * (0 + 1); omega
      | ⟨1, _⟩ => show s.val = 2 + (s.val - 2) * (0 + 1); omega
      | ⟨2, _⟩ => show l.val = 0 + l.val * (0 + 1); omega
    · pointwise

theorem sl0 (c : FVec Ideal S2x8192x1024 .f32) (b : Fin 2) (s : Fin 8192) (l : Fin 256) :
    (extractStridedSlice S2x8192x256 ![0, 0, 0] c slices_S2x8192x1024_S2x8192x256_0_0_0 : FVec Ideal S2x8192x256 .f32) (ix3 b s l) = c (ix3 b s (Rows.col 0 l)) := by
  refine congrArg c (funext fun a => Fin.ext ?_)
  match a with
  | ⟨0, _⟩ => show 0 + b.val = b.val; omega
  | ⟨1, _⟩ => show 0 + s.val = s.val; omega
  | ⟨2, _⟩ => show 0 + l.val = 256 * 0 + l.val; omega

/-- Group 1's difference of running sums over the count, minus the rows. -/
def md1 (c x : FVec Ideal S2x8192x1024 .f32) : FVec Ideal S2x8192x256 .f32 :=
  subf (Host.divf (subf (extractStridedSlice S2x8192x256 ![0, 0, 256] c slices_S2x8192x1024_S2x8192x256_0_0_256) (pad S2x8192x256 ![0, 4, 0] ![0, 0, 0] ![0, 0, 0] (extractStridedSlice S2x8188x256 ![0, 0, 0] (extractStridedSlice S2x8192x256 ![0, 0, 256] c slices_S2x8192x1024_S2x8192x256_0_0_256) slices_S2x8192x256_S2x8188x256_0_0_0) (sitofp (F := Ideal) .f32 (constantI S_ 32 0#32)) pads_S2x8188x256_S2x8192x256_000_400_000 h_S_)) (ct 4#32)) (extractStridedSlice S2x8192x256 ![0, 0, 256] x slices_S2x8192x1024_S2x8192x256_0_0_256)

theorem pd1 (c : FVec Ideal S2x8192x256 .f32) (b : Fin 2) (s : Fin 8192) (l : Fin 256) :
    (pad S2x8192x256 ![0, 4, 0] ![0, 0, 0] ![0, 0, 0] (extractStridedSlice S2x8188x256 ![0, 0, 0] c slices_S2x8192x256_S2x8188x256_0_0_0) (sitofp (F := Ideal) .f32 (constantI S_ 32 0#32 : Vec Ideal S_ .i32)) pads_S2x8188x256_S2x8192x256_000_400_000 h_S_ : FVec Ideal S2x8192x256 .f32) (ix3 b s l)
      = if s.val < 4 then (0 : EReal) else c (ix3 b ⟨s.val - 4, by omega⟩ l) := by
  by_cases h : s.val < 4
  · rw [if_pos h, pad_apply_of_not_inside (s := S2x8188x256) (t := S2x8192x256) ![0, 4, 0] ![0, 0, 0] ![0, 0, 0] _ _ _ _ (ix3 b s l) (1 : Fin 3) (fun hh => by
      have h2 : 4 ≤ s.val := hh.1
      omega)]
    show (((0#32 : BitVec 32).toInt : ℝ) : EReal) = 0
    simp
  · rw [if_neg h]
    refine (pad_apply_of_inside (s := S2x8188x256) (t := S2x8192x256) ![0, 4, 0] ![0, 0, 0] ![0, 0, 0] _ _ _ _ (ix3 b s l) (ix3 b ⟨s.val - 4, by omega⟩ l) fun a => ?_).trans ?_
    · match a with
      | ⟨0, _⟩ => show b.val = 0 + b.val * (0 + 1); omega
      | ⟨1, _⟩ => show s.val = 4 + (s.val - 4) * (0 + 1); omega
      | ⟨2, _⟩ => show l.val = 0 + l.val * (0 + 1); omega
    · pointwise

theorem sl1 (c : FVec Ideal S2x8192x1024 .f32) (b : Fin 2) (s : Fin 8192) (l : Fin 256) :
    (extractStridedSlice S2x8192x256 ![0, 0, 256] c slices_S2x8192x1024_S2x8192x256_0_0_256 : FVec Ideal S2x8192x256 .f32) (ix3 b s l) = c (ix3 b s (Rows.col 1 l)) := by
  refine congrArg c (funext fun a => Fin.ext ?_)
  match a with
  | ⟨0, _⟩ => show 0 + b.val = b.val; omega
  | ⟨1, _⟩ => show 0 + s.val = s.val; omega
  | ⟨2, _⟩ => show 256 + l.val = 256 * 1 + l.val; omega

/-- Group 2's difference of running sums over the count, minus the rows. -/
def md2 (c x : FVec Ideal S2x8192x1024 .f32) : FVec Ideal S2x8192x256 .f32 :=
  subf (Host.divf (subf (extractStridedSlice S2x8192x256 ![0, 0, 512] c slices_S2x8192x1024_S2x8192x256_0_0_512) (pad S2x8192x256 ![0, 8, 0] ![0, 0, 0] ![0, 0, 0] (extractStridedSlice S2x8184x256 ![0, 0, 0] (extractStridedSlice S2x8192x256 ![0, 0, 512] c slices_S2x8192x1024_S2x8192x256_0_0_512) slices_S2x8192x256_S2x8184x256_0_0_0) (sitofp (F := Ideal) .f32 (constantI S_ 32 0#32)) pads_S2x8184x256_S2x8192x256_000_800_000 h_S_)) (ct 8#32)) (extractStridedSlice S2x8192x256 ![0, 0, 512] x slices_S2x8192x1024_S2x8192x256_0_0_512)

theorem pd2 (c : FVec Ideal S2x8192x256 .f32) (b : Fin 2) (s : Fin 8192) (l : Fin 256) :
    (pad S2x8192x256 ![0, 8, 0] ![0, 0, 0] ![0, 0, 0] (extractStridedSlice S2x8184x256 ![0, 0, 0] c slices_S2x8192x256_S2x8184x256_0_0_0) (sitofp (F := Ideal) .f32 (constantI S_ 32 0#32 : Vec Ideal S_ .i32)) pads_S2x8184x256_S2x8192x256_000_800_000 h_S_ : FVec Ideal S2x8192x256 .f32) (ix3 b s l)
      = if s.val < 8 then (0 : EReal) else c (ix3 b ⟨s.val - 8, by omega⟩ l) := by
  by_cases h : s.val < 8
  · rw [if_pos h, pad_apply_of_not_inside (s := S2x8184x256) (t := S2x8192x256) ![0, 8, 0] ![0, 0, 0] ![0, 0, 0] _ _ _ _ (ix3 b s l) (1 : Fin 3) (fun hh => by
      have h2 : 8 ≤ s.val := hh.1
      omega)]
    show (((0#32 : BitVec 32).toInt : ℝ) : EReal) = 0
    simp
  · rw [if_neg h]
    refine (pad_apply_of_inside (s := S2x8184x256) (t := S2x8192x256) ![0, 8, 0] ![0, 0, 0] ![0, 0, 0] _ _ _ _ (ix3 b s l) (ix3 b ⟨s.val - 8, by omega⟩ l) fun a => ?_).trans ?_
    · match a with
      | ⟨0, _⟩ => show b.val = 0 + b.val * (0 + 1); omega
      | ⟨1, _⟩ => show s.val = 8 + (s.val - 8) * (0 + 1); omega
      | ⟨2, _⟩ => show l.val = 0 + l.val * (0 + 1); omega
    · pointwise

theorem sl2 (c : FVec Ideal S2x8192x1024 .f32) (b : Fin 2) (s : Fin 8192) (l : Fin 256) :
    (extractStridedSlice S2x8192x256 ![0, 0, 512] c slices_S2x8192x1024_S2x8192x256_0_0_512 : FVec Ideal S2x8192x256 .f32) (ix3 b s l) = c (ix3 b s (Rows.col 2 l)) := by
  refine congrArg c (funext fun a => Fin.ext ?_)
  match a with
  | ⟨0, _⟩ => show 0 + b.val = b.val; omega
  | ⟨1, _⟩ => show 0 + s.val = s.val; omega
  | ⟨2, _⟩ => show 512 + l.val = 256 * 2 + l.val; omega

/-- Group 3's difference of running sums over the count, minus the rows. -/
def md3 (c x : FVec Ideal S2x8192x1024 .f32) : FVec Ideal S2x8192x256 .f32 :=
  subf (Host.divf (subf (extractStridedSlice S2x8192x256 ![0, 0, 768] c slices_S2x8192x1024_S2x8192x256_0_0_768) (pad S2x8192x256 ![0, 16, 0] ![0, 0, 0] ![0, 0, 0] (extractStridedSlice S2x8176x256 ![0, 0, 0] (extractStridedSlice S2x8192x256 ![0, 0, 768] c slices_S2x8192x1024_S2x8192x256_0_0_768) slices_S2x8192x256_S2x8176x256_0_0_0) (sitofp (F := Ideal) .f32 (constantI S_ 32 0#32)) pads_S2x8176x256_S2x8192x256_000_1600_000 h_S_)) (ct 16#32)) (extractStridedSlice S2x8192x256 ![0, 0, 768] x slices_S2x8192x1024_S2x8192x256_0_0_768)

theorem pd3 (c : FVec Ideal S2x8192x256 .f32) (b : Fin 2) (s : Fin 8192) (l : Fin 256) :
    (pad S2x8192x256 ![0, 16, 0] ![0, 0, 0] ![0, 0, 0] (extractStridedSlice S2x8176x256 ![0, 0, 0] c slices_S2x8192x256_S2x8176x256_0_0_0) (sitofp (F := Ideal) .f32 (constantI S_ 32 0#32 : Vec Ideal S_ .i32)) pads_S2x8176x256_S2x8192x256_000_1600_000 h_S_ : FVec Ideal S2x8192x256 .f32) (ix3 b s l)
      = if s.val < 16 then (0 : EReal) else c (ix3 b ⟨s.val - 16, by omega⟩ l) := by
  by_cases h : s.val < 16
  · rw [if_pos h, pad_apply_of_not_inside (s := S2x8176x256) (t := S2x8192x256) ![0, 16, 0] ![0, 0, 0] ![0, 0, 0] _ _ _ _ (ix3 b s l) (1 : Fin 3) (fun hh => by
      have h2 : 16 ≤ s.val := hh.1
      omega)]
    show (((0#32 : BitVec 32).toInt : ℝ) : EReal) = 0
    simp
  · rw [if_neg h]
    refine (pad_apply_of_inside (s := S2x8176x256) (t := S2x8192x256) ![0, 16, 0] ![0, 0, 0] ![0, 0, 0] _ _ _ _ (ix3 b s l) (ix3 b ⟨s.val - 16, by omega⟩ l) fun a => ?_).trans ?_
    · match a with
      | ⟨0, _⟩ => show b.val = 0 + b.val * (0 + 1); omega
      | ⟨1, _⟩ => show s.val = 16 + (s.val - 16) * (0 + 1); omega
      | ⟨2, _⟩ => show l.val = 0 + l.val * (0 + 1); omega
    · pointwise

theorem sl3 (c : FVec Ideal S2x8192x1024 .f32) (b : Fin 2) (s : Fin 8192) (l : Fin 256) :
    (extractStridedSlice S2x8192x256 ![0, 0, 768] c slices_S2x8192x1024_S2x8192x256_0_0_768 : FVec Ideal S2x8192x256 .f32) (ix3 b s l) = c (ix3 b s (Rows.col 3 l)) := by
  refine congrArg c (funext fun a => Fin.ext ?_)
  match a with
  | ⟨0, _⟩ => show 0 + b.val = b.val; omega
  | ⟨1, _⟩ => show 0 + s.val = s.val; omega
  | ⟨2, _⟩ => show 768 + l.val = 256 * 3 + l.val; omega

theorem xf_eq (P : Rows.PoolW) (b : Fin 2) (s : Fin 8192) (k : Fin 1024) : xn P.X P.g (ix3 b s k) = P.xf b s.val k := by
  rw [xn_apply]
  unfold Rows.PoolW.xf Rows.PoolW.row
  rw [show (⟨s.val % 8192, Nat.mod_lt _ (by omega)⟩ : Fin 8192) = s from Fin.ext (Nat.mod_eq_of_lt s.isLt)]

theorem cs_eq (P : Rows.PoolW) (b : Fin 2) (s : Fin 8192) (k : Fin 1024) :
    cs (xn P.X P.g) (ix3 b s k) = ∑ i ∈ Finset.range (s.val + 1), P.xf b i k :=
  cs_apply _ b s k (fun i => P.xf b i k) fun i => xf_eq P b i k

theorem md0_eq (P : Rows.PoolW) (hg : ∀ k, ∃ r : ℝ, P.g (ix1 k) = r) (b : Fin 2) (s : Fin 8192) (l : Fin 256) :
    md0 (cs (xn P.X P.g)) (xn P.X P.g) (ix3 b s l) = P.mid b s.val 2 (Rows.col 0 l) := by
  have h1 := (sl0 (cs (xn P.X P.g)) b s l).trans (cs_eq P b s (Rows.col 0 l))
  have h2 : ∀ h : ¬ s.val < 2, (extractStridedSlice S2x8192x256 ![0, 0, 0] (cs (xn P.X P.g)) slices_S2x8192x1024_S2x8192x256_0_0_0 : FVec Ideal S2x8192x256 .f32) (ix3 b ⟨s.val - 2, by omega⟩ l)
      = ∑ i ∈ Finset.range (s.val - 2 + 1), P.xf b i (Rows.col 0 l) := fun _ => (sl0 _ b _ l).trans (cs_eq P b _ _)
  have h3 := pd0 (extractStridedSlice S2x8192x256 ![0, 0, 0] (cs (xn P.X P.g)) slices_S2x8192x1024_S2x8192x256_0_0_0) b s l
  have h4 := (sl0 (xn P.X P.g) b s l).trans (xf_eq P b s (Rows.col 0 l))
  have h5 := ct_apply 2 (by omega) b s l
  have h6 := P.win_eq hg b s.val 2 (Rows.col 0 l)
  refine congrArg₂ (fun a c : EReal => a - c) (congrArg₂ Ideal.div (((congrArg₂ (fun a c : EReal => a - c) h1 (h3.trans ?_))).trans h6) h5) h4
  by_cases h : s.val < 2
  · rw [if_pos h, if_pos h]
  · rw [if_neg h, if_neg h, h2 h]

theorem md1_eq (P : Rows.PoolW) (hg : ∀ k, ∃ r : ℝ, P.g (ix1 k) = r) (b : Fin 2) (s : Fin 8192) (l : Fin 256) :
    md1 (cs (xn P.X P.g)) (xn P.X P.g) (ix3 b s l) = P.mid b s.val 4 (Rows.col 1 l) := by
  have h1 := (sl1 (cs (xn P.X P.g)) b s l).trans (cs_eq P b s (Rows.col 1 l))
  have h2 : ∀ h : ¬ s.val < 4, (extractStridedSlice S2x8192x256 ![0, 0, 256] (cs (xn P.X P.g)) slices_S2x8192x1024_S2x8192x256_0_0_256 : FVec Ideal S2x8192x256 .f32) (ix3 b ⟨s.val - 4, by omega⟩ l)
      = ∑ i ∈ Finset.range (s.val - 4 + 1), P.xf b i (Rows.col 1 l) := fun _ => (sl1 _ b _ l).trans (cs_eq P b _ _)
  have h3 := pd1 (extractStridedSlice S2x8192x256 ![0, 0, 256] (cs (xn P.X P.g)) slices_S2x8192x1024_S2x8192x256_0_0_256) b s l
  have h4 := (sl1 (xn P.X P.g) b s l).trans (xf_eq P b s (Rows.col 1 l))
  have h5 := ct_apply 4 (by omega) b s l
  have h6 := P.win_eq hg b s.val 4 (Rows.col 1 l)
  refine congrArg₂ (fun a c : EReal => a - c) (congrArg₂ Ideal.div (((congrArg₂ (fun a c : EReal => a - c) h1 (h3.trans ?_))).trans h6) h5) h4
  by_cases h : s.val < 4
  · rw [if_pos h, if_pos h]
  · rw [if_neg h, if_neg h, h2 h]

theorem md2_eq (P : Rows.PoolW) (hg : ∀ k, ∃ r : ℝ, P.g (ix1 k) = r) (b : Fin 2) (s : Fin 8192) (l : Fin 256) :
    md2 (cs (xn P.X P.g)) (xn P.X P.g) (ix3 b s l) = P.mid b s.val 8 (Rows.col 2 l) := by
  have h1 := (sl2 (cs (xn P.X P.g)) b s l).trans (cs_eq P b s (Rows.col 2 l))
  have h2 : ∀ h : ¬ s.val < 8, (extractStridedSlice S2x8192x256 ![0, 0, 512] (cs (xn P.X P.g)) slices_S2x8192x1024_S2x8192x256_0_0_512 : FVec Ideal S2x8192x256 .f32) (ix3 b ⟨s.val - 8, by omega⟩ l)
      = ∑ i ∈ Finset.range (s.val - 8 + 1), P.xf b i (Rows.col 2 l) := fun _ => (sl2 _ b _ l).trans (cs_eq P b _ _)
  have h3 := pd2 (extractStridedSlice S2x8192x256 ![0, 0, 512] (cs (xn P.X P.g)) slices_S2x8192x1024_S2x8192x256_0_0_512) b s l
  have h4 := (sl2 (xn P.X P.g) b s l).trans (xf_eq P b s (Rows.col 2 l))
  have h5 := ct_apply 8 (by omega) b s l
  have h6 := P.win_eq hg b s.val 8 (Rows.col 2 l)
  refine congrArg₂ (fun a c : EReal => a - c) (congrArg₂ Ideal.div (((congrArg₂ (fun a c : EReal => a - c) h1 (h3.trans ?_))).trans h6) h5) h4
  by_cases h : s.val < 8
  · rw [if_pos h, if_pos h]
  · rw [if_neg h, if_neg h, h2 h]

theorem md3_eq (P : Rows.PoolW) (hg : ∀ k, ∃ r : ℝ, P.g (ix1 k) = r) (b : Fin 2) (s : Fin 8192) (l : Fin 256) :
    md3 (cs (xn P.X P.g)) (xn P.X P.g) (ix3 b s l) = P.mid b s.val 16 (Rows.col 3 l) := by
  have h1 := (sl3 (cs (xn P.X P.g)) b s l).trans (cs_eq P b s (Rows.col 3 l))
  have h2 : ∀ h : ¬ s.val < 16, (extractStridedSlice S2x8192x256 ![0, 0, 768] (cs (xn P.X P.g)) slices_S2x8192x1024_S2x8192x256_0_0_768 : FVec Ideal S2x8192x256 .f32) (ix3 b ⟨s.val - 16, by omega⟩ l)
      = ∑ i ∈ Finset.range (s.val - 16 + 1), P.xf b i (Rows.col 3 l) := fun _ => (sl3 _ b _ l).trans (cs_eq P b _ _)
  have h3 := pd3 (extractStridedSlice S2x8192x256 ![0, 0, 768] (cs (xn P.X P.g)) slices_S2x8192x1024_S2x8192x256_0_0_768) b s l
  have h4 := (sl3 (xn P.X P.g) b s l).trans (xf_eq P b s (Rows.col 3 l))
  have h5 := ct_apply 16 (by omega) b s l
  have h6 := P.win_eq hg b s.val 16 (Rows.col 3 l)
  refine congrArg₂ (fun a c : EReal => a - c) (congrArg₂ Ideal.div (((congrArg₂ (fun a c : EReal => a - c) h1 (h3.trans ?_))).trans h6) h5) h4
  by_cases h : s.val < 16
  · rw [if_pos h, if_pos h]
  · rw [if_neg h, if_neg h, h2 h]

/-- The four groups laid side by side. -/
def cat (a0 a1 a2 a3 : FVec Ideal S2x8192x256 .f32) : FVec Ideal S2x8192x4x256 .f32 :=
  concatenate S2x8192x4x256 2 [⟨S2x8192x1x256, (broadcastInDim S2x8192x1x256 ![0, 1, 3] bcast_S2x8192x256_S2x8192x1x256_0_1_3 a0 : (⟨S2x8192x1x256, .f32⟩ : BufTy).Contents (Elt Ideal))⟩, ⟨S2x8192x1x256, (broadcastInDim S2x8192x1x256 ![0, 1, 3] bcast_S2x8192x256_S2x8192x1x256_0_1_3 a1 : (⟨S2x8192x1x256, .f32⟩ : BufTy).Contents (Elt Ideal))⟩, ⟨S2x8192x1x256, (broadcastInDim S2x8192x1x256 ![0, 1, 3] bcast_S2x8192x256_S2x8192x1x256_0_1_3 a2 : (⟨S2x8192x1x256, .f32⟩ : BufTy).Contents (Elt Ideal))⟩, ⟨S2x8192x1x256, (broadcastInDim S2x8192x1x256 ![0, 1, 3] bcast_S2x8192x256_S2x8192x1x256_0_1_3 a3 : (⟨S2x8192x1x256, .f32⟩ : BufTy).Contents (Elt Ideal))⟩] concatenates_S2x8192x1x256_S2x8192x1x256_S2x8192x1x256_S2x8192x1x256_S2x8192x4x256_d2

theorem cat_apply (a0 a1 a2 a3 : FVec Ideal S2x8192x256 .f32) (b : Fin 2) (s : Fin 8192) (q : Fin 4) (e : Fin 256) :
    cat a0 a1 a2 a3 (ix4 b s q e) = if q.val < 1 then a0 (ix3 b s e) else if q.val - 1 < 1 then a1 (ix3 b s e) else if q.val - 1 - 1 < 1 then a2 (ix3 b s e) else a3 (ix3 b s e) := by
  pointwise [cat]
  rfl

/-- Each group through its own matrix, the groups side by side again. -/
def mx (w : FVec Ideal S4x256x256 .f32) (y : FVec Ideal S2x8192x4x256 .f32) : FVec Ideal S2x8192x4x256 .f32 :=
  transpose S2x8192x4x256 [2, 3, 0, 1] (Host.dotGeneral dot_S4x256x256_S2x8192x4x256_S4x256x2x8192_1_3_2_01_0_2 none w y) transposes_S4x256x2x8192_S2x8192x4x256_2_3_0_1

theorem mx_apply (w : FVec Ideal S4x256x256 .f32) (y : FVec Ideal S2x8192x4x256 .f32) (b : Fin 2) (s : Fin 8192) (q : Fin 4) (c : Fin 256) :
    mx w y (ix4 b s q c) = ∑ e : Fin 256, w (ix3 q e c) * y (ix4 b s q e) := by
  pointwise [mx]

theorem re_apply (z : FVec Ideal S2x8192x4x256 .f32) (b : Fin 2) (s : Fin 8192) (k : Fin 1024) :
    (shapeCast S2x8192x1024 z shapeCasts_S2x8192x4x256_S2x8192x1024 : FVec Ideal S2x8192x1024 .f32) (ix3 b s k) = z (ix4 b s ⟨k.val / 256, by omega⟩ ⟨k.val % 256, by omega⟩) := by
  pointwise

/-- The mixer's last steps: bias, scale, and the rows themselves. -/
def fin (X : FVec Ideal S2x8192x1024 .f32) (z : FVec Ideal S2x8192x4x256 .f32) (p u : FVec Ideal S1024 .f32) : FVec Ideal S2x8192x1024 .f32 :=
  addf X (mulf (addf (shapeCast S2x8192x1024 z shapeCasts_S2x8192x4x256_S2x8192x1024) (broadcastInDim S2x8192x1024 ![0, 1, 2] bcast_S1x1x1024_S2x8192x1024_0_1_2 (broadcastInDim S1x1x1024 ![2] bcast_S1024_S1x1x1024_2 p))) (broadcastInDim S2x8192x1024 ![0, 1, 2] bcast_S1x1x1024_S2x8192x1024_0_1_2 (broadcastInDim S1x1x1024 ![2] bcast_S1024_S1x1x1024_2 u)))

theorem fin_apply (X : FVec Ideal S2x8192x1024 .f32) (z : FVec Ideal S2x8192x4x256 .f32) (p u : FVec Ideal S1024 .f32) (b : Fin 2) (s : Fin 8192) (k : Fin 1024) :
    fin X z p u (ix3 b s k) = X (ix3 b s k) + (z (ix4 b s ⟨k.val / 256, by omega⟩ ⟨k.val % 256, by omega⟩) + p (ix1 k)) * u (ix1 k) := by
  rw [← re_apply z b s k]
  pointwise [fin]

/-- The mixer, as the reference computes it. -/
def res (P : Rows.PoolW) : FVec Ideal S16384x1024 .f32 :=
  shapeCast S16384x1024 (fin P.X (mx P.w (cat (md0 (cs (xn P.X P.g)) (xn P.X P.g)) (md1 (cs (xn P.X P.g)) (xn P.X P.g)) (md2 (cs (xn P.X P.g)) (xn P.X P.g)) (md3 (cs (xn P.X P.g)) (xn P.X P.g)))) P.b P.s) shapeCasts_S2x8192x1024_S16384x1024

theorem res_eq (P : Rows.PoolW) (hg : ∀ k, ∃ r : ℝ, P.g (ix1 k) = r) : res P = P.arr := by
  funext i
  obtain ⟨n, k, rfl⟩ : ∃ (n : Fin 16384) (k : Fin 1024), i = ix2 n k := ⟨i 0, i 1, ValueIdx.eq_ix2 (n0 := 16384) (n1 := 1024) i⟩
  refine (Rows.flat_apply _ _ n k).trans ?_
  unfold Rows.tok
  show _ = P.out ⟨n.val / 8192, _⟩ (n.val % 8192) ⟨k.val / 256, _⟩ ⟨k.val % 256, _⟩
  obtain ⟨b, hb⟩ : ∃ b : Fin 2, b = ⟨n.val / 8192, by omega⟩ := ⟨_, rfl⟩
  obtain ⟨s, hs⟩ : ∃ s : Fin 8192, s = ⟨n.val % 8192, by omega⟩ := ⟨_, rfl⟩
  obtain ⟨q, hq⟩ : ∃ q : Fin 4, q = ⟨k.val / 256, by omega⟩ := ⟨_, rfl⟩
  obtain ⟨e, he⟩ : ∃ e : Fin 256, e = ⟨k.val % 256, by omega⟩ := ⟨_, rfl⟩
  have hk : k = Rows.col q e := Fin.ext (by rw [hq, he]; show k.val = 256 * (k.val / 256) + k.val % 256; omega)
  rw [fin_apply, ← hb, ← hs, ← hq, ← he, show n.val % 8192 = s.val from by rw [hs], mx_apply, hk]
  unfold Rows.PoolW.out Rows.PoolW.row
  rw [show (⟨s.val % 8192, Nat.mod_lt _ (by omega)⟩ : Fin 8192) = s from Fin.ext (Nat.mod_eq_of_lt s.isLt)]
  rw [Finset.sum_congr rfl fun (l : Fin 256) _ => (mul_comm (P.w (ix3 q l e)) _).trans (congrArg (· * P.w (ix3 q l e) : EReal → EReal) (?_ : _ = P.mid b s.val (2 ^ (q.val + 1)) (Rows.col q l)))]
  rw [cat_apply]
  match q with
  | ⟨0, _⟩ => exact md0_eq P hg b s l
  | ⟨1, _⟩ => exact md1_eq P hg b s l
  | ⟨2, _⟩ => exact md2_eq P hg b s l
  | ⟨3, _⟩ => exact md3_eq P hg b s l

variable (m : (ℓ : Loc nD τ sig) → Buf (Elt Ideal) ℓ) (ρ : Dev nD → PrngReg)

/-- The mixer's arguments on device `c`. -/
abbrev W (c : Dev nD) : Rows.PoolW where
  X := m ((c : Thread nD τ).loc main_arg0)
  g := m ((c : Thread nD τ).loc main_arg1)
  w := m ((c : Thread nD τ).loc main_arg2)
  b := m ((c : Thread nD τ).loc main_arg3)
  s := m ((c : Thread nD τ).loc main_arg4)

theorem out_eq (c : Dev nD) : res_main_v86 m c = res (W m c) := by
  unfold res_main_v86
  rfl

/-- The reference's run: where the norm's weights are finite its result is the mixer of its arguments, which it leaves unchanged. -/
theorem run (hg : ∀ (c : Dev nD) (k : Fin 1024), ∃ r : ℝ, (W m c).g (ix1 k) = r) :
    θ_run defs (onTc (τ := τ) (main (F := Ideal))) ⟨m, fun _ => 0, ρ⟩ fun r => ∀ c : Dev nD,
      r.2.mem ((c.tc : Thread nD τ).loc main_v86) = (W m c).arr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((out_eq m c).trans (res_eq (W m c) (hg c))), (h c).2⟩) (Value.run m ρ)

end Cert.PoolRefIdeal.Row

end
-- ==== Proof.PoolClaim.lean ====
module

public import proofs.«01_k».proof.Defs
public import proofs.«01_k».proof.Proof.PoolVal
public import proofs.«01_k».proof.Proof.PoolRef
public import proofs.«01_k».proof.Proof.Gen.Pool.Frame
public import Idealize.ShloMosaic.Lib.Quiescent

@[expose] public section

set_option maxRecDepth 16384

noncomputable section

namespace Cert.PoolClaim

open Idealize.ShloMosaic Idealize.ShloMosaic.TcCoe Idealize.SL.Sem

/-- The precondition's one shape relation. -/
theorem preFacts : Cert.Pre_mix_norm_finite.Facts := ⟨by decide⟩

/-- What the precondition says of a vector of weights: every entry is a real number. -/
theorem finite_of_pre (X : FVec Ideal Cert.Pre_mix_norm_finite.S2x8192x1024 .f32) (g : FVec Ideal Cert.Pre_mix_norm_finite.S1024 .f32)
    (w : FVec Ideal Cert.Pre_mix_norm_finite.S4x256x256 .f32) (b s : FVec Ideal Cert.Pre_mix_norm_finite.S1024 .f32)
    (h : @Cert.Pre_mix_norm_finite.fn preFacts Ideal _ X g w b s = fun _ => 1#1) (k : Fin 1024) : ∃ r : ℝ, g (ix1 k) = r := by
  have e := congrFun h (ix1 k)
  have e' : BitVec.ofBool (decide (max (g (ix1 k)) (-(g (ix1 k))) < Ideal.ofBits .f32 0x7F800000#32)) = 1#1 := e
  have hlt : max (g (ix1 k) : EReal) (-(g (ix1 k))) < Ideal.ofBits .f32 0x7F800000#32 := by
    by_contra hn
    rw [decide_eq_false hn] at e'
    exact absurd e' (by decide)
  have h1 : (g (ix1 k) : EReal) < ⊤ := lt_of_lt_of_le (lt_of_le_of_lt (le_max_left _ _) hlt) le_top
  have h2 : -(g (ix1 k) : EReal) < ⊤ := lt_of_lt_of_le (lt_of_le_of_lt (le_max_right _ _) hlt) le_top
  refine ⟨(g (ix1 k) : EReal).toReal, (EReal.coe_toReal h1.ne fun hb => ?_).symm⟩
  rw [hb, EReal.neg_bot] at h2
  exact absurd h2 (lt_irrefl _)

/-- The kernel runs, leaves its arguments unchanged and its counters at zero. -/
theorem frame : Cert.quiescent_Pool := fun m ρ _ => Cert.Pool.Gen.frame m ρ

/-- The same of its idealization. -/
theorem frameIdeal : Cert.quiescent_PoolIdeal := fun m ρ _ => Cert.PoolIdeal.Gen.frame m ρ

/-- The same of its idealization where the norm's weights are finite. -/
theorem frameIdealPre : Cert.quiescent_PoolIdeal_pre_mix_norm_finite (hPre_mix_norm_finite := preFacts) := fun m ρ _ => Cert.PoolIdeal.Gen.frame m ρ

/-- The same of the reference. -/
theorem frameRef : Cert.quiescent_PoolRefIdeal := fun m ρ _ =>
  (θ_run Cert.PoolRefIdeal.defs _ _).mono (fun r h => ⟨fun c => (h c).2, Idealize.ShloMosaic.sem_eq_zero_of_no_sems (by decide) r.2⟩)
    (Cert.PoolRefIdeal.Value.run m ρ)

/-- The same of the reference where the norm's weights are finite. -/
theorem frameRefPre : Cert.quiescent_PoolRefIdeal_pre_mix_norm_finite (hPre_mix_norm_finite := preFacts) := fun m ρ _ => frameRef m ρ trivial

/-- Over the extended reals, where the norm's weights are finite, the kernel and the reference end with the same result on the same arguments. -/
theorem algebraic : Cert.algebraic_PoolIdeal_PoolRefIdeal_pre_mix_norm_finite (hPre_mix_norm_finite := preFacts) := fun m ρ m' ρ' hp hag =>
  ⟨fun c => Cert.PoolIdeal.Row.G m c, Cert.PoolIdeal.Row.run m ρ,
    (θ_run _ _ _).mono (fun _ h c => ⟨(h c).1.trans (by
      unfold Cert.PoolIdeal.Row.G Cert.PoolRefIdeal.Row.W Cert.PoolIdeal.Row.W
      obtain ⟨h0, h1, h2, h3, h4⟩ := hag c
      rw [h0, h1, h2, h3, h4]), (h c).2⟩)
      (Cert.PoolRefIdeal.Row.run m' ρ' fun c k => by
        obtain ⟨h0, h1, h2, h3, h4⟩ := hag c
        obtain ⟨r, hr⟩ := finite_of_pre _ _ _ _ _ (hp c) k
        exact ⟨r, (congrFun h1 (ix1 k)).trans hr⟩)⟩

end Cert.PoolClaim

end
-- ==== Proof.FfnPay.lean ====
module

public import proofs.«01_k».proof.Proof.Rows
public import proofs.«01_k».proof.Proof.Gen.FfnIdeal.Value

@[expose] public section

set_option maxRecDepth 16384

noncomputable section

namespace Cert.FfnIdeal.Row

open Cert.FfnIdeal Cert.FfnIdeal.Gen Idealize.ShloMosaic Idealize.ShloMosaic.TcCoe Idealize.SL.Sem
open Idealize.ShloMosaic.Pipeline (Dat)

/-- Row `r` of what the body computes of its blocks is the layer's row of row `r` of the input block. -/
theorem pay_apply (x : Vec Ideal S512x1024 .f32) (g : Vec Ideal S1x1024 .f32) (wg wu : Vec Ideal S1024x2816 .bf16)
    (wd : Vec Ideal S2816x1024 .bf16) (r : Fin 512) (j : Fin 1024) :
    k0_pay1 (F := Ideal) x g wg wu wd (ix2 r j)
      = Rows.ffn (fun k => x (ix2 r k)) (fun k => g (ix2 0 k)) (fun k l => wg (ix2 k l)) (fun k l => wu (ix2 k l)) (fun k l => wd (ix2 k l)) j := by
  pointwise [k0_pay1, Rows.ffn, Rows.rms, Rows.vm, Rows.silu]

variable (m : (ℓ : Loc nD τ sig) → Buf (Elt Ideal) ℓ) (ρ : Dev nD → PrngReg)

theorem hz : (![0, 0] : Fin 2 → Nat) = fun _ => 0 := funext fun a => by fin_cases a <;> rfl

theorem V0 (c : Dev nD) : V m c main_v0 = shapeCast S16384x1024 (m ((c : Thread nD τ).loc main_arg0)) shapeCasts_S2x8192x1024_S16384x1024 := by
  unfold V hostOps0; after_results; rfl
theorem V1 (c : Dev nD) : V m c main_v1 = shapeCast S1x1024 (m ((c : Thread nD τ).loc main_arg1)) shapeCasts_S1024_S1x1024 := by
  unfold V hostOps0; after_results; rfl
theorem V2 (c : Dev nD) : V m c main_v2 = m ((c : Thread nD τ).loc main_arg2) := by
  unfold V hostOps0; after_results; rfl
theorem V3 (c : Dev nD) : V m c main_v3 = m ((c : Thread nD τ).loc main_arg3) := by
  unfold V hostOps0; after_results; rfl
theorem V4 (c : Dev nD) : V m c main_v4 = m ((c : Thread nD τ).loc main_arg4) := by
  unfold V hostOps0; after_results; rfl

/-- Where the grid's windows stand at point `t`. -/
theorem idx (t : Fin cfg0.N) : win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = t.val ∧ win0_5.index t 1 = 0 :=
  (by decide +kernel : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = t.val ∧ win0_5.index t 1 = 0) t

theorem N32 : cfg0.N = 32 := N_0

theorem iblk0 (c : Dev nD) (t : Fin cfg0.N) (r : Fin 512) (k : Fin 1024) :
    (iblk m c 0 t : Vec Ideal S512x1024 .f32) (ix2 r k) = Rows.tok (m ((c : Thread nD τ).loc main_arg0)) (⟨512 * t.val + r.val, by have := t.isLt; have := N32; omega⟩ : Fin 16384) k := by
  unfold iblk
  rw [View.read_apply]
  refine Eq.trans (b := V m c main_v0 (ix2 (⟨512 * t.val + r.val, by have := t.isLt; have := N32; omega⟩ : Fin 16384) k)) ?_ (by rw [V0]; exact Rows.flat_apply _ _ _ _)
  show V m c main_v0 _ = V m c main_v0 _
  congr 1
  funext a
  apply Fin.ext
  match a with
  | ⟨0, _⟩ => show win0_0.index t 0 * 512 + 1 * r.val = 512 * t.val + r.val; rw [(idx t).1]; omega
  | ⟨1, _⟩ => show win0_0.index t 1 * 1024 + 1 * k.val = k.val; rw [(idx t).2.1]; omega

theorem iblk1 (c : Dev nD) (t : Fin cfg0.N) (r : Fin 1) (k : Fin 1024) :
    (iblk m c 1 t : Vec Ideal S1x1024 .f32) (ix2 r k) = m ((c : Thread nD τ).loc main_arg1) (ix1 k) := by
  unfold iblk
  rw [View.read_apply]
  refine Eq.trans (b := V m c main_v1 (ix2 r k)) ?_ (by rw [V1]; pointwise)
  show V m c main_v1 _ = V m c main_v1 _
  congr 1
  funext a
  apply Fin.ext
  match a with
  | ⟨0, _⟩ => show win0_1.index t 0 * 1 + 1 * r.val = r.val; rw [(idx t).2.2.1]; omega
  | ⟨1, _⟩ => show win0_1.index t 1 * 1024 + 1 * k.val = k.val; rw [(idx t).2.2.2.1]; omega

theorem iblk2 (c : Dev nD) (t : Fin cfg0.N) (r : Fin 1024) (k : Fin 2816) :
    (iblk m c 2 t : Vec Ideal S1024x2816 .bf16) (ix2 r k) = m ((c : Thread nD τ).loc main_arg2) (ix2 r k) := by
  unfold iblk
  rw [View.read_apply]
  refine Eq.trans (b := V m c main_v2 (ix2 r k)) ?_ (by rw [V2])
  show V m c main_v2 _ = V m c main_v2 _
  congr 1
  funext a
  apply Fin.ext
  match a with
  | ⟨0, _⟩ => show win0_2.index t 0 * 1024 + 1 * r.val = r.val; rw [(idx t).2.2.2.2.1]; omega
  | ⟨1, _⟩ => show win0_2.index t 1 * 2816 + 1 * k.val = k.val; rw [(idx t).2.2.2.2.2.1]; omega

theorem iblk3 (c : Dev nD) (t : Fin cfg0.N) (r : Fin 1024) (k : Fin 2816) :
    (iblk m c 3 t : Vec Ideal S1024x2816 .bf16) (ix2 r k) = m ((c : Thread nD τ).loc main_arg3) (ix2 r k) := by
  unfold iblk
  rw [View.read_apply]
  refine Eq.trans (b := V m c main_v3 (ix2 r k)) ?_ (by rw [V3])
  show V m c main_v3 _ = V m c main_v3 _
  congr 1
  funext a
  apply Fin.ext
  match a with
  | ⟨0, _⟩ => show win0_3.index t 0 * 1024 + 1 * r.val = r.val; rw [(idx t).2.2.2.2.2.2.1]; omega
  | ⟨1, _⟩ => show win0_3.index t 1 * 2816 + 1 * k.val = k.val; rw [(idx t).2.2.2.2.2.2.2.1]; omega

theorem iblk4 (c : Dev nD) (t : Fin cfg0.N) (r : Fin 2816) (k : Fin 1024) :
    (iblk m c 4 t : Vec Ideal S2816x1024 .bf16) (ix2 r k) = m ((c : Thread nD τ).loc main_arg4) (ix2 r k) := by
  unfold iblk
  rw [View.read_apply]
  refine Eq.trans (b := V m c main_v4 (ix2 r k)) ?_ (by rw [V4])
  show V m c main_v4 _ = V m c main_v4 _
  congr 1
  funext a
  apply Fin.ext
  match a with
  | ⟨0, _⟩ => show win0_4.index t 0 * 2816 + 1 * r.val = r.val; rw [(idx t).2.2.2.2.2.2.2.2.1]; omega
  | ⟨1, _⟩ => show win0_4.index t 1 * 1024 + 1 * k.val = k.val; rw [(idx t).2.2.2.2.2.2.2.2.2.1]; omega

/-- The layer's result of device `c`'s arguments. -/
abbrev G (c : Dev nD) : Buf (Elt Ideal) ((c : Thread nD τ).loc main_v5) :=
  Rows.ffnArr (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq (c : Dev nD) (t : Fin cfg0.N) :
    (dats m 0 c).flushed 5 t = ((cfg0.win 5).blk t).view.read (Elt Ideal) (G m c) := by
  rw [Value.flushed5]
  unfold out0_5
  rw [View.canon_unit_zero hz]
  rw [View.ld_unit_zero hz, View.ld_unit_zero hz, View.ld_unit_zero hz, View.ld_unit_zero hz, View.ld_unit_zero hz]
  funext j
  rw [View.read_apply]
  obtain ⟨r, k, rfl⟩ : ∃ (r : Fin 512) (k : Fin 1024), j = ix2 r k := ⟨j 0, j 1, ValueIdx.eq_ix2 (n0 := 512) (n1 := 1024) j⟩
  have e : ((cfg0.win 5).blk t).view.emb (ix2 r k) = (ix2 (⟨512 * t.val + r.val, by have := t.isLt; have := N32; omega⟩ : Fin 16384) k) := by
    funext a
    apply Fin.ext
    match a with
    | ⟨0, _⟩ => show win0_5.index t 0 * 512 + 1 * r.val = 512 * t.val + r.val; rw [(idx t).2.2.2.2.2.2.2.2.2.2.1]; omega
    | ⟨1, _⟩ => show win0_5.index t 1 * 1024 + 1 * k.val = k.val; rw [(idx t).2.2.2.2.2.2.2.2.2.2.2]; omega
  rw [e]
  refine (pay_apply _ _ _ _ _ r k).trans ?_
  simp only [iblk0, iblk1, iblk2, iblk3, iblk4]
  rfl

/-- Every element of the result lies in the block of its 512 rows. -/
theorem cover (i : S16384x1024.Idx) : ∃ t : Fin cfg0.N, (cfg0.win 5).flush t = true ∧ i ∈ ((cfg0.win 5).blk t).view.set := by
  have h0 : (i 0 : Nat) < 16384 := (i 0).isLt
  have h1 : (i 1 : Nat) < 1024 := (i 1).isLt
  let t : Fin cfg0.N := ⟨(i 0 : Nat) / 512, by rw [N32]; omega⟩
  have ht : t.val = (i 0 : Nat) / 512 := rfl
  refine ⟨t, flush0_5 t, ?_⟩
  show i ∈ ((View.whole main_v5).slice (win0_5.rect t)).set
  rw [View.set_slice_whole, Rect.mem_set_unit]
  have e0 : win0_5.index t 0 = t.val := (idx t).2.2.2.2.2.2.2.2.2.2.1
  have e1 : win0_5.index t 1 = 0 := (idx t).2.2.2.2.2.2.2.2.2.2.2
  intro a
  match a with
  | ⟨0, _⟩ => show win0_5.index t 0 * 512 ≤ (i 0 : Nat) ∧ (i 0 : Nat) < win0_5.index t 0 * 512 + 512
              rw [e0, ht]; omega
  | ⟨1, _⟩ => show win0_5.index t 1 * 1024 ≤ (i 1 : Nat) ∧ (i 1 : Nat) < win0_5.index t 1 * 1024 + 1024
              rw [e1]; omega

/-- After the run the result array is the layer of the arguments. -/
theorem final (c : Dev nD) : (dats m 0 c).arrAt 5 cfg0.N = G m c :=
  (dats m 0 c).arrAt_eq_of_cover 5 (G m c) (fun t _ => flushed_eq m c t) cover

/-- The kernel's run: its result is the layer of its arguments, which it leaves unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.FfnIdeal.Row

end
-- ==== Proof.FfnRef.lean ====
module

public import proofs.«01_k».proof.Proof.Rows
public import proofs.«01_k».proof.Proof.Gen.FfnRefIdeal.Run

@[expose] public section

set_option maxRecDepth 16384

noncomputable section

namespace Cert.FfnRefIdeal.Row

open Cert.FfnRefIdeal Cert.FfnRefIdeal.Gen Idealize.ShloMosaic Idealize.ShloMosaic.TcCoe Idealize.SL.Sem

variable (m : (ℓ : Loc nD τ sig) → Buf (Elt Ideal) ℓ) (ρ : Dev nD → PrngReg)

/-- The layer's result of device `c`'s arguments. -/
abbrev G (c : Dev nD) : Buf (Elt Ideal) ((c : Thread nD τ).loc main_v21) :=
  Rows.ffnArr (m ((c : Thread nD τ).loc main_arg0)) (m ((c : Thread nD τ).loc main_arg1)) (m ((c : Thread nD τ).loc main_arg2))
    (m ((c : Thread nD τ).loc main_arg3)) (m ((c : Thread nD τ).loc main_arg4))

/-- The reference's run: its result is the layer of its arguments, which it leaves unchanged. -/
theorem run : θ_run defs (onTc (τ := τ) (main (F := Ideal))) ⟨m, fun _ => 0, ρ⟩ fun r => ∀ c : Dev nD,
      r.2.mem ((c : Thread nD τ).loc main_v21) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (by
    unfold G
    generalize m ((c : Thread nD τ).loc main_arg0) = X
    generalize m ((c : Thread nD τ).loc main_arg1) = g
    generalize m ((c : Thread nD τ).loc main_arg2) = wg
    generalize m ((c : Thread nD τ).loc main_arg3) = wu
    generalize m ((c : Thread nD τ).loc main_arg4) = wd
    funext i
    obtain ⟨n, k, rfl⟩ : ∃ (n : Fin 16384) (k : Fin 1024), i = ix2 n k := ⟨i 0, i 1, ValueIdx.eq_ix2 (n0 := 16384) (n1 := 1024) i⟩
    refine (Rows.flat_apply _ _ n k).trans ?_
    rw [show Rows.ffnArr X g wg wu wd (ix2 n k) = Rows.ffn (Rows.tok X n) (fun k => g (ix1 k)) (fun k l => wg (ix2 k l))
      (fun k l => wu (ix2 k l)) (fun k l => wd (ix2 k l)) k from rfl]
    unfold Rows.tok
    generalize (⟨n.val / 8192, by omega⟩ : Fin 2) = b
    generalize (⟨n.val % 8192, by omega⟩ : Fin 8192) = s
    pointwise [Rows.ffn, Rows.rms, Rows.vm, Rows.silu]
    rfl), (h c).2⟩) (Value.run m ρ)

end Cert.FfnRefIdeal.Row

end
-- ==== Proof.FfnClaim.lean ====
module

public import proofs.«01_k».proof.Defs
public import proofs.«01_k».proof.Proof.FfnPay
public import proofs.«01_k».proof.Proof.FfnRef
public import proofs.«01_k».proof.Proof.Gen.Ffn.Frame
public import Idealize.ShloMosaic.Lib.Quiescent

@[expose] public section

set_option maxRecDepth 16384

noncomputable section

namespace Cert.FfnClaim

open Idealize.ShloMosaic Idealize.ShloMosaic.TcCoe Idealize.SL.Sem

/-- The kernel runs, leaves its arguments unchanged and its counters at zero. -/
theorem frame : Cert.quiescent_Ffn := fun m ρ _ => Cert.Ffn.Gen.frame m ρ

/-- The same of its idealization. -/
theorem frameIdeal : Cert.quiescent_FfnIdeal := fun m ρ _ => Cert.FfnIdeal.Gen.frame m ρ

/-- The same of the reference. -/
theorem frameRef : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Row.run m ρ)

/-- Over the extended reals the kernel and the reference end with the same result on the same arguments. -/
theorem algebraic : Cert.algebraic_FfnIdeal_FfnRefIdeal := fun m ρ m' ρ' _ hag =>
  ⟨fun c => Cert.FfnIdeal.Row.G m c, Cert.FfnIdeal.Row.run m ρ,
    (θ_run _ _ _).mono (fun _ h c => ⟨(h c).1.trans (by
      unfold Cert.FfnRefIdeal.Row.G Cert.FfnIdeal.Row.G
      obtain ⟨h0, h1, h2, h3, h4⟩ := hag c
      rw [h0, h1, h2, h3, h4]), (h c).2⟩) (Cert.FfnRefIdeal.Row.run m' ρ')⟩

end Cert.FfnClaim

end
-- ==== Proof.PlePay.lean ====
module

public import proofs.«01_k».proof.Proof.Rows
public import proofs.«01_k».proof.Proof.Gen.PleIdeal.Value

@[expose] public section

set_option maxRecDepth 16384

noncomputable section

namespace Cert.PleIdeal.Row

open Cert.PleIdeal Cert.PleIdeal.Gen Idealize.ShloMosaic Idealize.ShloMosaic.TcCoe Idealize.SL.Sem
open Idealize.ShloMosaic.Pipeline (Dat)

/-- Row `r` of the feed-forward part of the body. -/
theorem pay2_apply (x : Vec Ideal S512x1024 .f32) (g : Vec Ideal S1x1024 .f32) (wg wu : Vec Ideal S1024x2816 .bf16)
    (wd : Vec Ideal S2816x1024 .bf16) (r : Fin 512) (j : Fin 1024) :
    k0_pay2 (F := Ideal) x g wg wu wd (ix2 r j)
      = Rows.ffn (fun k => x (ix2 r k)) (fun k => g (ix2 0 k)) (fun k l => wg (ix2 k l)) (fun k l => wu (ix2 k l)) (fun k l => wd (ix2 k l)) j := by
  pointwise [k0_pay2, Rows.ffn, Rows.rms, Rows.vm, Rows.silu]

/-- The sum of squares of row `r` of the feed-forward part. -/
theorem pay4_apply (x : Vec Ideal S512x1024 .f32) (g : Vec Ideal S1x1024 .f32) (wg wu : Vec Ideal S1024x2816 .bf16)
    (wd : Vec Ideal S2816x1024 .bf16) (r : Fin 512) :
    k0_pay4 (F := Ideal) x g wg wu wd (ix2 r 0)
      = ∑ k, k0_pay2 (F := Ideal) x g wg wu wd (ix2 r k) * k0_pay2 (F := Ideal) x g wg wu wd (ix2 r k) := by
  pointwise [k0_pay4]

/-- Row `r` of the rest of the body, over the feed-forward part `v32` and its sums of squares `v37`. -/
theorem pay1_apply (v32 : FVec Ideal S512x1024 .f32) (v34 : FVec Ideal S1x1024 .f32) (v37 : FVec Ideal S512x1 .f32)
    (v48 : Vec Ideal S1024x1024 .bf16) (v52 : Vec Ideal S512x256 .f32) (v55 : Vec Ideal S256x1024 .bf16) (r : Fin 512) (j : Fin 1024)
    (h : v37 (ix2 r 0) = ∑ l, v32 (ix2 r l) * v32 (ix2 r l)) :
    k0_pay1 (F := Ideal) v32 v34 v37 v48 v52 v55 (ix2 r j)
      = Rows.ple (fun k => v32 (ix2 r k)) (fun k => v52 (ix2 r k)) (fun k => v34 (ix2 0 k)) (fun k l => v48 (ix2 k l))
        (fun k l => v55 (ix2 k l)) j := by
  pointwise [k0_pay1, Rows.ple, Rows.rms, Rows.vm, h]

variable (m : (ℓ : Loc nD τ sig) → Buf (Elt Ideal) ℓ) (ρ : Dev nD → PrngReg)

theorem hz : (![0, 0] : Fin 2 → Nat) = fun _ => 0 := funext fun a => by fin_cases a <;> rfl

theorem V0 (c : Dev nD) : V m c main_v0 = shapeCast S16384x1024 (m ((c : Thread nD τ).loc main_arg0)) shapeCasts_S2x8192x1024_S16384x1024 := by
  unfold V hostOps0; after_results; rfl
theorem V1 (c : Dev nD) : V m c main_v1 = shapeCast S16384x256 (m ((c : Thread nD τ).loc main_arg1)) shapeCasts_S2x8192x256_S16384x256 := by
  unfold V hostOps0; after_results; rfl
theorem V2 (c : Dev nD) : V m c main_v2 = shapeCast S1x1024 (m ((c : Thread nD τ).loc main_arg2)) shapeCasts_S1024_S1x1024 := by
  unfold V hostOps0; after_results; rfl
theorem V3 (c : Dev nD) : V m c main_v3 = m ((c : Thread nD τ).loc main_arg3) := by
  unfold V hostOps0; after_results; rfl
theorem V4 (c : Dev nD) : V m c main_v4 = m ((c : Thread nD τ).loc main_arg4) := by
  unfold V hostOps0; after_results; rfl
theorem V5 (c : Dev nD) : V m c main_v5 = m ((c : Thread nD τ).loc main_arg5) := by
  unfold V hostOps0; after_results; rfl
theorem V6 (c : Dev nD) : V m c main_v6 = shapeCast S1x1024 (m ((c : Thread nD τ).loc main_arg6)) shapeCasts_S1024_S1x1024 := by
  unfold V hostOps0; after_results; rfl
theorem V7 (c : Dev nD) : V m c main_v7 = m ((c : Thread nD τ).loc main_arg7) := by
  unfold V hostOps0; after_results; rfl
theorem V8 (c : Dev nD) : V m c main_v8 = m ((c : Thread nD τ).loc main_arg8) := by
  unfold V hostOps0; after_results; rfl
theorem V9 (c : Dev nD) : V m c main_v9 = shapeCast S1x1024 (m ((c : Thread nD τ).loc main_arg9)) shapeCasts_S1024_S1x1024 := by
  unfold V hostOps0; after_results; rfl

/-- Where the grid's windows stand at point `t`. -/
theorem idx (t : Fin cfg0.N) : (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = t.val ∧ win0_10.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = t.val ∧ win0_10.index t 1 = 0)) t

theorem N32 : cfg0.N = 32 := N_0

theorem iblk0 (c : Dev nD) (t : Fin cfg0.N) (r : Fin 512) (k : Fin 1024) :
    (iblk m c 0 t : Vec Ideal S512x1024 .f32) (ix2 r k) = Rows.tok (m ((c : Thread nD τ).loc main_arg0)) (⟨512 * t.val + r.val, by have := t.isLt; have := N32; omega⟩ : Fin 16384) k := by
  unfold iblk
  rw [View.read_apply]
  refine Eq.trans (b := V m c main_v0 (ix2 (⟨512 * t.val + r.val, by have := t.isLt; have := N32; omega⟩ : Fin 16384) k)) ?_ (by rw [V0]; exact Rows.flat_apply _ _ _ _)
  show V m c main_v0 _ = V m c main_v0 _
  congr 1
  funext a
  apply Fin.ext
  match a with
  | ⟨0, _⟩ => show win0_0.index t 0 * 512 + 1 * r.val = 512 * t.val + r.val; rw [(idx t).1.1]; omega
  | ⟨1, _⟩ => show win0_0.index t 1 * 1024 + 1 * k.val = k.val; rw [(idx t).1.2]; omega

theorem iblk1 (c : Dev nD) (t : Fin cfg0.N) (r : Fin 512) (k : Fin 256) :
    (iblk m c 1 t : Vec Ideal S512x256 .f32) (ix2 r k) = Rows.tokP (m ((c : Thread nD τ).loc main_arg1)) (⟨512 * t.val + r.val, by have := t.isLt; have := N32; omega⟩ : Fin 16384) k := by
  unfold iblk
  rw [View.read_apply]
  refine Eq.trans (b := V m c main_v1 (ix2 (⟨512 * t.val + r.val, by have := t.isLt; have := N32; omega⟩ : Fin 16384) k)) ?_ (by rw [V1]; exact Rows.flatP_apply _ _ _ _)
  show V m c main_v1 _ = V m c main_v1 _
  congr 1
  funext a
  apply Fin.ext
  match a with
  | ⟨0, _⟩ => show win0_1.index t 0 * 512 + 1 * r.val = 512 * t.val + r.val; rw [(idx t).2.1.1]; omega
  | ⟨1, _⟩ => show win0_1.index t 1 * 256 + 1 * k.val = k.val; rw [(idx t).2.1.2]; omega

theorem iblk2 (c : Dev nD) (t : Fin cfg0.N) (r : Fin 1) (k : Fin 1024) :
    (iblk m c 2 t : Vec Ideal S1x1024 .f32) (ix2 r k) = m ((c : Thread nD τ).loc main_arg2) (ix1 k) := by
  unfold iblk
  rw [View.read_apply]
  refine Eq.trans (b := V m c main_v2 (ix2 r k)) ?_ (by rw [V2]; pointwise)
  show V m c main_v2 _ = V m c main_v2 _
  congr 1
  funext a
  apply Fin.ext
  match a with
  | ⟨0, _⟩ => show win0_2.index t 0 * 1 + 1 * r.val = r.val; rw [(idx t).2.2.1.1]; omega
  | ⟨1, _⟩ => show win0_2.index t 1 * 1024 + 1 * k.val = k.val; rw [(idx t).2.2.1.2]; omega

theorem iblk3 (c : Dev nD) (t : Fin cfg0.N) (r : Fin 1024) (k : Fin 2816) :
    (iblk m c 3 t : Vec Ideal S1024x2816 .bf16) (ix2 r k) = m ((c : Thread nD τ).loc main_arg3) (ix2 r k) := by
  unfold iblk
  rw [View.read_apply]
  refine Eq.trans (b := V m c main_v3 (ix2 r k)) ?_ (by rw [V3])
  show V m c main_v3 _ = V m c main_v3 _
  congr 1
  funext a
  apply Fin.ext
  match a with
  | ⟨0, _⟩ => show win0_3.index t 0 * 1024 + 1 * r.val = r.val; rw [(idx t).2.2.2.1.1]; omega
  | ⟨1, _⟩ => show win0_3.index t 1 * 2816 + 1 * k.val = k.val; rw [(idx t).2.2.2.1.2]; omega

theorem iblk4 (c : Dev nD) (t : Fin cfg0.N) (r : Fin 1024) (k : Fin 2816) :
    (iblk m c 4 t : Vec Ideal S1024x2816 .bf16) (ix2 r k) = m ((c : Thread nD τ).loc main_arg4) (ix2 r k) := by
  unfold iblk
  rw [View.read_apply]
  refine Eq.trans (b := V m c main_v4 (ix2 r k)) ?_ (by rw [V4])
  show V m c main_v4 _ = V m c main_v4 _
  congr 1
  funext a
  apply Fin.ext
  match a with
  | ⟨0, _⟩ => show win0_4.index t 0 * 1024 + 1 * r.val = r.val; rw [(idx t).2.2.2.2.1.1]; omega
  | ⟨1, _⟩ => show win0_4.index t 1 * 2816 + 1 * k.val = k.val; rw [(idx t).2.2.2.2.1.2]; omega

theorem iblk5 (c : Dev nD) (t : Fin cfg0.N) (r : Fin 2816) (k : Fin 1024) :
    (iblk m c 5 t : Vec Ideal S2816x1024 .bf16) (ix2 r k) = m ((c : Thread nD τ).loc main_arg5) (ix2 r k) := by
  unfold iblk
  rw [View.read_apply]
  refine Eq.trans (b := V m c main_v5 (ix2 r k)) ?_ (by rw [V5])
  show V m c main_v5 _ = V m c main_v5 _
  congr 1
  funext a
  apply Fin.ext
  match a with
  | ⟨0, _⟩ => show win0_5.index t 0 * 2816 + 1 * r.val = r.val; rw [(idx t).2.2.2.2.2.1.1]; omega
  | ⟨1, _⟩ => show win0_5.index t 1 * 1024 + 1 * k.val = k.val; rw [(idx t).2.2.2.2.2.1.2]; omega

theorem iblk6 (c : Dev nD) (t : Fin cfg0.N) (r : Fin 1) (k : Fin 1024) :
    (iblk m c 6 t : Vec Ideal S1x1024 .f32) (ix2 r k) = m ((c : Thread nD τ).loc main_arg6) (ix1 k) := by
  unfold iblk
  rw [View.read_apply]
  refine Eq.trans (b := V m c main_v6 (ix2 r k)) ?_ (by rw [V6]; pointwise)
  show V m c main_v6 _ = V m c main_v6 _
  congr 1
  funext a
  apply Fin.ext
  match a with
  | ⟨0, _⟩ => show win0_6.index t 0 * 1 + 1 * r.val = r.val; rw [(idx t).2.2.2.2.2.2.1.1]; omega
  | ⟨1, _⟩ => show win0_6.index t 1 * 1024 + 1 * k.val = k.val; rw [(idx t).2.2.2.2.2.2.1.2]; omega

theorem iblk7 (c : Dev nD) (t : Fin cfg0.N) (r : Fin 1024) (k : Fin 1024) :
    (iblk m c 7 t : Vec Ideal S1024x1024 .bf16) (ix2 r k) = m ((c : Thread nD τ).loc main_arg7) (ix2 r k) := by
  unfold iblk
  rw [View.read_apply]
  refine Eq.trans (b := V m c main_v7 (ix2 r k)) ?_ (by rw [V7])
  show V m c main_v7 _ = V m c main_v7 _
  congr 1
  funext a
  apply Fin.ext
  match a with
  | ⟨0, _⟩ => show win0_7.index t 0 * 1024 + 1 * r.val = r.val; rw [(idx t).2.2.2.2.2.2.2.1.1]; omega
  | ⟨1, _⟩ => show win0_7.index t 1 * 1024 + 1 * k.val = k.val; rw [(idx t).2.2.2.2.2.2.2.1.2]; omega

theorem iblk8 (c : Dev nD) (t : Fin cfg0.N) (r : Fin 256) (k : Fin 1024) :
    (iblk m c 8 t : Vec Ideal S256x1024 .bf16) (ix2 r k) = m ((c : Thread nD τ).loc main_arg8) (ix2 r k) := by
  unfold iblk
  rw [View.read_apply]
  refine Eq.trans (b := V m c main_v8 (ix2 r k)) ?_ (by rw [V8])
  show V m c main_v8 _ = V m c main_v8 _
  congr 1
  funext a
  apply Fin.ext
  match a with
  | ⟨0, _⟩ => show win0_8.index t 0 * 256 + 1 * r.val = r.val; rw [(idx t).2.2.2.2.2.2.2.2.1.1]; omega
  | ⟨1, _⟩ => show win0_8.index t 1 * 1024 + 1 * k.val = k.val; rw [(idx t).2.2.2.2.2.2.2.2.1.2]; omega

theorem iblk9 (c : Dev nD) (t : Fin cfg0.N) (r : Fin 1) (k : Fin 1024) :
    (iblk m c 9 t : Vec Ideal S1x1024 .f32) (ix2 r k) = m ((c : Thread nD τ).loc main_arg9) (ix1 k) := by
  unfold iblk
  rw [View.read_apply]
  refine Eq.trans (b := V m c main_v9 (ix2 r k)) ?_ (by rw [V9]; pointwise)
  show V m c main_v9 _ = V m c main_v9 _
  congr 1
  funext a
  apply Fin.ext
  match a with
  | ⟨0, _⟩ => show win0_9.index t 0 * 1 + 1 * r.val = r.val; rw [(idx t).2.2.2.2.2.2.2.2.2.1.1]; omega
  | ⟨1, _⟩ => show win0_9.index t 1 * 1024 + 1 * k.val = k.val; rw [(idx t).2.2.2.2.2.2.2.2.2.1.2]; omega

/-- The layer's result of device `c`'s arguments. -/
abbrev G (c : Dev nD) : Buf (Elt Ideal) ((c : Thread nD τ).loc main_v10) :=
  Rows.pleArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What point `t` writes back is its 512 rows of the layer's result. -/
theorem flushed_eq (c : Dev nD) (t : Fin cfg0.N) :
    (dats m 0 c).flushed 10 t = ((cfg0.win 10).blk t).view.read (Elt Ideal) (G m c) := by
  rw [Value.flushed10]
  unfold out0_10
  rw [View.canon_unit_zero hz]
  repeat rw [View.ld_unit_zero hz]
  funext j
  rw [View.read_apply]
  obtain ⟨r, k, rfl⟩ : ∃ (r : Fin 512) (k : Fin 1024), j = ix2 r k := ⟨j 0, j 1, ValueIdx.eq_ix2 (n0 := 512) (n1 := 1024) j⟩
  have e : ((cfg0.win 10).blk t).view.emb (ix2 r k) = (ix2 (⟨512 * t.val + r.val, by have := t.isLt; have := N32; omega⟩ : Fin 16384) k) := by
    funext a
    apply Fin.ext
    match a with
    | ⟨0, _⟩ => show win0_10.index t 0 * 512 + 1 * r.val = 512 * t.val + r.val; rw [(idx t).2.2.2.2.2.2.2.2.2.2.1]; omega
    | ⟨1, _⟩ => show win0_10.index t 1 * 1024 + 1 * k.val = k.val; rw [(idx t).2.2.2.2.2.2.2.2.2.2.2]; omega
  rw [e]
  refine (pay1_apply _ _ _ _ _ _ r k (pay4_apply _ _ _ _ _ r)).trans ?_
  simp only [pay2_apply, iblk0, iblk1, iblk2, iblk3, iblk4, iblk5, iblk7, iblk8]
  have e6 : (fun k => k0_pay3 (F := Ideal) (iblk m c 6 t) (ix2 0 k)) = fun k => m ((c : Thread nD τ).loc main_arg6) (ix1 k) := by
    funext k
    refine Eq.trans ?_ (iblk6 m c t 0 k)
    pointwise [k0_pay3]
  rw [e6]
  rfl

/-- Every element of the result lies in the block of its 512 rows. -/
theorem cover (i : S16384x1024.Idx) : ∃ t : Fin cfg0.N, (cfg0.win 10).flush t = true ∧ i ∈ ((cfg0.win 10).blk t).view.set := by
  have h0 : (i 0 : Nat) < 16384 := (i 0).isLt
  have h1 : (i 1 : Nat) < 1024 := (i 1).isLt
  let t : Fin cfg0.N := ⟨(i 0 : Nat) / 512, by rw [N32]; omega⟩
  have ht : t.val = (i 0 : Nat) / 512 := rfl
  refine ⟨t, flush0_10 t, ?_⟩
  show i ∈ ((View.whole main_v10).slice (win0_10.rect t)).set
  rw [View.set_slice_whole, Rect.mem_set_unit]
  have e0 : win0_10.index t 0 = t.val := (idx t).2.2.2.2.2.2.2.2.2.2.1
  have e1 : win0_10.index t 1 = 0 := (idx t).2.2.2.2.2.2.2.2.2.2.2
  intro a
  match a with
  | ⟨0, _⟩ => show win0_10.index t 0 * 512 ≤ (i 0 : Nat) ∧ (i 0 : Nat) < win0_10.index t 0 * 512 + 512
              rw [e0, ht]; omega
  | ⟨1, _⟩ => show win0_10.index t 1 * 1024 ≤ (i 1 : Nat) ∧ (i 1 : Nat) < win0_10.index t 1 * 1024 + 1024
              rw [e1]; omega

/-- After the run the result array is the layer of the arguments. -/
theorem final (c : Dev nD) : (dats m 0 c).arrAt 10 cfg0.N = G m c :=
  (dats m 0 c).arrAt_eq_of_cover 10 (G m c) (fun t _ => flushed_eq m c t) cover

/-- The kernel's run: its result is the layer of its arguments, which it leaves unchanged. -/
theorem run : θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final m c), (h c).2⟩) (Value.run_blocks m ρ)

end Cert.PleIdeal.Row

end
-- ==== Proof.PleRef.lean ====
module

public import proofs.«01_k».proof.Proof.Rows
public import proofs.«01_k».proof.Proof.Gen.PleRefIdeal.Run

@[expose] public section

set_option maxRecDepth 16384

noncomputable section

namespace Cert.PleRefIdeal.Row

open Cert.PleRefIdeal Cert.PleRefIdeal.Gen Idealize.ShloMosaic Idealize.ShloMosaic.TcCoe Idealize.SL.Sem

variable (m : (ℓ : Loc nD τ sig) → Buf (Elt Ideal) ℓ) (ρ : Dev nD → PrngReg)

/-- The layer's result of device `c`'s arguments. -/
abbrev G (c : Dev nD) : Buf (Elt Ideal) ((c : Thread nD τ).loc main_v44) :=
  Rows.pleArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The reference's composed term, read at an index, is the layer of the arguments. -/
theorem res_eq (c : Dev nD) : Value.res_main_v44 m c = G m c := by
  unfold Value.res_main_v44 G
  generalize m ((c : Thread nD τ).loc main_arg0) = X
  generalize m ((c : Thread nD τ).loc main_arg1) = P
  generalize m ((c : Thread nD τ).loc main_arg2) = g
  generalize m ((c : Thread nD τ).loc main_arg3) = wg
  generalize m ((c : Thread nD τ).loc main_arg4) = wu
  generalize m ((c : Thread nD τ).loc main_arg5) = wd
  generalize m ((c : Thread nD τ).loc main_arg6) = pn
  generalize m ((c : Thread nD τ).loc main_arg7) = pg
  generalize m ((c : Thread nD τ).loc main_arg8) = pp
  funext i
  obtain ⟨n, k, rfl⟩ : ∃ (n : Fin 16384) (k : Fin 1024), i = ix2 n k := ⟨i 0, i 1, ValueIdx.eq_ix2 (n0 := 16384) (n1 := 1024) i⟩
  refine (Rows.flat_apply _ _ n k).trans ?_
  rw [show Rows.pleArr X P g wg wu wd pn pg pp (ix2 n k) = Rows.ple (Rows.ffn (Rows.tok X n) (fun k => g (ix1 k)) (fun k l => wg (ix2 k l)) (fun k l => wu (ix2 k l)) (fun k l => wd (ix2 k l)))
      (Rows.tokP P n) (fun k => pn (ix1 k)) (fun k l => pg (ix2 k l)) (fun k l => pp (ix2 k l)) k from rfl]
  unfold Rows.tok Rows.tokP
  generalize (⟨n.val / 8192, by omega⟩ : Fin 2) = b
  generalize (⟨n.val % 8192, by omega⟩ : Fin 8192) = s
  pointwise [Rows.ffn, Rows.ple, Rows.rms, Rows.vm, Rows.silu, Ideal.logistic]

/-- The reference's run: its result is the layer of its arguments, which it leaves unchanged. -/
theorem run : θ_run defs (onTc (τ := τ) (main (F := Ideal))) ⟨m, fun _ => 0, ρ⟩ fun r => ∀ c : Dev nD,
      r.2.mem ((c : Thread nD τ).loc main_v44) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (res_eq m c), (h c).2⟩) (Value.run m ρ)

end Cert.PleRefIdeal.Row

end
-- ==== Proof.PleClaim.lean ====
module

public import proofs.«01_k».proof.Defs
public import proofs.«01_k».proof.Proof.PlePay
public import proofs.«01_k».proof.Proof.PleRef
public import proofs.«01_k».proof.Proof.Gen.Ple.Frame
public import Idealize.ShloMosaic.Lib.Quiescent

@[expose] public section

set_option maxRecDepth 16384

noncomputable section

namespace Cert.PleClaim

open Idealize.ShloMosaic Idealize.ShloMosaic.TcCoe Idealize.SL.Sem

/-- The kernel runs, leaves its arguments unchanged and its counters at zero. -/
theorem frame : Cert.quiescent_Ple := fun m ρ _ => Cert.Ple.Gen.frame m ρ

/-- The same of its idealization. -/
theorem frameIdeal : Cert.quiescent_PleIdeal := fun m ρ _ => Cert.PleIdeal.Gen.frame m ρ

/-- The same of the reference. -/
theorem frameRef : Cert.quiescent_PleRefIdeal := fun m ρ _ =>
  (θ_run Cert.PleRefIdeal.defs _ _).mono (fun r h => ⟨fun c => (h c).2, Idealize.ShloMosaic.sem_eq_zero_of_no_sems (by decide) r.2⟩)
    (Cert.PleRefIdeal.Row.run m ρ)

/-- Over the extended reals the kernel and the reference end with the same result on the same arguments. -/
theorem algebraic : Cert.algebraic_PleIdeal_PleRefIdeal := fun m ρ m' ρ' _ hag =>
  ⟨fun c => Cert.PleIdeal.Row.G m c, Cert.PleIdeal.Row.run m ρ,
    (θ_run _ _ _).mono (fun _ h c => ⟨(h c).1.trans (by
      unfold Cert.PleRefIdeal.Row.G Cert.PleIdeal.Row.G
      obtain ⟨h0, h1, h2, h3, h4, h5, h6, h7, h8, h9⟩ := hag c
      rw [h0, h1, h2, h3, h4, h5, h6, h7, h8]), (h c).2⟩) (Cert.PleRefIdeal.Row.run m' ρ')⟩

end Cert.PleClaim

end
-- ==== Proof.LastPay.lean ====
module

public import proofs.«01_k».proof.Proof.Rows
public import proofs.«01_k».proof.Proof.Gen.LastIdeal.Value

@[expose] public section

set_option maxRecDepth 16384

noncomputable section

namespace Cert.LastIdeal.Row

open Cert.LastIdeal Cert.LastIdeal.Gen Idealize.ShloMosaic Idealize.ShloMosaic.TcCoe Idealize.SL.Sem
open Idealize.ShloMosaic.Pipeline (Dat)

/-- Row `r` of the feed-forward part of the body. -/
theorem pay2_apply (x : Vec Ideal S512x1024 .f32) (g : Vec Ideal S1x1024 .f32) (wg wu : Vec Ideal S1024x2816 .bf16)
    (wd : Vec Ideal S2816x1024 .bf16) (r : Fin 512) (j : Fin 1024) :
    k0_pay2 (F := Ideal) x g wg wu wd (ix2 r j)
      = Rows.ffn (fun k => x (ix2 r k)) (fun k => g (ix2 0 k)) (fun k l => wg (ix2 k l)) (fun k l => wu (ix2 k l)) (fun k l => wd (ix2 k l)) j := by
  pointwise [k0_pay2, Rows.ffn, Rows.rms, Rows.vm, Rows.silu]

/-- The sum of squares of row `r` of the feed-forward part. -/
theorem pay4_apply (x : Vec Ideal S512x1024 .f32) (g : Vec Ideal S1x1024 .f32) (wg wu : Vec Ideal S1024x2816 .bf16)
    (wd : Vec Ideal S2816x1024 .bf16) (r : Fin 512) :
    k0_pay4 (F := Ideal) x g wg wu wd (ix2 r 0)
      = ∑ k, k0_pay2 (F := Ideal) x g wg wu wd (ix2 r k) * k0_pay2 (F := Ideal) x g wg wu wd (ix2 r k) := by
  pointwise [k0_pay4]

/-- Row `r` of the rest of the body, over the feed-forward part `v32` and its sums of squares `v37`. -/
theorem pay1_apply (v32 : FVec Ideal S512x1024 .f32) (v34 : FVec Ideal S1x1024 .f32) (v37 : FVec Ideal S512x1 .f32)
    (v48 : Vec Ideal S1024x1024 .bf16) (v52 : Vec Ideal S512x256 .f32) (v55 : Vec Ideal S256x1024 .bf16) (v60 : Vec Ideal S1x1024 .f32) (r : Fin 512) (j : Fin 1024)
    (h : v37 (ix2 r 0) = ∑ l, v32 (ix2 r l) * v32 (ix2 r l)) :
    k0_pay1 (F := Ideal) v32 v34 v37 v48 v52 v55 v60 (ix2 r j)
      = Rows.rms (Rows.ple (fun k => v32 (ix2 r k)) (fun k => v52 (ix2 r k)) (fun k => v34 (ix2 0 k)) (fun k l => v48 (ix2 k l))
        (fun k l => v55 (ix2 k l))) (fun k => v60 (ix2 0 k)) j := by
  pointwise [k0_pay1, Rows.ple, Rows.rms, Rows.vm, h]

variable (m : (ℓ : Loc nD τ sig) → Buf (Elt Ideal) ℓ) (ρ : Dev nD → PrngReg)

theorem hz : (![0, 0] : Fin 2 → Nat) = fun _ => 0 := funext fun a => by fin_cases a <;> rfl

theorem V0 (c : Dev nD) : V m c main_v0 = shapeCast S16384x1024 (m ((c : Thread nD τ).loc main_arg0)) shapeCasts_S2x8192x1024_S16384x1024 := by
  unfold V hostOps0; after_results; rfl
theorem V1 (c : Dev nD) : V m c main_v1 = shapeCast S16384x256 (m ((c : Thread nD τ).loc main_arg1)) shapeCasts_S2x8192x256_S16384x256 := by
  unfold V hostOps0; after_results; rfl
theorem V2 (c : Dev nD) : V m c main_v2 = shapeCast S1x1024 (m ((c : Thread nD τ).loc main_arg2)) shapeCasts_S1024_S1x1024 := by
  unfold V hostOps0; after_results; rfl
theorem V3 (c : Dev nD) : V m c main_v3 = m ((c : Thread nD τ).loc main_arg3) := by
  unfold V hostOps0; after_results; rfl
theorem V4 (c : Dev nD) : V m c main_v4 = m ((c : Thread nD τ).loc main_arg4) := by
  unfold V hostOps0; after_results; rfl
theorem V5 (c : Dev nD) : V m c main_v5 = m ((c : Thread nD τ).loc main_arg5) := by
  unfold V hostOps0; after_results; rfl
theorem V6 (c : Dev nD) : V m c main_v6 = shapeCast S1x1024 (m ((c : Thread nD τ).loc main_arg6)) shapeCasts_S1024_S1x1024 := by
  unfold V hostOps0; after_results; rfl
theorem V7 (c : Dev nD) : V m c main_v7 = m ((c : Thread nD τ).loc main_arg7) := by
  unfold V hostOps0; after_results; rfl
theorem V8 (c : Dev nD) : V m c main_v8 = m ((c : Thread nD τ).loc main_arg8) := by
  unfold V hostOps0; after_results; rfl
theorem V9 (c : Dev nD) : V m c main_v9 = shapeCast S1x1024 (m ((c : Thread nD τ).loc main_arg9)) shapeCasts_S1024_S1x1024 := by
  unfold V hostOps0; after_results; rfl

/-- Where the grid's windows stand at point `t`. -/
theorem idx (t : Fin cfg0.N) : (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = t.val ∧ win0_10.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = t.val ∧ win0_10.index t 1 = 0)) t

theorem N32 : cfg0.N = 32 := N_0

theorem iblk0 (c : Dev nD) (t : Fin cfg0.N) (r : Fin 512) (k : Fin 1024) :
    (iblk m c 0 t : Vec Ideal S512x1024 .f32) (ix2 r k) = Rows.tok (m ((c : Thread nD τ).loc main_arg0)) (⟨512 * t.val + r.val, by have := t.isLt; have := N32; omega⟩ : Fin 16384) k := by
  unfold iblk
  rw [View.read_apply]
  refine Eq.trans (b := V m c main_v0 (ix2 (⟨512 * t.val + r.val, by have := t.isLt; have := N32; omega⟩ : Fin 16384) k)) ?_ (by rw [V0]; exact Rows.flat_apply _ _ _ _)
  show V m c main_v0 _ = V m c main_v0 _
  congr 1
  funext a
  apply Fin.ext
  match a with
  | ⟨0, _⟩ => show win0_0.index t 0 * 512 + 1 * r.val = 512 * t.val + r.val; rw [(idx t).1.1]; omega
  | ⟨1, _⟩ => show win0_0.index t 1 * 1024 + 1 * k.val = k.val; rw [(idx t).1.2]; omega

theorem iblk1 (c : Dev nD) (t : Fin cfg0.N) (r : Fin 512) (k : Fin 256) :
    (iblk m c 1 t : Vec Ideal S512x256 .f32) (ix2 r k) = Rows.tokP (m ((c : Thread nD τ).loc main_arg1)) (⟨512 * t.val + r.val, by have := t.isLt; have := N32; omega⟩ : Fin 16384) k := by
  unfold iblk
  rw [View.read_apply]
  refine Eq.trans (b := V m c main_v1 (ix2 (⟨512 * t.val + r.val, by have := t.isLt; have := N32; omega⟩ : Fin 16384) k)) ?_ (by rw [V1]; exact Rows.flatP_apply _ _ _ _)
  show V m c main_v1 _ = V m c main_v1 _
  congr 1
  funext a
  apply Fin.ext
  match a with
  | ⟨0, _⟩ => show win0_1.index t 0 * 512 + 1 * r.val = 512 * t.val + r.val; rw [(idx t).2.1.1]; omega
  | ⟨1, _⟩ => show win0_1.index t 1 * 256 + 1 * k.val = k.val; rw [(idx t).2.1.2]; omega

theorem iblk2 (c : Dev nD) (t : Fin cfg0.N) (r : Fin 1) (k : Fin 1024) :
    (iblk m c 2 t : Vec Ideal S1x1024 .f32) (ix2 r k) = m ((c : Thread nD τ).loc main_arg2) (ix1 k) := by
  unfold iblk
  rw [View.read_apply]
  refine Eq.trans (b := V m c main_v2 (ix2 r k)) ?_ (by rw [V2]; pointwise)
  show V m c main_v2 _ = V m c main_v2 _
  congr 1
  funext a
  apply Fin.ext
  match a with
  | ⟨0, _⟩ => show win0_2.index t 0 * 1 + 1 * r.val = r.val; rw [(idx t).2.2.1.1]; omega
  | ⟨1, _⟩ => show win0_2.index t 1 * 1024 + 1 * k.val = k.val; rw [(idx t).2.2.1.2]; omega

theorem iblk3 (c : Dev nD) (t : Fin cfg0.N) (r : Fin 1024) (k : Fin 2816) :
    (iblk m c 3 t : Vec Ideal S1024x2816 .bf16) (ix2 r k) = m ((c : Thread nD τ).loc main_arg3) (ix2 r k) := by
  unfold iblk
  rw [View.read_apply]
  refine Eq.trans (b := V m c main_v3 (ix2 r k)) ?_ (by rw [V3])
  show V m c main_v3 _ = V m c main_v3 _
  congr 1
  funext a
  apply Fin.ext
  match a with
  | ⟨0, _⟩ => show win0_3.index t 0 * 1024 + 1 * r.val = r.val; rw [(idx t).2.2.2.1.1]; omega
  | ⟨1, _⟩ => show win0_3.index t 1 * 2816 + 1 * k.val = k.val; rw [(idx t).2.2.2.1.2]; omega

theorem iblk4 (c : Dev nD) (t : Fin cfg0.N) (r : Fin 1024) (k : Fin 2816) :
    (iblk m c 4 t : Vec Ideal S1024x2816 .bf16) (ix2 r k) = m ((c : Thread nD τ).loc main_arg4) (ix2 r k) := by
  unfold iblk
  rw [View.read_apply]
  refine Eq.trans (b := V m c main_v4 (ix2 r k)) ?_ (by rw [V4])
  show V m c main_v4 _ = V m c main_v4 _
  congr 1
  funext a
  apply Fin.ext
  match a with
  | ⟨0, _⟩ => show win0_4.index t 0 * 1024 + 1 * r.val = r.val; rw [(idx t).2.2.2.2.1.1]; omega
  | ⟨1, _⟩ => show win0_4.index t 1 * 2816 + 1 * k.val = k.val; rw [(idx t).2.2.2.2.1.2]; omega

theorem iblk5 (c : Dev nD) (t : Fin cfg0.N) (r : Fin 2816) (k : Fin 1024) :
    (iblk m c 5 t : Vec Ideal S2816x1024 .bf16) (ix2 r k) = m ((c : Thread nD τ).loc main_arg5) (ix2 r k) := by
  unfold iblk
  rw [View.read_apply]
  refine Eq.trans (b := V m c main_v5 (ix2 r k)) ?_ (by rw [V5])
  show V m c main_v5 _ = V m c main_v5 _
  congr 1
  funext a
  apply Fin.ext
  match a with
  | ⟨0, _⟩ => show win0_5.index t 0 * 2816 + 1 * r.val = r.val; rw [(idx t).2.2.2.2.2.1.1]; omega
  | ⟨1, _⟩ => show win0_5.index t 1 * 1024 + 1 * k.val = k.val; rw [(idx t).2.2.2.2.2.1.2]; omega

theorem iblk6 (c : Dev nD) (t : Fin cfg0.N) (r : Fin 1) (k : Fin 1024) :
    (iblk m c 6 t : Vec Ideal S1x1024 .f32) (ix2 r k) = m ((c : Thread nD τ).loc main_arg6) (ix1 k) := by
  unfold iblk
  rw [View.read_apply]
  refine Eq.trans (b := V m c main_v6 (ix2 r k)) ?_ (by rw [V6]; pointwise)
  show V m c main_v6 _ = V m c main_v6 _
  congr 1
  funext a
  apply Fin.ext
  match a with
  | ⟨0, _⟩ => show win0_6.index t 0 * 1 + 1 * r.val = r.val; rw [(idx t).2.2.2.2.2.2.1.1]; omega
  | ⟨1, _⟩ => show win0_6.index t 1 * 1024 + 1 * k.val = k.val; rw [(idx t).2.2.2.2.2.2.1.2]; omega

theorem iblk7 (c : Dev nD) (t : Fin cfg0.N) (r : Fin 1024) (k : Fin 1024) :
    (iblk m c 7 t : Vec Ideal S1024x1024 .bf16) (ix2 r k) = m ((c : Thread nD τ).loc main_arg7) (ix2 r k) := by
  unfold iblk
  rw [View.read_apply]
  refine Eq.trans (b := V m c main_v7 (ix2 r k)) ?_ (by rw [V7])
  show V m c main_v7 _ = V m c main_v7 _
  congr 1
  funext a
  apply Fin.ext
  match a with
  | ⟨0, _⟩ => show win0_7.index t 0 * 1024 + 1 * r.val = r.val; rw [(idx t).2.2.2.2.2.2.2.1.1]; omega
  | ⟨1, _⟩ => show win0_7.index t 1 * 1024 + 1 * k.val = k.val; rw [(idx t).2.2.2.2.2.2.2.1.2]; omega

theorem iblk8 (c : Dev nD) (t : Fin cfg0.N) (r : Fin 256) (k : Fin 1024) :
    (iblk m c 8 t : Vec Ideal S256x1024 .bf16) (ix2 r k) = m ((c : Thread nD τ).loc main_arg8) (ix2 r k) := by
  unfold iblk
  rw [View.read_apply]
  refine Eq.trans (b := V m c main_v8 (ix2 r k)) ?_ (by rw [V8])
  show V m c main_v8 _ = V m c main_v8 _
  congr 1
  funext a
  apply Fin.ext
  match a with
  | ⟨0, _⟩ => show win0_8.index t 0 * 256 + 1 * r.val = r.val; rw [(idx t).2.2.2.2.2.2.2.2.1.1]; omega
  | ⟨1, _⟩ => show win0_8.index t 1 * 1024 + 1 * k.val = k.val; rw [(idx t).2.2.2.2.2.2.2.2.1.2]; omega

theorem iblk9 (c : Dev nD) (t : Fin cfg0.N) (r : Fin 1) (k : Fin 1024) :
    (iblk m c 9 t : Vec Ideal S1x1024 .f32) (ix2 r k) = m ((c : Thread nD τ).loc main_arg9) (ix1 k) := by
  unfold iblk
  rw [View.read_apply]
  refine Eq.trans (b := V m c main_v9 (ix2 r k)) ?_ (by rw [V9]; pointwise)
  show V m c main_v9 _ = V m c main_v9 _
  congr 1
  funext a
  apply Fin.ext
  match a with
  | ⟨0, _⟩ => show win0_9.index t 0 * 1 + 1 * r.val = r.val; rw [(idx t).2.2.2.2.2.2.2.2.2.1.1]; omega
  | ⟨1, _⟩ => show win0_9.index t 1 * 1024 + 1 * k.val = k.val; rw [(idx t).2.2.2.2.2.2.2.2.2.1.2]; omega

/-- The layer's result of device `c`'s arguments. -/
abbrev G (c : Dev nD) : Buf (Elt Ideal) ((c : Thread nD τ).loc main_v10) :=
  Rows.lastArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What point `t` writes back is its 512 rows of the layer's result. -/
theorem flushed_eq (c : Dev nD) (t : Fin cfg0.N) :
    (dats m 0 c).flushed 10 t = ((cfg0.win 10).blk t).view.read (Elt Ideal) (G m c) := by
  rw [Value.flushed10]
  unfold out0_10
  rw [View.canon_unit_zero hz]
  repeat rw [View.ld_unit_zero hz]
  funext j
  rw [View.read_apply]
  obtain ⟨r, k, rfl⟩ : ∃ (r : Fin 512) (k : Fin 1024), j = ix2 r k := ⟨j 0, j 1, ValueIdx.eq_ix2 (n0 := 512) (n1 := 1024) j⟩
  have e : ((cfg0.win 10).blk t).view.emb (ix2 r k) = (ix2 (⟨512 * t.val + r.val, by have := t.isLt; have := N32; omega⟩ : Fin 16384) k) := by
    funext a
    apply Fin.ext
    match a with
    | ⟨0, _⟩ => show win0_10.index t 0 * 512 + 1 * r.val = 512 * t.val + r.val; rw [(idx t).2.2.2.2.2.2.2.2.2.2.1]; omega
    | ⟨1, _⟩ => show win0_10.index t 1 * 1024 + 1 * k.val = k.val; rw [(idx t).2.2.2.2.2.2.2.2.2.2.2]; omega
  rw [e]
  refine (pay1_apply _ _ _ _ _ _ _ r k (pay4_apply _ _ _ _ _ r)).trans ?_
  simp only [pay2_apply, iblk0, iblk1, iblk2, iblk3, iblk4, iblk5, iblk7, iblk8, iblk9]
  have e6 : (fun k => k0_pay3 (F := Ideal) (iblk m c 6 t) (ix2 0 k)) = fun k => m ((c : Thread nD τ).loc main_arg6) (ix1 k) := by
    funext k
    refine Eq.trans ?_ (iblk6 m c t 0 k)
    pointwise [k0_pay3]
  rw [e6]
  rfl

/-- Every element of the result lies in the block of its 512 rows. -/
theorem cover (i : S16384x1024.Idx) : ∃ t : Fin cfg0.N, (cfg0.win 10).flush t = true ∧ i ∈ ((cfg0.win 10).blk t).view.set := by
  have h0 : (i 0 : Nat) < 16384 := (i 0).isLt
  have h1 : (i 1 : Nat) < 1024 := (i 1).isLt
  let t : Fin cfg0.N := ⟨(i 0 : Nat) / 512, by rw [N32]; omega⟩
  have ht : t.val = (i 0 : Nat) / 512 := rfl
  refine ⟨t, flush0_10 t, ?_⟩
  show i ∈ ((View.whole main_v10).slice (win0_10.rect t)).set
  rw [View.set_slice_whole, Rect.mem_set_unit]
  have e0 : win0_10.index t 0 = t.val := (idx t).2.2.2.2.2.2.2.2.2.2.1
  have e1 : win0_10.index t 1 = 0 := (idx t).2.2.2.2.2.2.2.2.2.2.2
  intro a
  match a with
  | ⟨0, _⟩ => show win0_10.index t 0 * 512 ≤ (i 0 : Nat) ∧ (i 0 : Nat) < win0_10.index t 0 * 512 + 512
              rw [e0, ht]; omega
  | ⟨1, _⟩ => show win0_10.index t 1 * 1024 ≤ (i 1 : Nat) ∧ (i 1 : Nat) < win0_10.index t 1 * 1024 + 1024
              rw [e1]; omega

/-- After the run the result array is the layer of the arguments. -/
theorem final (c : Dev nD) : (dats m 0 c).arrAt 10 cfg0.N = G m c :=
  (dats m 0 c).arrAt_eq_of_cover 10 (G m c) (fun t _ => flushed_eq m c t) cover

/-- The kernel's run: its result is the layer of its arguments, which it leaves unchanged. -/
theorem run : θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final m c), (h c).2⟩) (Value.run_blocks m ρ)

end Cert.LastIdeal.Row

end
-- ==== Proof.LastRef.lean ====
module

public import proofs.«01_k».proof.Proof.Rows
public import proofs.«01_k».proof.Proof.Gen.LastRefIdeal.Run

@[expose] public section

set_option maxRecDepth 16384

noncomputable section

namespace Cert.LastRefIdeal.Row

open Cert.LastRefIdeal Cert.LastRefIdeal.Gen Idealize.ShloMosaic Idealize.ShloMosaic.TcCoe Idealize.SL.Sem

variable (m : (ℓ : Loc nD τ sig) → Buf (Elt Ideal) ℓ) (ρ : Dev nD → PrngReg)

/-- The layer's result of device `c`'s arguments. -/
abbrev G (c : Dev nD) : Buf (Elt Ideal) ((c : Thread nD τ).loc main_v57) :=
  Rows.lastArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The reference's composed term, read at an index, is the layer of the arguments. -/
theorem res_eq (c : Dev nD) : Value.res_main_v57 m c = G m c := by
  unfold Value.res_main_v57 G
  generalize m ((c : Thread nD τ).loc main_arg0) = X
  generalize m ((c : Thread nD τ).loc main_arg1) = P
  generalize m ((c : Thread nD τ).loc main_arg2) = g
  generalize m ((c : Thread nD τ).loc main_arg3) = wg
  generalize m ((c : Thread nD τ).loc main_arg4) = wu
  generalize m ((c : Thread nD τ).loc main_arg5) = wd
  generalize m ((c : Thread nD τ).loc main_arg6) = pn
  generalize m ((c : Thread nD τ).loc main_arg7) = pg
  generalize m ((c : Thread nD τ).loc main_arg8) = pp
  generalize m ((c : Thread nD τ).loc main_arg9) = fn
  funext i
  obtain ⟨n, k, rfl⟩ : ∃ (n : Fin 16384) (k : Fin 1024), i = ix2 n k := ⟨i 0, i 1, ValueIdx.eq_ix2 (n0 := 16384) (n1 := 1024) i⟩
  refine (Rows.flat_apply _ _ n k).trans ?_
  rw [show Rows.lastArr X P g wg wu wd pn pg pp fn (ix2 n k) = Rows.rms (Rows.ple (Rows.ffn (Rows.tok X n) (fun k => g (ix1 k)) (fun k l => wg (ix2 k l)) (fun k l => wu (ix2 k l)) (fun k l => wd (ix2 k l)))
      (Rows.tokP P n) (fun k => pn (ix1 k)) (fun k l => pg (ix2 k l)) (fun k l => pp (ix2 k l))) (fun k => fn (ix1 k)) k from rfl]
  unfold Rows.tok Rows.tokP
  generalize (⟨n.val / 8192, by omega⟩ : Fin 2) = b
  generalize (⟨n.val % 8192, by omega⟩ : Fin 8192) = s
  pointwise [Rows.ffn, Rows.ple, Rows.rms, Rows.vm, Rows.silu, Ideal.logistic]

/-- The reference's run: its result is the layer of its arguments, which it leaves unchanged. -/
theorem run : θ_run defs (onTc (τ := τ) (main (F := Ideal))) ⟨m, fun _ => 0, ρ⟩ fun r => ∀ c : Dev nD,
      r.2.mem ((c : Thread nD τ).loc main_v57) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (res_eq m c), (h c).2⟩) (Value.run m ρ)

end Cert.LastRefIdeal.Row

end
-- ==== Proof.LastClaim.lean ====
module

public import proofs.«01_k».proof.Defs
public import proofs.«01_k».proof.Proof.LastPay
public import proofs.«01_k».proof.Proof.LastRef
public import proofs.«01_k».proof.Proof.Gen.Last.Frame
public import Idealize.ShloMosaic.Lib.Quiescent

@[expose] public section

set_option maxRecDepth 16384

noncomputable section

namespace Cert.LastClaim

open Idealize.ShloMosaic Idealize.ShloMosaic.TcCoe Idealize.SL.Sem

/-- The kernel runs, leaves its arguments unchanged and its counters at zero. -/
theorem frame : Cert.quiescent_Last := fun m ρ _ => Cert.Last.Gen.frame m ρ

/-- The same of its idealization. -/
theorem frameIdeal : Cert.quiescent_LastIdeal := fun m ρ _ => Cert.LastIdeal.Gen.frame m ρ

/-- The same of the reference. -/
theorem frameRef : Cert.quiescent_LastRefIdeal := fun m ρ _ =>
  (θ_run Cert.LastRefIdeal.defs _ _).mono (fun r h => ⟨fun c => (h c).2, Idealize.ShloMosaic.sem_eq_zero_of_no_sems (by decide) r.2⟩)
    (Cert.LastRefIdeal.Row.run m ρ)

/-- Over the extended reals the kernel and the reference end with the same result on the same arguments. -/
theorem algebraic : Cert.algebraic_LastIdeal_LastRefIdeal := fun m ρ m' ρ' _ hag =>
  ⟨fun c => Cert.LastIdeal.Row.G m c, Cert.LastIdeal.Row.run m ρ,
    (θ_run _ _ _).mono (fun _ h c => ⟨(h c).1.trans (by
      unfold Cert.LastRefIdeal.Row.G Cert.LastIdeal.Row.G
      obtain ⟨h0, h1, h2, h3, h4, h5, h6, h7, h8, h9⟩ := hag c
      rw [h0, h1, h2, h3, h4, h5, h6, h7, h8, h9]), (h c).2⟩) (Cert.LastRefIdeal.Row.run m' ρ')⟩

end Cert.LastClaim

end
-- ==== Proof.lean ====
/-
  Five calls of the version — the recurrent mixer (`Lru`), the pooling mixer (`Pool`), the first feed-forward layer (`Ffn`), the second with the gated embedding (`Ple`) and the
  last layer's, with the final normalisation (`Last`) — each against the layer's mathematics as the reference writes it.
-/
module

public import proofs.«01_k».proof.Defs
public import proofs.«01_k».proof.Proof.LruClaim
public import proofs.«01_k».proof.Proof.PoolClaim
public import proofs.«01_k».proof.Proof.FfnClaim
public import proofs.«01_k».proof.Proof.PleClaim
public import proofs.«01_k».proof.Proof.LastClaim
public import proofs.«01_k».proof.Proof.Gen.PoolIdeal.Value
public import proofs.«01_k».proof.Proof.Gen.FfnIdeal.Value
public import proofs.«01_k».proof.Proof.Gen.PleIdeal.Value
public import proofs.«01_k».proof.Proof.Gen.LastIdeal.Value
public import proofs.«01_k».proof.Proof.Gen.LruRefIdeal.Run
public import proofs.«01_k».proof.Proof.Gen.PoolRefIdeal.Run
public import proofs.«01_k».proof.Proof.Gen.FfnRefIdeal.Run
public import proofs.«01_k».proof.Proof.Gen.PleRefIdeal.Run
public import proofs.«01_k».proof.Proof.Gen.LastRefIdeal.Run
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Lru.Gen.facts, Cert.LruIdeal.Gen.facts, Cert.LruRefIdeal.Gen.facts,
  Cert.Pool.Gen.facts, Cert.PoolIdeal.Gen.facts, Cert.PoolRefIdeal.Gen.facts,
  Cert.Ffn.Gen.facts, Cert.FfnIdeal.Gen.facts, Cert.FfnRefIdeal.Gen.facts,
  Cert.Ple.Gen.facts, Cert.PleIdeal.Gen.facts, Cert.PleRefIdeal.Gen.facts,
  Cert.Last.Gen.facts, Cert.LastIdeal.Gen.facts, Cert.LastRefIdeal.Gen.facts, PoolClaim.preFacts,
  LruClaim.frame, LruClaim.frameIdeal, LruClaim.frameRef,
  PoolClaim.frame, PoolClaim.frameIdeal, PoolClaim.frameIdealPre, PoolClaim.frameRef, PoolClaim.frameRefPre,
  FfnClaim.frame, FfnClaim.frameIdeal, FfnClaim.frameRef, PleClaim.frame, PleClaim.frameIdeal, PleClaim.frameRef,
  LastClaim.frame, LastClaim.frameIdeal, LastClaim.frameRef,
  trivial, LruClaim.algebraic, trivial, PoolClaim.algebraic, trivial, FfnClaim.algebraic, trivial, PleClaim.algebraic, trivial, LastClaim.algebraic⟩

end Cert.Proof

end
